-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_on_used [hKernel5Ideal : Cert.Kernel5Ideal.Facts] [hReference5Ideal : Cert.Reference5Ideal.Facts] [hPre_routed : Cert.Pre_routed.Facts] [hOn_used : Cert.On_used.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![589824, 8, 128]⟩ : Shape).Idx, (Cert.On_used.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Kernel5Ideal.nD Cert.Kernel5Ideal.τ).loc Cert.Kernel5Ideal.main_v12) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![589824, 8, 128]⟩ : Shape).Idx, (Cert.On_used.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Reference5Ideal.nD Cert.Reference5Ideal.τ).loc Cert.Reference5Ideal.main_v27) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hOn_used : Cert.On_used.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_used (hKernel5Ideal := hKernel5Ideal) (hReference5Ideal := hReference5Ideal) (hPre_routed := hPre_routed) (hOn_used := hOn_used)
-- ==== On_used.lean ====
abbrev S2304 : Shape := ⟨1, ![2304]⟩
abbrev S1 : Shape := ⟨1, ![1]⟩
abbrev S589824x8x128 : Shape := ⟨3, ![589824, 8, 128]⟩
abbrev S256x1024x256 : Shape := ⟨3, ![256, 1024, 256]⟩
abbrev S256x256x1024 : Shape := ⟨3, ![256, 256, 1024]⟩
abbrev S_ : Shape := ⟨0, ![]⟩

class Facts : Prop where
  bcast_S_S589824x8x128 : S_.BroadcastsInDim S589824x8x128 (![] : Fin 0 → Fin S589824x8x128.rank)
  shapeCasts_S1_S_ : S1.ShapeCasts S_

variable [Facts]

def fn_where {F : FTy → Type} [FloatOps F] (arg0 : IVec S589824x8x128 1) (arg1 : IVec S589824x8x128 32) (arg2 : IVec S589824x8x128 32) : IVec S589824x8x128 32 :=
  let v0 : IVec S589824x8x128 32 := select arg0 arg1 arg2
  v0

def fn_floor_divide {F : FTy → Type} [FloatOps F] (arg0 : IVec S589824x8x128 32) (arg1 : IVec S_ 32) : IVec S589824x8x128 32 :=
  let v0 : IVec S_ 32 := id arg1
  let v1 : IVec S589824x8x128 32 := broadcastInDim S589824x8x128 ![] bcast_S_S589824x8x128 v0
  let v2 : IVec S589824x8x128 32 := Host.divsi arg0 v1
  let v3 : IVec S589824x8x128 32 := signi arg0
  let v4 : IVec S_ 32 := signi v0
  let v5 : IVec S589824x8x128 32 := broadcastInDim S589824x8x128 ![] bcast_S_S589824x8x128 v4
  let v6 : IVec S589824x8x128 1 := cmpi .ne v3 v5
  let v7 : IVec S589824x8x128 32 := broadcastInDim S589824x8x128 ![] bcast_S_S589824x8x128 v0
  let v8 : IVec S589824x8x128 32 := Host.remsi arg0 v7
  let c : IVec S_ 32 := constantI S_ 32 0#32
  let v9 : IVec S589824x8x128 32 := broadcastInDim S589824x8x128 ![] bcast_S_S589824x8x128 c
  let v10 : IVec S589824x8x128 1 := cmpi .ne v8 v9
  let v11 : IVec S589824x8x128 1 := andi v6 v10
  let c_0 : IVec S_ 32 := constantI S_ 32 1#32
  let v12 : IVec S589824x8x128 32 := broadcastInDim S589824x8x128 ![] bcast_S_S589824x8x128 c_0
  let v13 : IVec S589824x8x128 32 := subi v2 v12
  let v14 : IVec S589824x8x128 32 := fn_where (F := F) v11 v13 v2
  v14

def fn {F : FTy → Type} [FloatOps F] (main_arg0 : IVec S2304 32) (main_arg1 : IVec S1 32) (main_arg2 : FVec F S589824x8x128 .f32) (main_arg3 : FVec F S256x1024x256 .f32) (main_arg4 : FVec F S256x1024x256 .f32) (main_arg5 : FVec F S256x256x1024 .f32) : IVec S589824x8x128 1 :=
  let main_v0 : IVec S589824x8x128 32 := iotaInDim S589824x8x128 32 0
  let main_c : IVec S_ 32 := constantI S_ 32 256#32
  let main_v1 : IVec S589824x8x128 32 := fn_floor_divide (F := F) main_v0 main_c
  let main_v2 : IVec S_ 32 := shapeCast S_ main_arg1 shapeCasts_S1_S_
  let main_v3 : IVec S589824x8x128 32 := broadcastInDim S589824x8x128 ![] bcast_S_S589824x8x128 main_v2
  let main_v4 : IVec S589824x8x128 1 := cmpi .slt main_v1 main_v3
  main_v4
-- ==== Pre_routed.lean ====
abbrev S2304 : Shape := ⟨1, ![2304]⟩
abbrev S1 : Shape := ⟨1, ![1]⟩
abbrev S589824x8x128 : Shape := ⟨3, ![589824, 8, 128]⟩
abbrev S256x1024x256 : Shape := ⟨3, ![256, 1024, 256]⟩
abbrev S256x256x1024 : Shape := ⟨3, ![256, 256, 1024]⟩
abbrev S_ : Shape := ⟨0, ![]⟩

class Facts : Prop where
  bcast_S_S2304 : S_.BroadcastsInDim S2304 (![] : Fin 0 → Fin S2304.rank)
  reducesTo_S2304_S_d0 : S2304.ReducesTo [0] S_
  h_S_ : 0 < S_.numel
  shapeCasts_S1_S_ : S1.ShapeCasts S_

variable [Facts]

def fn {F : FTy → Type} [FloatOps F] (main_arg0 : IVec S2304 32) (main_arg1 : IVec S1 32) (main_arg2 : FVec F S589824x8x128 .f32) (main_arg3 : FVec F S256x1024x256 .f32) (main_arg4 : FVec F S256x1024x256 .f32) (main_arg5 : FVec F S256x256x1024 .f32) : IVec S_ 1 :=
  let main_c : IVec S_ 32 := constantI S_ 32 0#32
  let main_v0 : IVec S2304 32 := broadcastInDim S2304 ![] bcast_S_S2304 main_c
  let main_v1 : IVec S2304 1 := cmpi .sge main_arg0 main_v0
  let main_c_0 : IVec S_ 32 := constantI S_ 32 256#32
  let main_v2 : IVec S2304 32 := broadcastInDim S2304 ![] bcast_S_S2304 main_c_0
  let main_v3 : IVec S2304 1 := cmpi .slt main_arg0 main_v2
  let main_v4 : IVec S2304 1 := andi main_v1 main_v3
  let main_c_1 : IVec S_ 1 := constantI S_ 1 1#1
  let main_v5 : IVec S_ 1 := (fun x v => Host.reduce IntOp.andi x v reducesTo_S2304_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S32x2048x3072 : Shape := ⟨3, ![32, 2048, 3072]⟩
abbrev S16x256 : Shape := ⟨2, ![16, 256]⟩
abbrev S256 : Shape := ⟨1, ![256]⟩
abbrev S128 : Shape := ⟨1, ![128]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S32x2048x512 : Shape := ⟨3, ![32, 2048, 512]⟩
abbrev S1x512x256 : Shape := ⟨3, ![1, 512, 256]⟩
abbrev S1x512x512 : Shape := ⟨3, ![1, 512, 512]⟩
abbrev S1x512x128 : Shape := ⟨3, ![1, 512, 128]⟩
abbrev S64x64 : Shape := ⟨2, ![64, 64]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S64x1 : Shape := ⟨2, ![64, 1]⟩

abbrev nBuf : Space → Nat
  | .hbm => 11
  | .vmem => 16
  | .smem => 0
  | _ => 0

abbrev bufTy : (tb : Table) → Fin (tcTables nBuf tb) → BufTy
  | .hbm, ⟨0, _⟩ => ⟨S32x2048x3072, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S128x256, .bf16⟩
  | .hbm, ⟨8, _⟩ => ⟨S1x256, .f32⟩
  | .hbm, ⟨9, _⟩ => ⟨S1x128, .f32⟩
  | .hbm, ⟨10, _⟩ => ⟨S32x2048x512, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S128x256, .bf16⟩
  | .local _ .vmem, ⟨11, _⟩ => ⟨S1x256, .f32⟩
  | .local _ .vmem, ⟨12, _⟩ => ⟨S1x128, .f32⟩
  | .local _ .vmem, ⟨13, _⟩ => ⟨S1x512x512, .bf16⟩
  | .local _ .vmem, ⟨14, _⟩ => ⟨S1x512x512, .bf16⟩
  | .local _ .vmem, ⟨15, _⟩ => ⟨S128x256, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_12 : BitVec 32 := 0#32
  let c8_i32 : BitVec 32 := 8#32
  let v41 : BitVec 32 := Scalar.addi c0_i32_12 c8_i32
  let c1_i32_13 : BitVec 32 := 1#32
  ⟨c0_i32_12, v41, c1_i32_13⟩
def k0_mult1 (k0_t1 : Fin k0_t1_loop.trips) : BitVec 32 :=
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  v42
def k0_off1 (k0_t1 : Fin k0_t1_loop.trips) : Fin 3 → Nat :=
  let c0_16 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v44 : Index := Scalar.indexCast v43
  let c0_17 : Index := 0#32
  ![0, v44.toNat, 0]
def k0_off2 (k0_t1 : Fin k0_t1_loop.trips) : Fin 3 → Nat :=
  let c0_20 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v50 : Index := Scalar.indexCast v43
  let c0_21 : Index := 0#32
  ![0, v50.toNat, 0]
def k0_off3 (k0_t1 : Fin k0_t1_loop.trips) : Fin 3 → Nat :=
  let c0_24 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v56 : Index := Scalar.indexCast v43
  let c0_25 : Index := 0#32
  ![0, v56.toNat, 0]
def k0_off4 (k0_t1 : Fin k0_t1_loop.trips) : Fin 3 → Nat :=
  let c0_48 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v145 : Index := Scalar.indexCast v43
  let c0_49 : Index := 0#32
  ![0, v145.toNat, 0]
def k0_off5 (k0_t1 : Fin k0_t1_loop.trips) : Fin 3 → Nat :=
  let c0_61 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v189 : Index := Scalar.indexCast v43
  let c128 : Index := 128#32
  ![0, v189.toNat, 128]
def k0_off6 (k0_t1 : Fin k0_t1_loop.trips) : Fin 3 → Nat :=
  let c0_72 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v233 : Index := Scalar.indexCast v43
  let c256 : Index := 256#32
  ![0, v233.toNat, 256]
def k0_off7 (k0_t1 : Fin k0_t1_loop.trips) : Fin 3 → Nat :=
  let c0_83 : Index := 0#32
  let c0_i32_12 : BitVec 32 := 0#32
  let c1_i32_13 : BitVec 32 := 1#32
  let arg12 : BitVec 32 := Scf.iv c0_i32_12 c1_i32_13 k0_t1
  let c64_i32_15 : BitVec 32 := 64#32
  let v42 : BitVec 32 := Scalar.muli arg12 c64_i32_15
  let v43 : BitVec 32 := v42
  let v277 : Index := Scalar.indexCast v43
  let c384 : Index := 384#32
  ![0, v277.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32x2048x3072 : Shape := ⟨3, ![32, 2048, 3072]⟩
abbrev S16x256 : Shape := ⟨2, ![16, 256]⟩
abbrev S256 : Shape := ⟨1, ![256]⟩
abbrev S128 : Shape := ⟨1, ![128]⟩
abbrev S32x2048x256 : Shape := ⟨3, ![32, 2048, 256]⟩
abbrev S32x2048x512 : Shape := ⟨3, ![32, 2048, 512]⟩
abbrev S32x2048x16 : Shape := ⟨3, ![32, 2048, 16]⟩
abbrev S32x32x64x4x64 : Shape := ⟨5, ![32, 32, 64, 4, 64]⟩
abbrev S32x32x4x64x64 : Shape := ⟨5, ![32, 32, 4, 64, 64]⟩
abbrev S_ : Shape := ⟨0, ![]⟩
abbrev S32x32x64x4x128 : Shape := ⟨5, ![32, 32, 64, 4, 128]⟩
abbrev S32x32x4x64x128 : Shape := ⟨5, ![32, 32, 4, 64, 128]⟩
abbrev S1x1x256 : Shape := ⟨3, ![1, 1, 256]⟩
abbrev S64x64 : Shape := ⟨2, ![64, 64]⟩
abbrev S32x4x64x128 : Shape := ⟨4, ![32, 4, 64, 128]⟩
abbrev S1x32x4x64x64 : Shape := ⟨5, ![1, 32, 4, 64, 64]⟩
abbrev S32x4x64x64 : Shape := ⟨4, ![32, 4, 64, 64]⟩
abbrev S1x32x4x64x128 : Shape := ⟨5, ![1, 32, 4, 64, 128]⟩
abbrev S32x4x64x1x64 : Shape := ⟨5, ![32, 4, 64, 1, 64]⟩
abbrev S32x4x1x64x64 : Shape := ⟨5, ![32, 4, 1, 64, 64]⟩
abbrev S32x4x64x64x64 : Shape := ⟨5, ![32, 4, 64, 64, 64]⟩
abbrev S64x64x1 : Shape := ⟨3, ![64, 64, 1]⟩
abbrev S32x4x1x64 : Shape := ⟨4, ![32, 4, 1, 64]⟩
abbrev S32x4x64 : Shape := ⟨3, ![32, 4, 64]⟩
abbrev S32x4x64x1 : Shape := ⟨4, ![32, 4, 64, 1]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩

abbrev nBuf : Space → Nat
  | .hbm => 170
  | .vmem => 0
  | .smem => 0
  | _ => 0

abbrev hbmTy0_0 (i : Nat) : BufTy := match i % 128 with
  | 0 => ⟨S32x2048x3072, .f32⟩
  | 1 => ⟨S16x256, .f32⟩
  | 2 => ⟨S256, .f32⟩
  | 3 => ⟨S128, .f32⟩
  | 4 => ⟨S32x2048x256, .f32⟩
  | 5 => ⟨S32x2048x256, .f32⟩
  | 6 => ⟨S32x2048x512, .f32⟩
  | 7 => ⟨S32x2048x16, .f32⟩
  | 8 => ⟨S32x32x64x4x64, .f32⟩
  | 9 => ⟨S32x32x4x64x64, .f32⟩
  | 10 => ⟨S_, .f32⟩
  | 11 => ⟨S32x32x4x64x64, .f32⟩
  | 12 => ⟨S32x32x4x64x64, .f32⟩
  | 13 => ⟨S32x32x64x4x64, .f32⟩
  | 14 => ⟨S32x32x4x64x64, .f32⟩
  | 15 => ⟨S32x32x64x4x128, .f32⟩
  | 16 => ⟨S32x32x4x64x128, .f32⟩
  | 17 => ⟨S32x2048x256, .f32⟩
  | 18 => ⟨S1x1x256, .f32⟩
  | 19 => ⟨S32x2048x256, .f32⟩
  | 20 => ⟨S32x2048x256, .f32⟩
  | 21 => ⟨S32x2048x256, .f32⟩
  | 22 => ⟨S_, .f32⟩
  | 23 => ⟨S32x2048x256, .f32⟩
  | 24 => ⟨S32x2048x256, .f32⟩
  | 25 => ⟨S32x2048x256, .f32⟩
  | 26 => ⟨S32x2048x256, .f32⟩
  | 27 => ⟨S32x2048x256, .i1⟩
  | 28 => ⟨S32x2048x256, .f32⟩
  | 29 => ⟨S32x2048x256, .f32⟩
  | 30 => ⟨S32x2048x256, .f32⟩
  | 31 => ⟨S32x2048x256, .f32⟩
  | 32 => ⟨S32x2048x256, .f32⟩
  | 33 => ⟨S32x2048x256, .f32⟩
  | 34 => ⟨S32x2048x256, .f32⟩
  | 35 => ⟨S32x2048x256, .f32⟩
  | 36 => ⟨S32x2048x256, .f32⟩
  | 37 => ⟨S_, .f32⟩
  | 38 => ⟨S32x2048x256, .f32⟩
  | 39 => ⟨S32x2048x256, .f32⟩
  | 40 => ⟨S32x32x64x4x64, .f32⟩
  | 41 => ⟨S32x32x4x64x64, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S_, .f32⟩
  | 54 => ⟨S32x4x64x128, .f32⟩
  | 55 => ⟨S_, .f32⟩
  | 56 => ⟨S32x32x4x64x128, .f32⟩
  | 57 => ⟨S_, .i32⟩
  | 58 => ⟨S32x32x4x64x64, .f32⟩
  | 59 => ⟨S32x32x4x64x64, .f32⟩
  | 60 => ⟨S32x32x4x64x128, .f32⟩
  | 61 => ⟨S32x32x4x64x64, .f32⟩
  | 62 => ⟨S64x64, .i1⟩
  | 63 => ⟨S_, .i32⟩
  | 64 => ⟨S32x4x64x128, .f32⟩
  | 65 => ⟨S32x32x4x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x32x4x64x64, .f32⟩
  | 73 => ⟨S32x4x64x64, .f32⟩
  | 74 => ⟨S_, .i32⟩
  | 75 => ⟨S_, .i32⟩
  | 76 => ⟨S_, .i32⟩
  | 77 => ⟨S_, .i32⟩
  | 78 => ⟨S1x32x4x64x64, .f32⟩
  | 79 => ⟨S32x4x64x64, .f32⟩
  | 80 => ⟨S_, .i32⟩
  | 81 => ⟨S_, .i32⟩
  | 82 => ⟨S_, .i32⟩
  | 83 => ⟨S_, .i32⟩
  | 84 => ⟨S1x32x4x64x128, .f32⟩
  | 85 => ⟨S32x4x64x128, .f32⟩
  | 86 => ⟨S_, .i32⟩
  | 87 => ⟨S_, .i32⟩
  | 88 => ⟨S_, .i32⟩
  | 89 => ⟨S_, .i32⟩
  | 90 => ⟨S1x32x4x64x64, .f32⟩
  | 91 => ⟨S32x4x64x64, .f32⟩
  | 92 => ⟨S_, .f32⟩
  | 93 => ⟨S_, .f32⟩
  | 94 => ⟨S32x4x64x64, .f32⟩
  | 95 => ⟨S32x4x64x64, .f32⟩
  | 96 => ⟨S32x4x64x64, .f32⟩
  | 97 => ⟨S32x4x64x128, .f32⟩
  | 98 => ⟨S32x4x64x1x64, .f32⟩
  | 99 => ⟨S32x4x1x64x64, .f32⟩
  | 100 => ⟨S32x4x64x64x64, .f32⟩
  | 101 => ⟨S32x4x64x64x64, .f32⟩
  | 102 => ⟨S32x4x64x64x64, .f32⟩
  | 103 => ⟨S64x64x1, .i1⟩
  | 104 => ⟨S_, .f32⟩
  | 105 => ⟨S32x4x64x64x64, .i1⟩
  | 106 => ⟨S32x4x64x64x64, .f32⟩
  | 107 => ⟨S32x4x64x64x64, .f32⟩
  | 108 => ⟨S32x4x64x64x64, .f32⟩
  | 109 => ⟨S32x4x64x1x64, .f32⟩
  | 110 => ⟨S32x4x1x64x64, .f32⟩
  | 111 => ⟨S32x4x64x64x64, .f32⟩
  | 112 => ⟨S32x4x64x64x64, .f32⟩
  | 113 => ⟨S32x4x64x64x64, .f32⟩
  | 114 => ⟨S32x4x64x64x64, .f32⟩
  | 115 => ⟨S_, .f32⟩
  | 116 => ⟨S32x4x64x64, .f32⟩
  | 117 => ⟨S32x4x64x128, .f32⟩
  | 118 => ⟨S32x4x64x128, .f32⟩
  | 119 => ⟨S32x4x1x64, .f32⟩
  | 120 => ⟨S32x4x1x64, .f32⟩
  | 121 => ⟨S32x4x64, .f32⟩
  | 122 => ⟨S32x4x64x1, .f32⟩
  | 123 => ⟨S32x4x64x128, .f32⟩
  | 124 => ⟨S32x4x64x128, .f32⟩
  | 125 => ⟨S32x4x64x64, .f32⟩
  | 126 => ⟨S32x4x64x64, .f32⟩
  | 127 => ⟨S32x4x64x64, .f32⟩
  | _ => ⟨S32x2048x3072, .f32⟩

abbrev hbmTy0_1 (i : Nat) : BufTy := match i % 128 with
  | 0 => ⟨S32x4x64x64, .f32⟩
  | 1 => ⟨S32x4x64x128, .f32⟩
  | 2 => ⟨S32x4x64x128, .f32⟩
  | 3 => ⟨S1x32x4x64x128, .f32⟩
  | 4 => ⟨S_, .i32⟩
  | 5 => ⟨S_, .i32⟩
  | 6 => ⟨S_, .i32⟩
  | 7 => ⟨S_, .i32⟩
  | 8 => ⟨S32x32x4x64x128, .f32⟩
  | 9 => ⟨S_, .i32⟩
  | 10 => ⟨S_, .i32⟩
  | 11 => ⟨S32x32x64x4x128, .f32⟩
  | 12 => ⟨S32x2048x4x128, .f32⟩
  | 13 => ⟨S32x2048x4x128, .f32⟩
  | 14 => ⟨S_, .f32⟩
  | 15 => ⟨S32x2048x4, .f32⟩
  | 16 => ⟨S32x2048x4x1, .f32⟩
  | 17 => ⟨S_, .f32⟩
  | 18 => ⟨S32x2048x4x1, .f32⟩
  | 19 => ⟨S32x2048x4x1, .f32⟩
  | 20 => ⟨S_, .f32⟩
  | 21 => ⟨S32x2048x4x1, .f32⟩
  | 22 => ⟨S32x2048x4x1, .f32⟩
  | 23 => ⟨S32x2048x4x1, .f32⟩
  | 24 => ⟨S32x2048x4x128, .f32⟩
  | 25 => ⟨S32x2048x4x128, .f32⟩
  | 26 => ⟨S1x1x1x128, .f32⟩
  | 27 => ⟨S32x2048x4x128, .f32⟩
  | 28 => ⟨S32x2048x4x128, .f32⟩
  | 29 => ⟨S32x2048x512, .f32⟩
  | 30 => ⟨S32x2048x512, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S_, .f32⟩
  | 37 => ⟨S32x2048x512, .f32⟩
  | 38 => ⟨S32x2048x512, .f32⟩
  | 39 => ⟨S32x2048x512, .f32⟩
  | 40 => ⟨S32x2048x512, .f32⟩
  | 41 => ⟨S32x2048x512, .bf16⟩
  | _ => ⟨S32x2048x3072, .f32⟩

abbrev hbmTy (i : Nat) : BufTy := match i / 128 with
  | 0 => hbmTy0_0 i
  | 1 => hbmTy0_1 i
  | _ => ⟨S32x2048x3072, .f32⟩

abbrev bufTy : (tb : Table) → Fin (tcTables nBuf tb) → BufTy
  | .hbm, ⟨i, _⟩ => hbmTy i
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_c_4 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev main_v39_5 : Ref sig .tc := ⟨.hbm, 63, rfl⟩
abbrev main_v39_6 : Ref sig .tc := ⟨.hbm, 64, rfl⟩
abbrev main_v39_7 : Ref sig .tc := ⟨.hbm, 65, rfl⟩
abbrev main_while0c_c_15 : Ref sig .tc := ⟨.hbm, 66, rfl⟩
abbrev main_while0c_v60 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v60 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v61 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v62 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v0 : Ref sig .tc := ⟨.hbm, 90, rfl⟩
abbrev main_while0b_v63 : Ref sig .tc := ⟨.hbm, 91, rfl⟩
abbrev main_while0b_call5_call0_cst : Ref sig .tc := ⟨.hbm, 92, rfl⟩
abbrev main_while0b_call5_call0_v0 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_cst_15 : Ref sig .tc := ⟨.hbm, 104, rfl⟩
abbrev main_while0b_call6_v0 : Ref sig .tc := ⟨.hbm, 105, rfl⟩
abbrev main_while0b_call6_v1 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_cst_16 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_call7_v0 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_v97 : Ref sig .tc := ⟨.hbm, 136, rfl⟩
abbrev main_while0b_c_17 : Ref sig .tc := ⟨.hbm, 137, rfl⟩
abbrev main_while0b_v98 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_cst_5 : Ref sig .tc := ⟨.hbm, 142, rfl⟩
abbrev main_v43 : Ref sig .tc := ⟨.hbm, 143, rfl⟩
abbrev main_v44 : Ref sig .tc := ⟨.hbm, 144, rfl⟩
abbrev main_cst_6 : Ref sig .tc := ⟨.hbm, 145, rfl⟩
abbrev main_v45 : Ref sig .tc := ⟨.hbm, 146, rfl⟩
abbrev main_v46 : Ref sig .tc := ⟨.hbm, 147, rfl⟩
abbrev main_cst_7 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_call8_v0 : Ref sig .tc := ⟨.hbm, 159, rfl⟩
abbrev main_call8_v1 : Ref sig .tc := ⟨.hbm, 160, rfl⟩
abbrev main_call8_cst : Ref sig .tc := ⟨.hbm, 161, rfl⟩
abbrev main_call8_v2 : Ref sig .tc := ⟨.hbm, 162, rfl⟩
abbrev main_call8_v3 : Ref sig .tc := ⟨.hbm, 163, rfl⟩
abbrev main_call8_cst_0 : Ref sig .tc := ⟨.hbm, 164, rfl⟩
abbrev main_call8_v4 : Ref sig .tc := ⟨.hbm, 165, rfl⟩
abbrev main_call8_v5 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32x2048x1024 : Shape := ⟨3, ![32, 2048, 1024]⟩
abbrev S1024x2856 : Shape := ⟨2, ![1024, 2856]⟩
abbrev S65536x1024 : Shape := ⟨2, ![65536, 1024]⟩
abbrev S1024x256 : Shape := ⟨2, ![1024, 256]⟩
abbrev S1024x512 : Shape := ⟨2, ![1024, 512]⟩
abbrev S1024x16 : Shape := ⟨2, ![1024, 16]⟩
abbrev S1024x128 : Shape := ⟨2, ![1024, 128]⟩
abbrev S1024x24 : Shape := ⟨2, ![1024, 24]⟩
abbrev S_ : Shape := ⟨0, ![]⟩
abbrev S1024x3072 : Shape := ⟨2, ![1024, 3072]⟩
abbrev S65536x3072 : Shape := ⟨2, ![65536, 3072]⟩
abbrev S512x1024 : Shape := ⟨2, ![512, 1024]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S1024x2856, .f32⟩
  | .hbm, ⟨2, _⟩ => ⟨S65536x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x16, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x24, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x3072, .f32⟩
  | .hbm, ⟨23, _⟩ => ⟨S1024x3072, .bf16⟩
  | .hbm, ⟨24, _⟩ => ⟨S65536x3072, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_c_0 : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![128, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32x2048x1024 : Shape := ⟨3, ![32, 2048, 1024]⟩
abbrev S1024x2856 : Shape := ⟨2, ![1024, 2856]⟩
abbrev S65536x1024 : Shape := ⟨2, ![65536, 1024]⟩
abbrev S65536x2856 : Shape := ⟨2, ![65536, 2856]⟩
abbrev S65536x256 : Shape := ⟨2, ![65536, 256]⟩
abbrev S65536x512 : Shape := ⟨2, ![65536, 512]⟩
abbrev S65536x16 : Shape := ⟨2, ![65536, 16]⟩
abbrev S65536x1280 : Shape := ⟨2, ![65536, 1280]⟩
abbrev S65536x24 : Shape := ⟨2, ![65536, 24]⟩
abbrev S_ : Shape := ⟨0, ![]⟩
abbrev S65536x128 : Shape := ⟨2, ![65536, 128]⟩
abbrev S65536x3072 : Shape := ⟨2, ![65536, 3072]⟩

abbrev nBuf : Space → Nat
  | .hbm => 18
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x2856, .f32⟩
  | .hbm, ⟨2, _⟩ => ⟨S65536x1024, .f32⟩
  | .hbm, ⟨3, _⟩ => ⟨S65536x2856, .f32⟩
  | .hbm, ⟨4, _⟩ => ⟨S65536x256, .f32⟩
  | .hbm, ⟨5, _⟩ => ⟨S65536x256, .f32⟩
  | .hbm, ⟨6, _⟩ => ⟨S65536x512, .f32⟩
  | .hbm, ⟨7, _⟩ => ⟨S65536x16, .f32⟩
  | .hbm, ⟨8, _⟩ => ⟨S65536x512, .f32⟩
  | .hbm, ⟨9, _⟩ => ⟨S65536x1280, .f32⟩
  | .hbm, ⟨10, _⟩ => ⟨S65536x24, .f32⟩
  | .hbm, ⟨11, _⟩ => ⟨S_, .i32⟩
  | .hbm, ⟨12, _⟩ => ⟨S_, .f32⟩
  | .hbm, ⟨13, _⟩ => ⟨S65536x128, .f32⟩
  | .hbm, ⟨14, _⟩ => ⟨S_, .i32⟩
  | .hbm, ⟨15, _⟩ => ⟨S_, .f32⟩
  | .hbm, ⟨16, _⟩ => ⟨S65536x128, .f32⟩
  | .hbm, ⟨17, _⟩ => ⟨S65536x3072, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x1024, .bf16⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel4.lean ====
abbrev S65536x1024 : Shape := ⟨2, ![65536, 1024]⟩
abbrev S65536x8 : Shape := ⟨2, ![65536, 8]⟩
abbrev S65536x8x8x128 : Shape := ⟨4, ![65536, 8, 8, 128]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S128x1024 : Shape := ⟨2, ![128, 1024]⟩
abbrev S128x8 : Shape := ⟨2, ![128, 8]⟩
abbrev S128x8x8x128 : Shape := ⟨4, ![128, 8, 8, 128]⟩
abbrev S128x256 : Shape := ⟨2, ![128, 256]⟩
abbrev S128x1 : Shape := ⟨2, ![128, 1]⟩
abbrev S128x1x1x128 : Shape := ⟨4, ![128, 1, 1, 128]⟩
abbrev S128x128 : Shape := ⟨2, ![128, 128]⟩
abbrev S128 : Shape := ⟨1, ![128]⟩

abbrev nBuf : Space → Nat
  | .hbm => 14
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S65536x8x8x128, .f32⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024x256, .bf16⟩
  | .hbm, ⟨9, _⟩ => ⟨S1024x256, .bf16⟩
  | .hbm, ⟨10, _⟩ => ⟨S256x1024, .bf16⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S128x1024, .f32⟩
  | .local _ .vmem, ⟨1, _⟩ => ⟨S128x1024, .f32⟩
  | .local _ .vmem, ⟨2, _⟩ => ⟨S128x8, .f32⟩
  | .local _ .vmem, ⟨3, _⟩ => ⟨S128x8, .f32⟩
  | .local _ .vmem, ⟨4, _⟩ => ⟨S128x8x8x128, .f32⟩
  | .local _ .vmem, ⟨5, _⟩ => ⟨S128x8x8x128, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S65536x1024 : Shape := ⟨2, ![65536, 1024]⟩
abbrev S65536x8 : Shape := ⟨2, ![65536, 8]⟩
abbrev S65536x8x8x128 : Shape := ⟨4, ![65536, 8, 8, 128]⟩
abbrev S1024x256 : Shape := ⟨2, ![1024, 256]⟩
abbrev S256x1024 : Shape := ⟨2, ![256, 1024]⟩
abbrev S1024 : Shape := ⟨1, ![1024]⟩
abbrev S65536x8x1024 : Shape := ⟨3, ![65536, 8, 1024]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S65536x8x8x128, .f32⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S65536x8x1024, .f32⟩
  | .hbm, ⟨9, _⟩ => ⟨S65536x1024, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S_, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S1x1024, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel5.lean ====
abbrev S2304 : Shape := ⟨1, ![2304]⟩
abbrev S1 : Shape := ⟨1, ![1]⟩
abbrev S589824x8x128 : Shape := ⟨3, ![589824, 8, 128]⟩
abbrev S256x1024x256 : Shape := ⟨3, ![256, 1024, 256]⟩
abbrev S256x256x1024 : Shape := ⟨3, ![256, 256, 1024]⟩
abbrev S_ : Shape := ⟨0, ![]⟩
abbrev S2304x1 : Shape := ⟨2, ![2304, 1]⟩
abbrev S256x8x128 : Shape := ⟨3, ![256, 8, 128]⟩
abbrev S1x1024x256 : Shape := ⟨3, ![1, 1024, 256]⟩
abbrev S1x256x1024 : Shape := ⟨3, ![1, 256, 1024]⟩
abbrev S256x1x128 : Shape := ⟨3, ![256, 1, 128]⟩
abbrev S256x128 : Shape := ⟨2, ![256, 128]⟩
abbrev S256x1024 : Shape := ⟨2, ![256, 1024]⟩
abbrev S1024x256 : Shape := ⟨2, ![1024, 256]⟩
abbrev S256x256 : Shape := ⟨2, ![256, 256]⟩

abbrev nBuf : Space → Nat
  | .hbm => 20
  | .vmem => 10
  | .smem => 2
  | _ => 0

abbrev bufTy : (tb : Table) → Fin (tcTables nBuf tb) → BufTy
  | .hbm, ⟨0, _⟩ => ⟨S2304, .i32⟩
  | .hbm, ⟨1, _⟩ => ⟨S589824x8x128, .f32⟩
  | .hbm, ⟨2, _⟩ => ⟨S256x1024x256, .f32⟩
  | .hbm, ⟨3, _⟩ => ⟨S256x1024x256, .f32⟩
  | .hbm, ⟨4, _⟩ => ⟨S256x256x1024, .f32⟩
  | .hbm, ⟨5, _⟩ => ⟨S2304, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2304, .i32⟩
  | .hbm, ⟨10, _⟩ => ⟨S2304, .i32⟩
  | .hbm, ⟨11, _⟩ => ⟨S_, .i32⟩
  | .hbm, ⟨12, _⟩ => ⟨S2304, .i32⟩
  | .hbm, ⟨13, _⟩ => ⟨S2304, .i1⟩
  | .hbm, ⟨14, _⟩ => ⟨S_, .i32⟩
  | .hbm, ⟨15, _⟩ => ⟨S2304, .i32⟩
  | .hbm, ⟨16, _⟩ => ⟨S2304, .i32⟩
  | .hbm, ⟨17, _⟩ => ⟨S2304, .i32⟩
  | .hbm, ⟨18, _⟩ => ⟨S2304x1, .i32⟩
  | .hbm, ⟨19, _⟩ => ⟨S589824x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x8x128, .f32⟩
  | .local _ .vmem, ⟨9, _⟩ => ⟨S256x8x128, .f32⟩
  | .local _ .smem, ⟨0, _⟩ => ⟨S2304, .i32⟩
  | .local _ .smem, ⟨1, _⟩ => ⟨S1, .i32⟩
  | _, _ => ⟨S2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2304], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2304 : Shape := ⟨1, ![2304]⟩
abbrev S1 : Shape := ⟨1, ![1]⟩
abbrev S589824x8x128 : Shape := ⟨3, ![589824, 8, 128]⟩
abbrev S256x1024x256 : Shape := ⟨3, ![256, 1024, 256]⟩
abbrev S256x256x1024 : Shape := ⟨3, ![256, 256, 1024]⟩
abbrev S2304x256x1024 : Shape := ⟨3, ![2304, 256, 1024]⟩
abbrev S_ : Shape := ⟨0, ![]⟩
abbrev S2304x1 : Shape := ⟨2, ![2304, 1]⟩
abbrev S2304x1024x256 : Shape := ⟨3, ![2304, 1024, 256]⟩
abbrev S2304x256x256 : Shape := ⟨3, ![2304, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S2304, .i32⟩
  | .hbm, ⟨1, _⟩ => ⟨S1, .i32⟩
  | .hbm, ⟨2, _⟩ => ⟨S589824x8x128, .f32⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S2304x256x1024, .f32⟩
  | .hbm, ⟨7, _⟩ => ⟨S_, .i32⟩
  | .hbm, ⟨8, _⟩ => ⟨S2304, .i32⟩
  | .hbm, ⟨9, _⟩ => ⟨S2304, .i1⟩
  | .hbm, ⟨10, _⟩ => ⟨S_, .i32⟩
  | .hbm, ⟨11, _⟩ => ⟨S2304, .i32⟩
  | .hbm, ⟨12, _⟩ => ⟨S2304, .i32⟩
  | .hbm, ⟨13, _⟩ => ⟨S2304, .i32⟩
  | .hbm, ⟨14, _⟩ => ⟨S2304x1, .i32⟩
  | .hbm, ⟨15, _⟩ => ⟨S2304x1024x256, .f32⟩
  | .hbm, ⟨16, _⟩ => ⟨S2304x256x256, .f32⟩
  | .hbm, ⟨17, _⟩ => ⟨S2304x256x256, .f32⟩
  | .hbm, ⟨18, _⟩ => ⟨S2304x256x256, .f32⟩
  | .hbm, ⟨19, _⟩ => ⟨S_, .f32⟩
  | .hbm, ⟨20, _⟩ => ⟨S2304x256x256, .f32⟩
  | .hbm, ⟨21, _⟩ => ⟨S2304x256x256, .f32⟩
  | .hbm, ⟨22, _⟩ => ⟨S_, .f32⟩
  | .hbm, ⟨23, _⟩ => ⟨S2304x256x256, .f32⟩
  | .hbm, ⟨24, _⟩ => ⟨S2304x256x256, .f32⟩
  | .hbm, ⟨25, _⟩ => ⟨S2304x256x256, .f32⟩
  | .hbm, ⟨26, _⟩ => ⟨S_, .i32⟩
  | .hbm, ⟨27, _⟩ => ⟨S2304, .i32⟩
  | .hbm, ⟨28, _⟩ => ⟨S2304, .i1⟩
  | .hbm, ⟨29, _⟩ => ⟨S_, .i32⟩
  | .hbm, ⟨30, _⟩ => ⟨S2304, .i32⟩
  | .hbm, ⟨31, _⟩ => ⟨S2304, .i32⟩
  | .hbm, ⟨32, _⟩ => ⟨S2304, .i32⟩
  | .hbm, ⟨33, _⟩ => ⟨S2304x1, .i32⟩
  | .hbm, ⟨34, _⟩ => ⟨S2304x1024x256, .f32⟩
  | .hbm, ⟨35, _⟩ => ⟨S2304x256x256, .f32⟩
  | .hbm, ⟨36, _⟩ => ⟨S2304x256x256, .f32⟩
  | .hbm, ⟨37, _⟩ => ⟨S_, .i32⟩
  | .hbm, ⟨38, _⟩ => ⟨S2304, .i32⟩
  | .hbm, ⟨39, _⟩ => ⟨S2304, .i1⟩
  | .hbm, ⟨40, _⟩ => ⟨S_, .i32⟩
  | .hbm, ⟨41, _⟩ => ⟨S2304, .i32⟩
  | .hbm, ⟨42, _⟩ => ⟨S2304, .i32⟩
  | .hbm, ⟨43, _⟩ => ⟨S2304, .i32⟩
  | .hbm, ⟨44, _⟩ => ⟨S2304x1, .i32⟩
  | .hbm, ⟨45, _⟩ => ⟨S2304x256x1024, .f32⟩
  | .hbm, ⟨46, _⟩ => ⟨S2304x256x1024, .f32⟩
  | .hbm, ⟨47, _⟩ => ⟨S589824x8x128, .f32⟩
  | _, _ => ⟨S2304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Proof.GlaRefRun.lean ====
/- The reference's run read through the step of its scan: while the valuation holds a state of the scan, every value
   of one trip is the corresponding field of the step; before the loop the state is the initial one; so the result is the
   step iterated over the 32 chunks, followed by what comes after the loop. -/
module

public import proofs.«01_k».proof.Proof.Gen.ReferenceIdeal.Run
public import proofs.«01_k».proof.Proof.Gen.ReferenceIdeal.Step

@[expose] public section

noncomputable section

namespace Cert.Gla.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v39_6) = s.main_v39_6
  f_7 : V0 (Proc.devRef .tc main_v39_7) = s.main_v39_7
  f_0 : V0 (Proc.devRef .tc main_v39_0) = s.main_v39_0
  f_1 : V0 (Proc.devRef .tc main_v39_1) = s.main_v39_1
  f_2 : V0 (Proc.devRef .tc main_v39_2) = s.main_v39_2
  f_3 : V0 (Proc.devRef .tc main_v39_3) = s.main_v39_3
  n_5 : V0 (Proc.devRef .tc main_v39_5) = constantI S_ 32 (BitVec.ofNat 32 j)
  k_4 : V0 (Proc.devRef .tc main_v39_4) = Cert.ReferenceIdeal.Step.K_main_v36 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x32x4x64x64 (V0 (Proc.devRef .tc main_v39_0)) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x64x64_S1x32x4x64x64 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v60 V0 : (Proc.devRef .tc main_while0b_v60 : DevRef τ sig).ty.Contents (Elt F)) = Cert.ReferenceIdeal.Step.b5 j s := by
  unfold res_main_while0b_v60 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x32x4x64x64 (V0 (Proc.devRef .tc main_v39_1)) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x64x64_S1x32x4x64x64 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v61 V0 : (Proc.devRef .tc main_while0b_v61 : DevRef τ sig).ty.Contents (Elt F)) = Cert.ReferenceIdeal.Step.b11 j s := by
  unfold res_main_while0b_v61 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x32x4x64x128 (V0 (Proc.devRef .tc main_v39_2)) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x64x128_S1x32x4x64x128 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v62 V0 : (Proc.devRef .tc main_while0b_v62 : DevRef τ sig).ty.Contents (Elt F)) = Cert.ReferenceIdeal.Step.b17 j s := by
  unfold res_main_while0b_v62 Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x32x4x64x64 (V0 (Proc.devRef .tc main_v39_3)) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x64x64_S1x32x4x64x64 : (Proc.devRef .tc main_while0b_call4_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S32x4x64x64 (Host.dynamicSlice S1x32x4x64x64 (V0 (Proc.devRef .tc main_v39_3)) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x64x64_S1x32x4x64x64) shapeCasts_S1x32x4x64x64_S32x4x64x64 : (Proc.devRef .tc main_while0b_v63 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v64 V0 : (Proc.devRef .tc main_while0b_v64 : DevRef τ sig).ty.Contents (Elt F)) = Cert.ReferenceIdeal.Step.b26 j s := by
  unfold res_main_while0b_v64 Cert.ReferenceIdeal.Step.b26
  rw [← al_23 h, ← al_25 h]
  try rfl
set_option maxRecDepth 8192 in
theorem al_27 (h : Holds V0 s j) : (Host.exp (res_main_while0b_v64 V0) : (Proc.devRef .tc main_while0b_v65 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (mulf (res_main_while0b_v60 V0) (Host.exp (res_main_while0b_v64 V0)) : (Proc.devRef .tc main_while0b_v66 : DevRef τ sig).ty.Contents (Elt F)) = Cert.ReferenceIdeal.Step.b28 j s := by
  unfold Cert.ReferenceIdeal.Step.b28
  rw [← al_5 h, ← al_27 h]
  try rfl
set_option maxRecDepth 8192 in
theorem al_29 (h : Holds V0 s j) : (Host.dotGeneral dot_S32x4x64x64_S32x4x64x128_S32x4x64x128_3_2_2_3_01_01 none (mulf (res_main_while0b_v60 V0) (Host.exp (res_main_while0b_v64 V0))) (V0 (Proc.devRef .tc main_v39_6)) : (Proc.devRef .tc main_while0b_v67 : DevRef τ sig).ty.Contents (Elt F)) = Cert.ReferenceIdeal.Step.b29 j s := by
  unfold Cert.ReferenceIdeal.Step.b29
  rw [← al_28 h, h.f_6]
  try rfl
set_option maxRecDepth 8192 in
theorem al_30 (h : Holds V0 s j) : (broadcastInDim S32x4x64x1x64 ![0, 1, 2, 4] bcast_S32x4x64x64_S32x4x64x1x64_0_1_2_4 (res_main_while0b_v64 V0) : (Proc.devRef .tc main_while0b_v68 : DevRef τ sig).ty.Contents (Elt F)) = Cert.ReferenceIdeal.Step.b30 j s := by
  unfold Cert.ReferenceIdeal.Step.b30
  rw [← al_26 h]
  try rfl
set_option maxRecDepth 8192 in
theorem al_31 (h : Holds V0 s j) : (broadcastInDim S32x4x1x64x64 ![0, 1, 3, 4] bcast_S32x4x64x64_S32x4x1x64x64_0_1_3_4 (res_main_while0b_v64 V0) : (Proc.devRef .tc main_while0b_v69 : DevRef τ sig).ty.Contents (Elt F)) = Cert.ReferenceIdeal.Step.b31 j s := by
  unfold Cert.ReferenceIdeal.Step.b31
  rw [← al_26 h]
  try rfl
set_option maxRecDepth 8192 in
theorem al_32 (h : Holds V0 s j) : (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0)) : (Proc.devRef .tc main_while0b_v70 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)) : (Proc.devRef .tc main_while0b_v71 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0))) : (Proc.devRef .tc main_while0b_v72 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (broadcastInDim S64x64x1 ![0, 1] bcast_S64x64_S64x64x1_0_1 (V0 (Proc.devRef .tc main_v39_4)) : (Proc.devRef .tc main_while0b_v73 : DevRef τ sig).ty.Contents (Elt F)) = Cert.ReferenceIdeal.Step.b35 j s := by
  unfold Cert.ReferenceIdeal.Step.b35
  rw [h.k_4]
  try rfl
set_option maxRecDepth 8192 in
theorem al_36 (h : Holds V0 s j) : (constant S_ .f32 0xFF800000#32 : (Proc.devRef .tc main_while0b_cst_15 : DevRef τ sig).ty.Contents (Elt F)) = Cert.ReferenceIdeal.Step.b36 j s := by
  unfold Cert.ReferenceIdeal.Step.b36
  rfl
set_option maxRecDepth 8192 in
theorem al_37 (h : Holds V0 s j) : (broadcastInDim S32x4x64x64x64 ![2, 3, 4] bcast_S64x64x1_S32x4x64x64x64_2_3_4 (broadcastInDim S64x64x1 ![0, 1] bcast_S64x64_S64x64x1_0_1 (V0 (Proc.devRef .tc main_v39_4))) : (Proc.devRef .tc main_while0b_call6_v0 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (broadcastInDim S32x4x64x64x64 ![] bcast_S_S32x4x64x64x64 (constant S_ .f32 0xFF800000#32) : (Proc.devRef .tc main_while0b_call6_v1 : DevRef τ sig).ty.Contents (Elt F)) = Cert.ReferenceIdeal.Step.b38 j s := by
  unfold Cert.ReferenceIdeal.Step.b38
  rw [← al_36 h]
  try rfl
set_option maxRecDepth 8192 in
theorem al_39 (h : Holds V0 s j) : (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32)) : (Proc.devRef .tc main_while0b_v74 : DevRef τ sig).ty.Contents (Elt F)) = Cert.ReferenceIdeal.Step.b39 j s := by
  unfold Cert.ReferenceIdeal.Step.b39
  rw [← al_37 h, ← al_34 h, ← al_38 h]
  try rfl
set_option maxRecDepth 8192 in
theorem al_40 (h : Holds V0 s j) : (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))) : (Proc.devRef .tc main_while0b_v75 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S32x4x64x1x64 ![0, 1, 2, 4] bcast_S32x4x64x64_S32x4x64x1x64_0_1_2_4 (res_main_while0b_v60 V0) : (Proc.devRef .tc main_while0b_v76 : DevRef τ sig).ty.Contents (Elt F)) = Cert.ReferenceIdeal.Step.b41 j s := by
  unfold Cert.ReferenceIdeal.Step.b41
  rw [← al_5 h]
  try rfl
set_option maxRecDepth 8192 in
theorem al_42 (h : Holds V0 s j) : (broadcastInDim S32x4x1x64x64 ![0, 1, 3, 4] bcast_S32x4x64x64_S32x4x1x64x64_0_1_3_4 (res_main_while0b_v61 V0) : (Proc.devRef .tc main_while0b_v77 : DevRef τ sig).ty.Contents (Elt F)) = Cert.ReferenceIdeal.Step.b42 j s := by
  unfold Cert.ReferenceIdeal.Step.b42
  rw [← al_11 h]
  try rfl
set_option maxRecDepth 8192 in
theorem al_43 (h : Holds V0 s j) : (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0)) : (Proc.devRef .tc main_while0b_v78 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)) : (Proc.devRef .tc main_while0b_v79 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0))) : (Proc.devRef .tc main_while0b_v80 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32)))) : (Proc.devRef .tc main_while0b_v81 : DevRef τ sig).ty.Contents (Elt F)) = Cert.ReferenceIdeal.Step.b46 j s := by
  unfold Cert.ReferenceIdeal.Step.b46
  rw [← al_45 h, ← al_40 h]
  try rfl
set_option maxRecDepth 8192 in
theorem al_47 (h : Holds V0 s j) : (constant S_ .f32 0x00000000#32 : (Proc.devRef .tc main_while0b_cst_16 : DevRef τ sig).ty.Contents (Elt F)) = Cert.ReferenceIdeal.Step.b47 j s := by
  unfold Cert.ReferenceIdeal.Step.b47
  rfl
set_option maxRecDepth 8192 in
theorem al_48 (h : Holds V0 s j) : (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))))) (constant S_ .f32 0x00000000#32) reducesTo_S32x4x64x64x64_S32x4x64x64_d4 h_S_ : (Proc.devRef .tc main_while0b_v82 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (Host.dotGeneral dot_S32x4x64x64_S32x4x64x128_S32x4x64x128_3_2_2_3_01_01 none (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))))) (constant S_ .f32 0x00000000#32) reducesTo_S32x4x64x64x64_S32x4x64x64_d4 h_S_) (res_main_while0b_v62 V0) : (Proc.devRef .tc main_while0b_v83 : DevRef τ sig).ty.Contents (Elt F)) = Cert.ReferenceIdeal.Step.b49 j s := by
  unfold Cert.ReferenceIdeal.Step.b49
  rw [← al_48 h, ← al_17 h]
  try rfl
set_option maxRecDepth 8192 in
theorem al_50 (h : Holds V0 s j) : (addf (Host.dotGeneral dot_S32x4x64x64_S32x4x64x128_S32x4x64x128_3_2_2_3_01_01 none (mulf (res_main_while0b_v60 V0) (Host.exp (res_main_while0b_v64 V0))) (V0 (Proc.devRef .tc main_v39_6))) (Host.dotGeneral dot_S32x4x64x64_S32x4x64x128_S32x4x64x128_3_2_2_3_01_01 none (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))))) (constant S_ .f32 0x00000000#32) reducesTo_S32x4x64x64x64_S32x4x64x64_d4 h_S_) (res_main_while0b_v62 V0)) : (Proc.devRef .tc main_while0b_v84 : DevRef τ sig).ty.Contents (Elt F)) = Cert.ReferenceIdeal.Step.b50 j s := by
  unfold Cert.ReferenceIdeal.Step.b50
  rw [← al_29 h, ← al_49 h]
  try rfl
set_option maxRecDepth 8192 in
theorem al_51 (h : Holds V0 s j) : (res_main_while0b_v85 V0 : (Proc.devRef .tc main_while0b_v85 : DevRef τ sig).ty.Contents (Elt F)) = Cert.ReferenceIdeal.Step.b51 j s := by
  unfold res_main_while0b_v85 Cert.ReferenceIdeal.Step.b51
  rw [← al_26 h]
  try rfl
set_option maxRecDepth 8192 in
theorem al_52 (h : Holds V0 s j) : (Host.exp (res_main_while0b_v85 V0) : (Proc.devRef .tc main_while0b_v86 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (shapeCast S32x4x64 (Host.exp (res_main_while0b_v85 V0)) shapeCasts_S32x4x1x64_S32x4x64 : (Proc.devRef .tc main_while0b_v87 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (broadcastInDim S32x4x64x1 ![0, 1, 2] bcast_S32x4x64_S32x4x64x1_0_1_2 (shapeCast S32x4x64 (Host.exp (res_main_while0b_v85 V0)) shapeCasts_S32x4x1x64_S32x4x64) : (Proc.devRef .tc main_while0b_v88 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S32x4x64x128 ![0, 1, 2, 3] bcast_S32x4x64x1_S32x4x64x128_0_1_2_3 (broadcastInDim S32x4x64x1 ![0, 1, 2] bcast_S32x4x64_S32x4x64x1_0_1_2 (shapeCast S32x4x64 (Host.exp (res_main_while0b_v85 V0)) shapeCasts_S32x4x1x64_S32x4x64)) : (Proc.devRef .tc main_while0b_v89 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (mulf (V0 (Proc.devRef .tc main_v39_6)) (broadcastInDim S32x4x64x128 ![0, 1, 2, 3] bcast_S32x4x64x1_S32x4x64x128_0_1_2_3 (broadcastInDim S32x4x64x1 ![0, 1, 2] bcast_S32x4x64_S32x4x64x1_0_1_2 (shapeCast S32x4x64 (Host.exp (res_main_while0b_v85 V0)) shapeCasts_S32x4x1x64_S32x4x64))) : (Proc.devRef .tc main_while0b_v90 : DevRef τ sig).ty.Contents (Elt F)) = Cert.ReferenceIdeal.Step.b56 j s := by
  unfold Cert.ReferenceIdeal.Step.b56
  rw [← al_55 h, h.f_6]
  try rfl
set_option maxRecDepth 8192 in
theorem al_57 (h : Holds V0 s j) : (broadcastInDim S32x4x64x64 ![0, 1, 2, 3] bcast_S32x4x1x64_S32x4x64x64_0_1_2_3 (res_main_while0b_v85 V0) : (Proc.devRef .tc main_while0b_v91 : DevRef τ sig).ty.Contents (Elt F)) = Cert.ReferenceIdeal.Step.b57 j s := by
  unfold Cert.ReferenceIdeal.Step.b57
  rw [← al_51 h]
  try rfl
set_option maxRecDepth 8192 in
theorem al_58 (h : Holds V0 s j) : (subf (broadcastInDim S32x4x64x64 ![0, 1, 2, 3] bcast_S32x4x1x64_S32x4x64x64_0_1_2_3 (res_main_while0b_v85 V0)) (res_main_while0b_v64 V0) : (Proc.devRef .tc main_while0b_v92 : DevRef τ sig).ty.Contents (Elt F)) = Cert.ReferenceIdeal.Step.b58 j s := by
  unfold Cert.ReferenceIdeal.Step.b58
  rw [← al_57 h, ← al_26 h]
  try rfl
set_option maxRecDepth 8192 in
theorem al_59 (h : Holds V0 s j) : (Host.exp (subf (broadcastInDim S32x4x64x64 ![0, 1, 2, 3] bcast_S32x4x1x64_S32x4x64x64_0_1_2_3 (res_main_while0b_v85 V0)) (res_main_while0b_v64 V0)) : (Proc.devRef .tc main_while0b_v93 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (res_main_while0b_v61 V0) (Host.exp (subf (broadcastInDim S32x4x64x64 ![0, 1, 2, 3] bcast_S32x4x1x64_S32x4x64x64_0_1_2_3 (res_main_while0b_v85 V0)) (res_main_while0b_v64 V0))) : (Proc.devRef .tc main_while0b_v94 : DevRef τ sig).ty.Contents (Elt F)) = Cert.ReferenceIdeal.Step.b60 j s := by
  unfold Cert.ReferenceIdeal.Step.b60
  rw [← al_11 h, ← al_59 h]
  try rfl
set_option maxRecDepth 8192 in
theorem al_61 (h : Holds V0 s j) : (Host.dotGeneral dot_S32x4x64x64_S32x4x64x128_S32x4x64x128_2_2_3_3_01_01 none (mulf (res_main_while0b_v61 V0) (Host.exp (subf (broadcastInDim S32x4x64x64 ![0, 1, 2, 3] bcast_S32x4x1x64_S32x4x64x64_0_1_2_3 (res_main_while0b_v85 V0)) (res_main_while0b_v64 V0)))) (res_main_while0b_v62 V0) : (Proc.devRef .tc main_while0b_v95 : DevRef τ sig).ty.Contents (Elt F)) = Cert.ReferenceIdeal.Step.b61 j s := by
  unfold Cert.ReferenceIdeal.Step.b61
  rw [← al_60 h, ← al_17 h]
  try rfl
set_option maxRecDepth 8192 in
theorem al_62 (h : Holds V0 s j) : (addf (mulf (V0 (Proc.devRef .tc main_v39_6)) (broadcastInDim S32x4x64x128 ![0, 1, 2, 3] bcast_S32x4x64x1_S32x4x64x128_0_1_2_3 (broadcastInDim S32x4x64x1 ![0, 1, 2] bcast_S32x4x64_S32x4x64x1_0_1_2 (shapeCast S32x4x64 (Host.exp (res_main_while0b_v85 V0)) shapeCasts_S32x4x1x64_S32x4x64)))) (Host.dotGeneral dot_S32x4x64x64_S32x4x64x128_S32x4x64x128_2_2_3_3_01_01 none (mulf (res_main_while0b_v61 V0) (Host.exp (subf (broadcastInDim S32x4x64x64 ![0, 1, 2, 3] bcast_S32x4x1x64_S32x4x64x64_0_1_2_3 (res_main_while0b_v85 V0)) (res_main_while0b_v64 V0)))) (res_main_while0b_v62 V0)) : (Proc.devRef .tc main_while0b_v96 : DevRef τ sig).ty.Contents (Elt F)) = Cert.ReferenceIdeal.Step.b62 j s := by
  unfold Cert.ReferenceIdeal.Step.b62
  rw [← al_56 h, ← al_61 h]
  try rfl
set_option maxRecDepth 8192 in
theorem al_63 (h : Holds V0 s j) : (broadcastInDim S1x32x4x64x128 ![1, 2, 3, 4] bcast_S32x4x64x128_S1x32x4x64x128_1_2_3_4 (addf (Host.dotGeneral dot_S32x4x64x64_S32x4x64x128_S32x4x64x128_3_2_2_3_01_01 none (mulf (res_main_while0b_v60 V0) (Host.exp (res_main_while0b_v64 V0))) (V0 (Proc.devRef .tc main_v39_6))) (Host.dotGeneral dot_S32x4x64x64_S32x4x64x128_S32x4x64x128_3_2_2_3_01_01 none (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))))) (constant S_ .f32 0x00000000#32) reducesTo_S32x4x64x64x64_S32x4x64x64_d4 h_S_) (res_main_while0b_v62 V0))) : (Proc.devRef .tc main_while0b_call7_v0 : DevRef τ sig).ty.Contents (Elt F)) = Cert.ReferenceIdeal.Step.b63 j s := by
  unfold Cert.ReferenceIdeal.Step.b63
  rw [← al_50 h]
  try rfl
set_option maxRecDepth 8192 in
theorem al_64 (h : Holds V0 s j) : (constantI S_ 32 0#32 : (Proc.devRef .tc main_while0b_call7_c : DevRef τ sig).ty.Contents (Elt F)) = Cert.ReferenceIdeal.Step.b64 j s := by
  unfold Cert.ReferenceIdeal.Step.b64
  rfl
set_option maxRecDepth 8192 in
theorem al_65 (h : Holds V0 s j) : (constantI S_ 32 0#32 : (Proc.devRef .tc main_while0b_call7_c_0 : DevRef τ sig).ty.Contents (Elt F)) = Cert.ReferenceIdeal.Step.b65 j s := by
  unfold Cert.ReferenceIdeal.Step.b65
  rfl
set_option maxRecDepth 8192 in
theorem al_66 (h : Holds V0 s j) : (constantI S_ 32 0#32 : (Proc.devRef .tc main_while0b_call7_c_1 : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call7_c_2 : DevRef τ sig).ty.Contents (Elt F)) = Cert.ReferenceIdeal.Step.b67 j s := by
  unfold Cert.ReferenceIdeal.Step.b67
  rfl
set_option maxRecDepth 8192 in
theorem al_68 (h : Holds V0 s j) : (Host.dynamicUpdateSlice (V0 (Proc.devRef .tc main_v39_7)) (broadcastInDim S1x32x4x64x128 ![1, 2, 3, 4] bcast_S32x4x64x128_S1x32x4x64x128_1_2_3_4 (addf (Host.dotGeneral dot_S32x4x64x64_S32x4x64x128_S32x4x64x128_3_2_2_3_01_01 none (mulf (res_main_while0b_v60 V0) (Host.exp (res_main_while0b_v64 V0))) (V0 (Proc.devRef .tc main_v39_6))) (Host.dotGeneral dot_S32x4x64x64_S32x4x64x128_S32x4x64x128_3_2_2_3_01_01 none (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v60 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v61 V0)))) (Host.exp (select (broadcastInDim S32x4x64x64x64 ![2, 3, 4] bcast_S64x64x1_S32x4x64x64x64_2_3_4 (broadcastInDim S64x64x1 ![0, 1] bcast_S64x64_S64x64x1_0_1 (V0 (Proc.devRef .tc main_v39_4)))) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 (res_main_while0b_v64 V0))) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 (res_main_while0b_v64 V0)))) (broadcastInDim S32x4x64x64x64 ![] bcast_S_S32x4x64x64x64 (constant S_ .f32 0xFF800000#32))))) (constant S_ .f32 0x00000000#32) reducesTo_S32x4x64x64x64_S32x4x64x64_d4 h_S_) (res_main_while0b_v62 V0)))) (fun k => (((![V0 (Proc.devRef .tc main_v39_5), constantI S_ 32 0#32, constantI S_ 32 0#32, constantI S_ 32 0#32, constantI S_ 32 0#32] : Fin 5 → (⟨S_, .i32⟩ : BufTy).Contents (Elt F))) k (Shape.Idx.first h_S_)).toInt) updateFits_S32x32x4x64x128_S1x32x4x64x128 : (Proc.devRef .tc main_while0b_v97 : DevRef τ sig).ty.Contents (Elt F)) = Cert.ReferenceIdeal.Step.b68 j s := by
  unfold Cert.ReferenceIdeal.Step.b68
  rw [← al_63 h, ← al_64 h, ← al_65 h, ← al_66 h, ← al_67 h, h.f_7, h.n_5]
  try rfl

/-! One trip's step of the carried values is `step`, field by field; a counter steps to the next number. -/

theorem step_6 (h : Holds V0 s j) : step_main_v39_6 V0 = (step j s).main_v39_6 := by
  unfold step_main_v39_6 Cert.ReferenceIdeal.Step.step
  show id (addf (mulf (V0 (Proc.devRef .tc main_v39_6)) (broadcastInDim S32x4x64x128 ![0, 1, 2, 3] bcast_S32x4x64x1_S32x4x64x128_0_1_2_3 (broadcastInDim S32x4x64x1 ![0, 1, 2] bcast_S32x4x64_S32x4x64x1_0_1_2 (shapeCast S32x4x64 (Host.exp (res_main_while0b_v85 V0)) shapeCasts_S32x4x1x64_S32x4x64)))) (Host.dotGeneral dot_S32x4x64x64_S32x4x64x128_S32x4x64x128_2_2_3_3_01_01 none (mulf (res_main_while0b_v61 V0) (Host.exp (subf (broadcastInDim S32x4x64x64 ![0, 1, 2, 3] bcast_S32x4x1x64_S32x4x64x64_0_1_2_3 (res_main_while0b_v85 V0)) (res_main_while0b_v64 V0)))) (res_main_while0b_v62 V0))) = _
  rw [al_62 h]
  try rfl
theorem step_7 (h : Holds V0 s j) : step_main_v39_7 V0 = (step j s).main_v39_7 := by
  unfold step_main_v39_7 Cert.ReferenceIdeal.Step.step
  exact congrArg id (al_68 h)
theorem step_5 (h : Holds V0 s j) : step_main_v39_5 V0 = constantI S_ 32 (BitVec.ofNat 32 (j + 1)) := by
  unfold step_main_v39_5
  rw [h.n_5]
  funext i
  show BitVec.ofNat 32 j + 1#32 = BitVec.ofNat 32 (j + 1)
  simp only [BitVec.ofNat_add]

set_option maxRecDepth 8192 in
theorem out_main_v59_holds (h : Holds V0 s j) {x_main_arg0 : (⟨S32x2048x3072, .f32⟩ : BufTy).Contents (Elt F)} (h_main_arg0 : V0 (Proc.devRef .tc main_arg0) = x_main_arg0) {x_main_arg3 : (⟨S128, .f32⟩ : BufTy).Contents (Elt F)} (h_main_arg3 : V0 (Proc.devRef .tc main_arg3) = x_main_arg3) : out_main_v59 V0 = Cert.ReferenceIdeal.Step.R_main_v59 s x_main_arg0 x_main_arg3 := by
  unfold out_main_v59 Cert.ReferenceIdeal.Step.R_main_v59
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v39_6 V0).trans (step_6 h)
  f_7 := (STEP_main_v39_7 V0).trans (step_7 h)
  n_5 := (STEP_main_v39_5 V0).trans (step_5 h)
  k_4 := (STEP_main_v39_4 V0).trans h.k_4
  f_0 := (STEP_main_v39_0 V0).trans h.f_0
  f_1 := (STEP_main_v39_1 V0).trans h.f_1
  f_2 := (STEP_main_v39_2 V0).trans h.f_2
  f_3 := (STEP_main_v39_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v59) = Cert.ReferenceIdeal.Step.R_main_v59 (it c 32) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v59_holds hk (iter_main_arg0 m c 32) (iter_main_arg3 m c 32)), (h c).2.1, (h c).2.2.1, (h c).2.2.2.1, (h c).2.2.2.2⟩) (Value.run m ρ)

end Cert.Gla.StepRun

end
-- ==== Proof.GlaLoop.lean ====
/-  The chunk loop of the gated linear attention kernel. Each pass reads a chunk of 64 rows of the five blocks,
    writes the 64 result rows (one piece per head) and replaces the recurrence state. This module states the pieces
    of a pass as functions of the state alone, and goes through the loop by them. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- What one pass of the chunk loop holds: the five blocks it reads at their contents, the result block and the
   recurrence state at any contents. -/
abbrev TripRes (c : Dev nD) (arg2 : Memref sig .tc .vmem S1x512x256 .f32) (arg3 : Memref sig .tc .vmem S1x512x256 .f32) (arg4 : Memref sig .tc .vmem S1x512x512 .f32) (arg5 : Memref sig .tc .vmem S1x512x512 .f32) (arg6 : Memref sig .tc .vmem S1x512x128 .f32) (arg10 : Memref sig .tc .vmem S1x512x512 .bf16) (arg11 : Memref sig .tc .vmem S128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} f_arg10) ∗ (arg11.view.loc (c : Thread nD τ) ↦[arg11.view.set]{fullShare} f_arg11))

/-- One pass of the chunk loop at a symbolic chunk `k`: the pieces it writes into the result block and into the
   state are functions of the state it finds alone. What the result block held before does not matter. -/
@[irreducible] def trip (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    Σ' (L_arg10 : (BufTy.Contents (Elt F) arg11.view.ty → List (View.Piece (Elt F) S1x512x512 .bf16))) , { L_arg11 : (BufTy.Contents (Elt F) arg11.view.ty → List (View.Piece (Elt F) S128x256 .f32)) // ∀ (E : Set ℕ) (f_arg10 : BufTy.Contents (Elt F) arg10.view.ty) (f_arg11 : BufTy.Contents (Elt F) arg11.view.ty),
      TripRes (F := F) c arg2 arg3 arg4 arg5 arg6 arg10 arg11 X_arg2 X_arg3 X_arg4 X_arg5 X_arg6 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v5 v9 v34 v36 v38 v39 k PUnit.unit)
          (fun _ => TripRes (F := F) c arg2 arg3 arg4 arg5 arg6 arg10 arg11 X_arg2 X_arg3 X_arg4 X_arg5 X_arg6 (arg10.view.writes (Elt F) f_arg10 (L_arg10 f_arg11)) (arg11.view.writes (Elt F) f_arg11 (L_arg11 f_arg11))) } := by
  have hk : k.val < 8 := Nat.lt_of_lt_of_le k.isLt k0_t1_abs.2.1
  refine ⟨?_, ?_, fun E f_arg10 f_arg11 => ?run⟩
  case run =>
    unfold k0_t1_body
    iintro ⟨HR_arg2, HR_arg3, HR_arg4, HR_arg5, HR_arg6, HW_arg10, HW_arg11⟩
    sl_exec
    sl_step
    sl_close

/-- The two lists of pieces of one pass. -/
abbrev tripL (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg11 : BufTy.Contents (Elt F) arg11.view.ty) : List (View.Piece (Elt F) S1x512x512 .bf16) × List (View.Piece (Elt F) S128x256 .f32) :=
  ((trip (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 k).1 f_arg11, (trip (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 k).2.1 f_arg11)

/-- The pieces of pass `k` in front of those of the earlier passes. -/
@[irreducible] def piecesStep (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg11 : BufTy.Contents (Elt F) arg11.view.ty) (k : ℕ) (prev : List (View.Piece (Elt F) S1x512x512 .bf16) × List (View.Piece (Elt F) S128x256 .f32)) : List (View.Piece (Elt F) S1x512x512 .bf16) × List (View.Piece (Elt F) S128x256 .f32) :=
  if h : k < k0_t1_loop.trips then
    ((tripL (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 ⟨k, h⟩ (arg11.view.writes (Elt F) G_arg11 prev.2)).1 ++ prev.1, (tripL (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 ⟨k, h⟩ (arg11.view.writes (Elt F) G_arg11 prev.2)).2 ++ prev.2)
  else prev

/-- The pieces of the passes before `k` (last first), each taken at the state the earlier passes left. -/
def pieces (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg11 : BufTy.Contents (Elt F) arg11.view.ty) : ℕ → List (View.Piece (Elt F) S1x512x512 .bf16) × List (View.Piece (Elt F) S128x256 .f32)
  | 0 => ([], [])
  | k + 1 => piecesStep 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k (pieces 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k)

theorem pieces_succ (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg11 : BufTy.Contents (Elt F) arg11.view.ty) (k : Fin k0_t1_loop.trips) :
    pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 (k.val + 1)
      = ((tripL (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 k (arg11.view.writes (Elt F) G_arg11 (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k.val).2)).1 ++ (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k.val).1, (tripL (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 k (arg11.view.writes (Elt F) G_arg11 (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k.val).2)).2 ++ (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k.val).2) := by
  rw [pieces.eq_2]; unfold piecesStep; exact dif_pos k.isLt

/-- The invariant before pass `k`: the five blocks read are as they were, the result block and the state hold the
   pieces of the passes before `k`. -/
abbrev inv (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg10.view.loc (c : Thread nD τ) ↦[arg10.view.set]{fullShare} f) ∗ ⌜f = arg10.view.writes (Elt F) G_arg10 (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k).1⌝) ∗ (∃ f, (arg11.view.loc (c : Thread nD τ) ↦[arg11.view.set]{fullShare} f) ∗ ⌜f = arg11.view.writes (Elt F) G_arg11 (pieces (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg11 k).2⌝))

set_option warn.classDefReducibility false in
/-- The chunk loop by its invariant. -/
@[sl_loop] def loopInv (𝒱 : Variants) (c : Dev nD) (bd : Option 𝒱.V) (E : Set ℕ) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (v5 : IVec S64x64 1) (v9 : FVec F S64x64 .bf16) (v34 : IVec S1x256 32) (v36 : FVec F S128x256 .bf16) (v38 : FVec F S1x256 .f32) (v39 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v5 v9 v34 v36 v38 v39 where
  inv := inv (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 G_arg10 G_arg11
  step k acc := by
    iintro ⟨HR_arg2, HR_arg3, HR_arg4, HR_arg5, HR_arg6, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg2 HR_arg3 HR_arg4 HR_arg5 HR_arg6 HW_arg10 HW_arg11]
    · iapply ((trip (F := F) 𝒱 c bd i arg2 harg2 arg3 harg3 arg4 harg4 arg5 harg5 arg6 harg6 arg7 harg7 arg8 harg8 arg9 harg9 arg10 harg10 arg11 harg11 v5 v9 v34 v36 v38 v39 X_arg2 X_arg3 X_arg4 X_arg5 X_arg6 k).2.2 E f_arg10 f_arg11)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HW_arg10]; · iexact HW_arg10
      iexact HW_arg11
    · iintro %_ ⟨HR_arg2, HR_arg3, HR_arg4, HR_arg5, HR_arg6, HW_arg10, HW_arg11⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      rw [pieces_succ]
      isplitl [HW_arg10]
      · iexists _; isplitl [HW_arg10]; · iexact HW_arg10
        ipureintro; rw [h_arg10, h_arg11, ← View.writes_append]
      iexists _; isplitl [HW_arg11]; · iexact HW_arg11
      ipureintro; rw [h_arg11, ← View.writes_append]

end Cert.Gla

end
-- ==== Proof.GlaRunA.lean ====
/- The body of the gated linear attention kernel, run whole, in case A (see the theorem). -/
module

public import proofs.«01_k».proof.Proof.Gen.KernelIdeal.Frame.Runs
public import proofs.«01_k».proof.Proof.GlaLoop

@[expose] public section

-- membership in a rectangle of production extents (`View.cover_of_tiled`): the elaborator's structural look
-- recurses once per coordinate of the long axes
set_option maxRecDepth 16384

noncomputable section

namespace Cert.Gla

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 4, … 124: 32 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) :
    Σ' (L8 : List (View.Piece (Elt F) S1x512x512 .bf16)), { LS0 : List (View.Piece (Elt F) S128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_eq_skeleton]; unfold cc0_gla_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Gla

end
-- ==== Proof.GlaRunB.lean ====
/- The body of the gated linear attention kernel, run whole, in case B (see the theorem). -/
module

public import proofs.«01_k».proof.Proof.Gen.KernelIdeal.Frame.Runs
public import proofs.«01_k».proof.Proof.GlaRunA

@[expose] public section

-- membership in a rectangle of production extents (`View.cover_of_tiled`): the elaborator's structural look
-- recurses once per coordinate of the long axes
set_option maxRecDepth 16384

noncomputable section

namespace Cert.Gla

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 127: 96 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : ¬cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (xs0 : Vec F S128x256 .f32) :
    Σ' (L8 : List (View.Piece (Elt F) S1x512x512 .bf16)), { LS0 : List (View.Piece (Elt F) S128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_eq_skeleton]; unfold cc0_gla_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Gla

end
-- ==== Proof.GlaFrame.lean ====
/- The launch of the gated linear attention kernel: what the result block and the recurrence state hold after each grid
   point, the body obligation, and the frame. -/
module

public import proofs.«01_k».proof.Proof.GlaRunB
public import Idealize.ShloMosaic.Lib.Claim

@[expose] public section

-- membership in a rectangle of production extents (`View.cover_of_tiled`): the elaborator's structural look
-- recurses once per coordinate of the long axes
set_option maxRecDepth 16384

noncomputable section

namespace Cert.Gla

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (32 stores of `S1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S1x64x128.size (by sl_kernel_rfl) y

/-- What case A leaves in output 8's staging buffer: its pieces read back over junk. -/
def out0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) : Vec F S1x512x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg11`, which the kernel carries between points, cover it: 9 pieces of `S128x256` tiling it (Lib/Ring.lean `Piece.tiledL`). -/
theorem scover0_A_0 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (y : S128x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).2.1 S128x256.size (by sl_kernel_rfl) y

/-- What case A leaves in scratch `arg11`: its pieces read back over junk. -/
def sout0_A_0 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) : Vec F S128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (32 stores of `S1x64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : ¬cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (xs0 : Vec F S128x256 .f32) (y : S1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 S1x64x128.size (by sl_kernel_rfl) y

/-- What case B leaves in output 8's staging buffer: its pieces read back over junk. -/
def out0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : ¬cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (xs0 : Vec F S128x256 .f32) : Vec F S1x512x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).1)

/-- Case B's pieces for scratch `arg11`, which the kernel carries between points, cover it: 8 pieces of `S128x256` tiling it (Lib/Ring.lean `Piece.tiledL`). -/
theorem scover0_B_0 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : ¬cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (xs0 : Vec F S128x256 .f32) (y : S128x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 S128x256.size (by sl_kernel_rfl) y

/-- What case B leaves in scratch `arg11`: its pieces read back over junk. -/
def sout0_B_0 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (hc0 : ¬cond0_0 i)
    (x0 : Vec F S1x512x256 .f32) (x1 : Vec F S1x512x256 .f32) (x2 : Vec F S1x512x512 .f32) (x3 : Vec F S1x512x512 .f32) (x4 : Vec F S1x512x128 .f32) (x5 : Vec F S128x256 .bf16) (x6 : Vec F S1x256 .f32) (x7 : Vec F S1x128 .f32) (xs0 : Vec F S128x256 .f32) : Vec F S128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x512 .bf16 × Vec F S128x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases hz : t.val = 0
    · rw [PhiS_castSucc m c t, PhiS_zero m c _ _ hz, PhiA0_eq]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the launch runs to the end on any arguments, and every argument keeps its contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Gla

end
-- ==== Proof.GlaValue.lean ====
/- The launch of the gated linear attention kernel: the array its result window leaves. -/
module

public import proofs.«01_k».proof.Proof.GlaFrame
public import Idealize.ShloMosaic.Lib.Pipeline.Value

@[expose] public section

noncomputable section

namespace Cert.Gla.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 4 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 4 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  simp only [flushed8, outsAt0_B m c t h0]

/-- The index map sends distinct grid points to distinct block indices (decided over the 128 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S32x2048x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4) = (dats m 0 c).arrAt 8 cfg0.N :=
  (h c).1 8

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post8 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S128x256 .f32) : Vec F S128x256 .f32 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2) 4 (fun n h => scAt0_0 m c n h (VS0_0.read (Elt F) VS0_0.junk)) (scAt0_0 m c)
    (fun n h hn => by
      have hN := lt_of_lt_of_eq h (show cfg0.N = 128 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 128 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x512x512 .bf16 × Vec F S128x256 .f32 :=
  ((VO0_8.read (Elt F) VO0_8.junk, VS0_0.read (Elt F) VS0_0.junk) : Vec F S1x512x512 .bf16 × Vec F S128x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x512x512 .bf16 × Vec F S128x256 .f32) : Vec F S1x512x512 .bf16 × Vec F S128x256 .f32 :=
  if h0 : n % 4 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2)

/-- `stAt0` at a point of case A: that case's contents. -/
theorem stAt0_A (c : Dev nD) (t : Fin cfg0.N) (acc : Vec F S1x512x512 .bf16 × Vec F S128x256 .f32) (h0 : t.val % 4 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S1x512x512 .bf16 × Vec F S128x256 .f32) (h0 : ¬t.val % 4 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 128 from N_0)
  have e := Pipeline.eq_accAt_of_mod (fun n h => outsAt0 m c n h) 128 (fun n h => stAt0 m c n h junk0) (stAt0 m c)
    (fun n h _ => by
      have hN := lt_of_lt_of_eq h (show cfg0.N = 128 from N_0)
      obtain rfl : n = 0 := by omega
      exact outsAt0_zero m c h)
    (fun n h _ => outsAt0_succ m c n h)
    (by decide) n hn (by have := Nat.div_add_mod n 128; omega)
  have hd : n / 128 = 0 := Nat.div_eq_of_lt hN
  have hm : n % 128 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S32x2048x512.Idx) : ℕ := 4 * ((i 0).val / 1 - 0) + 1 * ((i 1).val / 512 - 0) + 1 * ((i 2).val / 512 - 0)
set_option backward.proofsInPublic true in
abbrev loc8Of (i : S32x2048x512.Idx) : S1x512x512.Idx := fun a => match a with
  | ⟨0, _⟩ => ⟨(i 0).val % 1, Nat.mod_lt _ (by decide)⟩
  | ⟨1, _⟩ => ⟨(i 1).val % 512, Nat.mod_lt _ (by decide)⟩
  | ⟨2, _⟩ => ⟨(i 2).val % 512, Nat.mod_lt _ (by decide)⟩
abbrev pt8Of (i : S32x2048x512.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v4) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 31
    ∧ 0 ≤ win0_8.index t (1 : Fin 3) ∧ win0_8.index t (1 : Fin 3) ≤ 3
    ∧ 0 ≤ win0_8.index t (2 : Fin 3) ∧ win0_8.index t (2 : Fin 3) ≤ 0
    ∧ 4 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 32) (q1 : Fin 4) (q2 : Fin 1) : Fin grid0.N :=
  ⟨4 * q0.val + 1 * q1.val + 1 * q2.val, lt_of_lt_of_eq (by omega) N_0.symm⟩
theorem idx_onto8 : ∀ (q0 : Fin 32) (q1 : Fin 4) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 32) (q1 : Fin 4) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 512 := (y 1).isLt
  have hy2 : (y 2).val < 512 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 512 + 1 * (y 1).val := rfl
  have hb2 : (((cfg0.win 8).blk t).view.emb y 2).val = win0_8.index t (2 : Fin 3) * 512 + 1 * (y 2).val := rfl
  have hr : run8Of (((cfg0.win 8).blk t).view.emb y) = t.val := by
    show 4 * ((((cfg0.win 8).blk t).view.emb y 0).val / 1 - 0) + 1 * ((((cfg0.win 8).blk t).view.emb y 1).val / 512 - 0) + 1 * ((((cfg0.win 8).blk t).view.emb y 2).val / 512 - 0) = _
    rw [hb0, hb1, hb2]
    rw [show (win0_8.index t (0 : Fin 3) * 1 + 1 * (y 0).val) / 1 = win0_8.index t (0 : Fin 3) from by omega]; rw [show (win0_8.index t (1 : Fin 3) * 512 + 1 * (y 1).val) / 512 = win0_8.index t (1 : Fin 3) from by omega]; rw [show (win0_8.index t (2 : Fin 3) * 512 + 1 * (y 2).val) / 512 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 512 = (y 1).val; rw [hb1]; omega
    | ⟨2, _⟩ => show (((cfg0.win 8).blk t).view.emb y 2).val % 512 = (y 2).val; rw [hb2]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S32x2048x512.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v4).slice (win0_8.rect t)).set ↔ _
  rw [View.set_slice_whole, Rect.mem_set_unit]
  exact Iff.rfl

/-- THE COVERED INDICES: in some flushing point's block iff inside the box those blocks fill. -/
theorem covered_iff8 (i : S32x2048x512.Idx) :
    (∃ t : Fin cfg0.N, (cfg0.win 8).flush t = true ∧ i ∈ ((cfg0.win 8).blk t).view.set) ↔ 0 ≤ (i 0).val ∧ (i 0).val < 32 ∧ 0 ≤ (i 1).val ∧ (i 1).val < 2048 ∧ 0 ≤ (i 2).val ∧ (i 2).val < 512 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 512 ≤ (i 1).val ∧ (i 1).val < win0_8.index t (1 : Fin 3) * 512 + 512 := hi 1
    have b2 : win0_8.index t (2 : Fin 3) * 512 ≤ (i 2).val ∧ (i 2).val < win0_8.index t (2 : Fin 3) * 512 + 512 := hi 2
    obtain ⟨e0, e1, e2, e3⟩ := idx_facts8 t
    omega
  · intro h
    have hi0 : (i 0).val < 32 := (i 0).isLt
    have hi1 : (i 1).val < 2048 := (i 1).isLt
    have hi2 : (i 2).val < 512 := (i 2).isLt
    obtain ⟨t, hft, ht⟩ := idx_onto8 ⟨(i 0).val / 1 - 0, by omega⟩ ⟨(i 1).val / 512 - 0, by omega⟩ ⟨(i 2).val / 512 - 0, by omega⟩
    have q0 : win0_8.index t (0 : Fin 3) = (i 0).val / 1 - 0 + 0 := congrFun ht 0
    have q1 : win0_8.index t (1 : Fin 3) = (i 1).val / 512 - 0 + 0 := congrFun ht 1
    have q2 : win0_8.index t (2 : Fin 3) = (i 2).val / 512 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 512 ≤ (i 1).val ∧ (i 1).val < win0_8.index t (1 : Fin 3) * 512 + 512; omega
    | ⟨2, _⟩ => show win0_8.index t (2 : Fin 3) * 512 ≤ (i 2).val ∧ (i 2).val < win0_8.index t (2 : Fin 3) * 512 + 512; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 32 := (i 0).isLt; have h1 : (i 1).val < 2048 := (i 1).isLt; have h2 : (i 2).val < 512 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post8 m r h c).trans (final8 m c),
      kept_main_arg0 m r h c,
      kept_main_arg1 m r h c,
      kept_main_arg2 m r h c,
      kept_main_arg3 m r h c⟩)
    (run_main m ρ)

end Cert.Gla.Value

end
-- ==== Proof.GlaBits.lean ====
/- The kernel as compiled and the kernel over the ideal numbers are one program read at two interpretations of the floats:
   what the launch is proved to do at any interpretation, it does at the machine's. -/
module

public import proofs.«01_k».proof.Defs
public import proofs.«01_k».proof.Proof.GlaFrame
public import proofs.«01_k».proof.Proof.Gen.Kernel

@[expose] public section

set_option maxRecDepth 16384
set_option maxHeartbeats 2000000

namespace Cert.Gla

open Idealize.ShloMosaic

/-- The kernel functions the two programs call are the same. -/
theorem defs0_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext x y
  match x, y with
  | ⟨0, _⟩, (t, s) => rfl
  | ⟨n + 1, h⟩, _ => exact absurd h (by omega)

/-- So are the functions of the two programs with the pipeline's own. -/
theorem defs_eq : @Cert.Kernel.defs Bits _ Cert.Kernel.Gen.facts = @Cert.KernelIdeal.defs Bits _ Cert.KernelIdeal.Gen.facts :=
  congrArg (Pipeline.defs (@Cert.Kernel.pcfgs Bits Cert.Kernel.Gen.facts)) defs0_eq

/-- The frame of the kernel as compiled. -/
theorem frame_kernel : Cert.quiescent_Kernel (hKernel := Cert.Kernel.Gen.facts) := by
  intro m ρ _
  rw [defs_eq]
  exact Cert.Gla.frame (F := Bits) m ρ

end Cert.Gla

end
-- ==== Proof.GlaHead.lean ====
/- One head of one chunk, as the kernel computes it. The kernel keeps the four heads' 64 lanes side by side; a head's
   products contract all 256 lanes with the other heads' set to zero. Here the kernel's own expressions for a head, as
   functions of the head's lane mask and value columns, and what they are at an index. -/
module

public import proofs.«01_k».proof.Proof.Gen.KernelIdeal.Skeleton
public import Idealize.ShloMosaic.Lib.Pointwise

@[expose] public section

set_option maxRecDepth 16384

noncomputable section

namespace Cert.Gla

open Cert.KernelIdeal Cert.KernelIdeal.Gen
open Idealize.ShloMosaic Idealize.ShloMosaic.TcCoe

/-- A head's result before normalisation: the queries against the state, and the masked scores against the values. -/
def headOut (sel : IVec S1x256 1) (vh : FVec Ideal S64x128 .bf16) (v5 : IVec S64x64 1) (v89 : FVec Ideal S64x256 .f32)
    (v94 : FVec Ideal S64x256 .bf16) (v101 : FVec Ideal S128x256 .bf16) : FVec Ideal S64x128 .f32 :=
  let q : FVec Ideal S64x256 .bf16 := truncf .bf16 (select (broadcastTo S64x256 (shapeCast S1x256 sel shapeCasts_S1x256_S1x256)
    broadcasts_S1x256_S64x256) v89 (broadcast S64x256 (Scalar.ofBits .f32 0x00000000#32))) bitsLt_bf16_f32
  addf (matmul dot_S64x256_S128x256_S64x128_1_1_0_0_n_n none q v101 (constant S64x128 .f32 0x00000000#32))
    (matmul dot_S64x64_S64x128_S64x128_1_0_0_1_n_n none
      (truncf .bf16 (select v5 (matmul dot_S64x256_S64x256_S64x64_1_1_0_0_n_n none q v94 (constant S64x64 .f32 0x00000000#32))
        (broadcast S64x64 (Scalar.ofBits .f32 0x00000000#32))) bitsLt_bf16_f32) vh (constant S64x128 .f32 0x00000000#32))

/-- A head's addition to the state: its values against its keys, in its own lanes. -/
def headState (sel : IVec S1x256 1) (vh : FVec Ideal S64x128 .bf16) (v99 : FVec Ideal S64x256 .bf16)
    (prev : FVec Ideal S128x256 .f32) : FVec Ideal S128x256 .f32 :=
  addf prev (select (broadcastTo S128x256 (shapeCast S1x256 sel shapeCasts_S1x256_S1x256) broadcasts_S1x256_S128x256)
    (matmul dot_S128x64_S64x256_S128x256_1_0_0_1_n_n none (transpose S128x64 [1, 0] vh transposes_S64x128_p1_0_S128x64)
      v99 (constant S128x256 .f32 0x00000000#32)) (broadcast S128x256 (Scalar.ofBits .f32 0x00000000#32)))

/-- A head's result normalised by its root mean square, scaled, and gated. -/
def headRes (v40 : FVec Ideal S1x128 .f32) (rh : FVec Ideal S64x128 .f32) (o : FVec Ideal S64x128 .f32) :
    FVec Ideal S1x64x128 .bf16 :=
  let ms : FVec Ideal S64x1 .f32 := shapeCast S64x1 (multiReduction .add [1] S64 (mulf o o) 0x00000000#32 reduces_S64x128_S64
    (.inl rfl) rfl) shapeCasts_S64_S64x1
  shapeCast S1x64x128 (truncf .bf16 (mulf (mulf (mulf o (broadcastTo S64x128 (rsqrt (addf (divf ms
    (broadcast S64x1 (Scalar.ofBits .f32 0x43000000#32))) (broadcast S64x1 (Scalar.ofBits .f32 0x358637BD#32))))
    broadcasts_S64x1_S64x128)) (broadcastTo S64x128 v40 broadcasts_S1x128_S64x128)) (mulf rh (logistic rh))) bitsLt_bf16_f32)
    shapeCasts_S64x128_S1x64x128

section Same
variable (v5 : IVec S64x64 1) (v9 : FVec Ideal S64x64 .bf16) (v34 : IVec S1x256 32) (v46 v49 : FVec Ideal S64x256 .f32)
  (v52 v55 : FVec Ideal S64x512 .f32) (v79 : FVec Ideal S64x256 .bf16) (v82 cst : FVec Ideal S64x256 .f32)
  (v100 : Vec Ideal S128x256 .f32) (v89 : FVec Ideal S64x256 .f32) (v94 v99 : FVec Ideal S64x256 .bf16)
  (v101 : FVec Ideal S128x256 .bf16) (prev : FVec Ideal S128x256 .f32) (v39 : Vec Ideal S1x128 .f32) (v40 : FVec Ideal S1x128 .f32)

/-! The four heads' payloads are these functions. -/

theorem out0 : k0_pay22 v5 v9 v34 v46 v49 v52 v79 v82 cst v100 = headOut (k0_pay20 v34) (k0_pay21 v52) v5
    (k0_pay16 v9 v46 v79 v82 cst) (k0_pay17 v9 v49 v79 v82 cst) (k0_pay19 v100) := rfl
theorem out1 : k0_pay28 v5 v34 v52 v89 v94 v101 = headOut (k0_pay26 v34) (k0_pay27 v52) v5 v89 v94 v101 := rfl
theorem out2 : k0_pay34 v5 v34 v52 v89 v94 v101 = headOut (k0_pay32 v34) (k0_pay33 v52) v5 v89 v94 v101 := rfl
theorem out3 : k0_pay40 v5 v34 v52 v89 v94 v101 = headOut (k0_pay38 v34) (k0_pay39 v52) v5 v89 v94 v101 := rfl
theorem state0 : k0_pay23 v9 v34 v49 v52 v79 v82 cst v100 = headState (k0_pay20 v34) (k0_pay21 v52) (k0_pay18 v9 v49 v79 v82 cst)
    (mulf v100 (broadcastTo S128x256 (exp (k0_pay15 v9 v79 v82 cst)) broadcasts_S1x256_S128x256)) := rfl
theorem state1 : k0_pay29 v34 v52 v99 prev = headState (k0_pay26 v34) (k0_pay27 v52) v99 prev := rfl
theorem state2 : k0_pay35 v34 v52 v99 prev = headState (k0_pay32 v34) (k0_pay33 v52) v99 prev := rfl
theorem state3 : k0_pay41 v34 v52 v99 prev = headState (k0_pay38 v34) (k0_pay39 v52) v99 prev := rfl
theorem resEq0 : k0_pay25 v40 v55 (k0_pay22 v5 v9 v34 v46 v49 v52 v79 v82 cst v100) (k0_pay24 v5 v9 v34 v46 v49 v52 v79 v82 cst v100)
    = headRes v40 (extractStridedSlice S64x128 ![0, 0] v55 slices_S64x512_o0_0_S64x128) (k0_pay22 v5 v9 v34 v46 v49 v52 v79 v82 cst v100) := rfl
theorem resEq1 : k0_pay31 v40 v55 (k0_pay28 v5 v34 v52 v89 v94 v101) (k0_pay30 v5 v34 v52 v89 v94 v101) (Scalar.ofBits .f32 0x43000000#32)
    = headRes v40 (extractStridedSlice S64x128 ![0, 128] v55 slices_S64x512_o0_128_S64x128) (k0_pay28 v5 v34 v52 v89 v94 v101) := rfl
theorem resEq2 : k0_pay37 v40 v55 (k0_pay34 v5 v34 v52 v89 v94 v101) (k0_pay36 v5 v34 v52 v89 v94 v101)
    = headRes v40 (extractStridedSlice S64x128 ![0, 256] v55 slices_S64x512_o0_256_S64x128) (k0_pay34 v5 v34 v52 v89 v94 v101) := rfl
theorem resEq3 : k0_pay2 v39 v55 (k0_pay40 v5 v34 v52 v89 v94 v101) (k0_pay42 v5 v34 v52 v89 v94 v101) k0_pay43
    = headRes (k0_pay1 v39) (extractStridedSlice S64x128 ![0, 384] v55 slices_S64x512_o0_384_S64x128) (k0_pay40 v5 v34 v52 v89 v94 v101) := rfl
end Same

/-! What they are at an index. -/

theorem headOut_apply (sel : IVec S1x256 1) (vh : FVec Ideal S64x128 .bf16) (v5 : IVec S64x64 1)
    (v89 : FVec Ideal S64x256 .f32) (v94 : FVec Ideal S64x256 .bf16) (v101 : FVec Ideal S128x256 .bf16)
    (i : Fin 64) (e : Fin 128) :
    headOut sel vh v5 v89 v94 v101 (ix2 i e) =
      (∑ l : Fin 256, Scalar.select (sel (ix2 0 l)) (v89 (ix2 i l) * v101 (ix2 e l)) 0) +
        ∑ j : Fin 64, Scalar.select (v5 (ix2 i j))
          ((∑ l : Fin 256, Scalar.select (sel (ix2 0 l)) (v89 (ix2 i l) * v94 (ix2 j l)) 0) * vh (ix2 j e)) 0 := by
  pointwise [headOut]

theorem headState_apply (sel : IVec S1x256 1) (vh : FVec Ideal S64x128 .bf16) (v99 : FVec Ideal S64x256 .bf16)
    (prev : FVec Ideal S128x256 .f32) (l : Fin 256) (e : Fin 128) :
    headState sel vh v99 prev (ix2 e l) =
      prev (ix2 e l) + Scalar.select (sel (ix2 0 l)) (∑ j : Fin 64, vh (ix2 j e) * v99 (ix2 j l)) 0 := by
  pointwise [headState]

/-- A result normalised, scaled and gated, from its row `o`, the scale's entry `w` and the gate `r`. -/
def normGate (o : Fin 128 → EReal) (w r : EReal) (e : Fin 128) : EReal :=
  o e * Ideal.rsqrt (Ideal.div (∑ x, o x * o x) (Ideal.ofBits FTy.f32 0x43000000#32) + Ideal.ofBits FTy.f32 0x358637BD#32)
    * w * (r * Ideal.logistic r)

theorem headRes_apply (v40 : FVec Ideal S1x128 .f32) (rh o : FVec Ideal S64x128 .f32) (i : Fin 64) (e : Fin 128) :
    headRes v40 rh o (ix3 0 i e) = normGate (fun x => o (ix2 i x)) (v40 (ix2 0 e)) (rh (ix2 i e)) e := by
  unfold normGate
  pointwise [headRes]

theorem sel0 (l : Fin 256) : k0_pay20 k0_pay47 (ix2 0 l) = if l.val / 64 = 0 then 1#1 else 0#1 := by
  pointwise [k0_pay20, k0_pay47]
  revert l; decide +kernel
theorem sel1 (l : Fin 256) : k0_pay26 k0_pay47 (ix2 0 l) = if l.val / 64 = 1 then 1#1 else 0#1 := by
  pointwise [k0_pay26, k0_pay47]
  revert l; decide +kernel
theorem sel2 (l : Fin 256) : k0_pay32 k0_pay47 (ix2 0 l) = if l.val / 64 = 2 then 1#1 else 0#1 := by
  pointwise [k0_pay32, k0_pay47]
  revert l; decide +kernel
theorem sel3 (l : Fin 256) : k0_pay38 k0_pay47 (ix2 0 l) = if l.val / 64 = 3 then 1#1 else 0#1 := by
  pointwise [k0_pay38, k0_pay47]
  revert l; decide +kernel

/-- The causal mask. -/
theorem causal (i j : Fin 64) : k0_pay45 (ix2 i j) = if j.val ≤ i.val then 1#1 else 0#1 := by
  pointwise [k0_pay45]
  revert i j; decide +kernel

end Cert.Gla

end
-- ==== Proof.GlaMath.lean ====
/- The arithmetic of the extended reals behind one chunk of gated linear attention: the logarithm of the gate in its two
   spellings, sums over one head's lanes, the sum of a value split in three, cumulative sums of values at most zero, and
   the decay between two rows as a product of exponentials. -/
module

public import Idealize.ShloMosaic.Lib.Pointwise

@[expose] public section

set_option maxRecDepth 16384

noncomputable section

namespace Cert.Gla

open Idealize.ShloMosaic

/-- Lane `d` of head `h` among the 256 lanes of queries and keys. -/
def lane (h : Fin 4) (d : Fin 64) : Fin 256 := ⟨h.val * 64 + d.val, by omega⟩
/-- Column `e` of head `h` among the 512 columns of values and results. -/
def col (h : Fin 4) (e : Fin 128) : Fin 512 := ⟨h.val * 128 + e.val, by omega⟩
/-- The head a lane belongs to. -/
def headOf (l : Fin 256) : Fin 4 := ⟨l.val / 64, by omega⟩

theorem headOf_lane (h : Fin 4) (d : Fin 64) : headOf (lane h d) = h := by
  apply Fin.ext; simp only [headOf, lane]; omega

theorem lane_val_div (h : Fin 4) (d : Fin 64) : (lane h d).val / 64 = h.val := by
  simp only [lane]; omega

/-- A sum over all lanes whose other heads' terms are zero is the sum over the head's lanes. -/
theorem sum_head (f : Fin 256 → EReal) (h : Fin 4) :
    (∑ l : Fin 256, if l.val / 64 = h.val then f l else 0) = ∑ d : Fin 64, f (lane h d) := by
  rw [← Finset.sum_filter]
  symm
  refine Finset.sum_bij (fun d _ => lane h d) ?_ ?_ ?_ ?_
  · intro d _; simp only [Finset.mem_filter, Finset.mem_univ, true_and]; exact lane_val_div h d
  · intro a _ b _ hab
    have := congrArg Fin.val hab
    simp only [lane] at this
    exact Fin.ext (by omega)
  · intro l hl
    simp only [Finset.mem_filter, Finset.mem_univ, true_and] at hl
    exact ⟨⟨l.val % 64, by omega⟩, Finset.mem_univ _, Fin.ext (by simp only [lane]; omega)⟩
  · intro _ _; rfl

/-- The logarithm of the gate, as `log σ(z) / 16` is computed from `z`. -/
def logGate (z : EReal) : EReal :=
  Ideal.div (-(max (-z) 0 + Ideal.log1p (Ideal.exp (-(max z (-z)))))) (Ideal.ofBits FTy.f32 0x41800000#32)

theorem ofBits_16 : Ideal.ofBits FTy.f32 0x41800000#32 = ((16 : ℝ) : EReal) := by
  simp [Ideal.ofBits, Ideal.ieee, -EReal.coe_mul]; norm_num
theorem ofBits_16th : Ideal.ofBits FTy.f32 0x3D800000#32 = ((1 / 16 : ℝ) : EReal) := by
  simp [Ideal.ofBits, Ideal.ieee, -EReal.coe_mul]; norm_num
theorem ofBits_bot : Ideal.ofBits FTy.f32 0xFF800000#32 = ⊥ := by
  simp [Ideal.ofBits, Ideal.ieee, -EReal.coe_mul]

theorem log1p_exp_coe (x : ℝ) : Ideal.log1p (Ideal.exp (x : EReal)) = ((Real.log (1 + Real.exp x) : ℝ) : EReal) := by
  have h : (0 : ℝ) < 1 + Real.exp x := by positivity
  rw [Ideal.exp_coe, Ideal.log1p, ← EReal.coe_one, ← EReal.coe_add]
  exact if_neg (not_le.mpr h)

theorem log1p_zero : Ideal.log1p 0 = 0 := by
  rw [Ideal.log1p, add_zero, ← EReal.coe_one]
  refine (if_neg (not_le.mpr one_pos)).trans ?_
  rw [Real.log_one, EReal.coe_zero]

/-- The stable spelling of the softplus on a finite number, or on an infinite one, is a nonnegative finite number. -/
theorem softplus_tail (z : EReal) : ∃ L : ℝ, 0 ≤ L ∧ Ideal.log1p (Ideal.exp (-(max z (-z)))) = (L : EReal) := by
  induction z with
  | bot => exact ⟨0, le_rfl, by simp [log1p_zero]⟩
  | top => exact ⟨0, le_rfl, by simp [log1p_zero]⟩
  | coe x =>
    refine ⟨Real.log (1 + Real.exp (-(max x (-x)))), Real.log_nonneg (by have := Real.exp_pos (-(max x (-x))); linarith), ?_⟩
    rw [← log1p_exp_coe]
    congr 2

/-- The two spellings of the gate's logarithm agree. -/
theorem logGate_eq (z : EReal) :
    (min z 0 - Ideal.log1p (Ideal.exp (0 - max z (-z)))) * Ideal.ofBits FTy.f32 0x3D800000#32 = logGate z := by
  obtain ⟨L, hL, e⟩ := softplus_tail z
  rw [logGate, zero_sub, e, ofBits_16, ofBits_16th, Ideal.div_coe (by norm_num)]
  congr 1
  induction z with
  | bot => simp
  | top => simp
  | coe x =>
    rw [← EReal.coe_neg, ← EReal.coe_zero, ← EReal.coe_strictMono.monotone.map_min, ← EReal.coe_strictMono.monotone.map_max,
      ← EReal.coe_add, ← EReal.coe_neg, ← EReal.coe_sub]
    congr 1
    rcases le_total x 0 with h | h
    · rw [min_eq_left h, max_eq_left (by linarith)]; ring
    · rw [min_eq_right h, max_eq_right (by linarith)]; ring

/-- The gate is at most one, its logarithm at most zero. -/
theorem logGate_nonpos (z : EReal) : logGate z ≤ 0 := by
  obtain ⟨L, hL, e⟩ := softplus_tail z
  rw [logGate, e, ofBits_16, Ideal.div_coe (by norm_num)]
  have h : 0 ≤ max (-z) 0 + (L : EReal) := add_nonneg (le_max_right _ _) (by exact_mod_cast hL)
  have h' : -(max (-z) 0 + (L : EReal)) ≤ 0 := EReal.neg_le_zero.mpr h
  exact mul_nonpos_of_nonpos_of_nonneg h' (by norm_num)

/-- A value at most zero split in three parts, each the remainder after the ones before, adds up to itself. -/
theorem split3 (x : EReal) (hx : x ≤ 0) : x + (x - x) + (x - x - (x - x)) = x := by
  induction x with
  | bot => simp
  | top => simp at hx
  | coe r => rw [← EReal.coe_sub, ← EReal.coe_sub, ← EReal.coe_add, ← EReal.coe_add]; congr 1; ring

/-- The cumulative sum down a chunk's rows. -/
def cum (g : Fin 64 → EReal) (i : Fin 64) : EReal := ∑ j : Fin 64, if j.val ≤ i.val then g j else 0

theorem cum_nonpos (g : Fin 64 → EReal) (hg : ∀ j, g j ≤ 0) (i : Fin 64) : cum g i ≤ 0 :=
  Finset.sum_nonpos fun j _ => by split_ifs; exacts [hg j, le_rfl]

theorem cum_anti (g : Fin 64 → EReal) (hg : ∀ j, g j ≤ 0) {i j : Fin 64} (h : j.val ≤ i.val) : cum g i ≤ cum g j :=
  Finset.sum_le_sum fun x _ => by
    by_cases hj : x.val ≤ j.val
    · rw [if_pos hj, if_pos (by omega)]
    · rw [if_neg hj]; split_ifs; exacts [hg x, le_rfl]

/-- The cumulative sum as three products with the triangle of ones, one for each part of the split values. -/
theorem cum_split (g : Fin 64 → EReal) (hg : ∀ j, g j ≤ 0) (t : Fin 64 → EReal) (i : Fin 64)
    (ht : ∀ j, t j = if j.val ≤ i.val then 1 else 0) :
    ((∑ j, t j * g j) + ∑ j, t j * (g j - g j)) + ∑ j, t j * (g j - g j - (g j - g j)) = cum g i := by
  rw [← Finset.sum_add_distrib, ← Finset.sum_add_distrib]
  refine Finset.sum_congr rfl fun j _ => ?_
  rw [ht]
  split_ifs
  · simp only [one_mul]; exact split3 _ (hg j)
  · simp only [zero_mul, add_zero]

/-- The decay from row `j` to a later row `i`, as the product of the two rows' own exponentials. -/
theorem exp_mul_exp {a b : EReal} (hab : a ≤ b) (hb : b ≤ 0) : Ideal.exp a * Ideal.exp (0 - b) = Ideal.exp (a - b) := by
  induction a with
  | bot =>
    rw [EReal.bot_sub, Ideal.exp_bot, zero_mul]
  | top => exact absurd (le_trans hab hb) (by simp)
  | coe x =>
    induction b with
    | bot => simp at hab
    | top => simp at hb
    | coe y =>
      rw [← EReal.coe_zero, ← EReal.coe_sub, ← EReal.coe_sub, Ideal.exp_coe, Ideal.exp_coe, Ideal.exp_coe, ← EReal.coe_mul,
        ← Real.exp_add]
      congr 2; ring

end Cert.Gla

end
-- ==== Proof.GlaChunk.lean ====
/- One chunk of 64 rows of gated linear attention. `chunkOut` and `chunkState` are the chunk's result and the state after
   it, per head, as the recurrence is written; the kernel's expressions for a chunk equal them. -/
module

public import proofs.«01_k».proof.Proof.GlaHead
public import proofs.«01_k».proof.Proof.GlaMath

@[expose] public section

set_option maxRecDepth 16384

noncomputable section

namespace Cert.Gla

open Cert.KernelIdeal Cert.KernelIdeal.Gen
open Idealize.ShloMosaic Idealize.ShloMosaic.TcCoe

/-- The scale `1 / √64` of the scores. -/
abbrev scale : EReal := Ideal.ofBits FTy.f32 0x3E000000#32

/-- A head's result rows for a chunk with queries `q`, keys `k`, values `v` and cumulative decay `b`, from the state `S`:
   the decayed queries against the state, and the causal, decayed scores against the values. -/
def chunkOut (q k b : Fin 64 → Fin 256 → EReal) (v : Fin 64 → Fin 512 → EReal) (S : Fin 256 → Fin 128 → EReal)
    (h : Fin 4) (i : Fin 64) (e : Fin 128) : EReal :=
  (∑ d : Fin 64, q i (lane h d) * scale * Ideal.exp (b i (lane h d)) * S (lane h d) e) +
    ∑ j : Fin 64, (∑ d : Fin 64, q i (lane h d) * scale * k j (lane h d) *
      Ideal.exp (if j.val ≤ i.val then b i (lane h d) - b j (lane h d) else ⊥)) * v j (col h e)

/-- The state after a chunk: decayed by the chunk's whole decay, plus the decayed keys against the values. -/
def chunkState (k b : Fin 64 → Fin 256 → EReal) (v : Fin 64 → Fin 512 → EReal) (S : Fin 256 → Fin 128 → EReal)
    (l : Fin 256) (e : Fin 128) : EReal :=
  S l e * Ideal.exp (b 63 l) + ∑ j : Fin 64, k j l * Ideal.exp (b 63 l - b j l) * v j (col (headOf l) e)

theorem select_if {α : Type} (p : Prop) [Decidable p] (x y : α) :
    Scalar.select (if p then 1#1 else 0#1) x y = if p then x else y := by
  split_ifs <;> rfl

section Kernel
variable (wa : FVec Ideal S128x256 .bf16) (ba : FVec Ideal S1x256 .f32) (ng : Vec Ideal S1x128 .f32)
  (q k : Vec Ideal S1x64x256 .f32) (v r : Vec Ideal S1x64x512 .f32) (a : Vec Ideal S1x64x128 .f32) (st : Vec Ideal S128x256 .f32)

/-- The gate's logarithm at a row and a lane. -/
def gate (i : Fin 64) (l : Fin 256) : EReal := logGate ((∑ x : Fin 128, a (ix3 0 i x) * wa (ix2 x l)) + ba (ix2 0 l))

/-- The cumulative decay at a row and a lane. -/
def decay (i : Fin 64) (l : Fin 256) : EReal := cum (fun j => gate wa ba a j l) i

/-- The zeros the kernel's third product of the split gate starts from. -/
abbrev zeros : FVec Ideal S64x256 .f32 := constant S64x256 .f32 0x00000000#32

theorem pay8_apply (i : Fin 64) (l : Fin 256) : k0_pay8 wa ba a (ix2 i l) = gate wa ba a i l := by
  rw [gate, ← logGate_eq]
  pointwise [k0_pay8]
  rfl

theorem triangle (i j : Fin 64) : (k0_pay46 (F := Ideal)) (ix2 i j) = if j.val ≤ i.val then (1 : EReal) else 0 := by
  change Scalar.select (k0_pay45 (ix2 i j)) (Ideal.ofBits .f32 0x3F800000#32) (Ideal.ofBits .f32 0x00000000#32) = _
  rw [causal, select_if, Ideal.ofBits_one_f32, Ideal.ofBits_zero_f32]

theorem pay14_apply (i : Fin 64) (l : Fin 256) :
    k0_pay14 k0_pay46 (k0_pay12 wa ba a) (k0_pay13 k0_pay46 wa ba a) zeros (ix2 i l) = decay wa ba a i l := by
  have h := cum_split (fun j => gate wa ba a j l) (fun j => logGate_nonpos _) (fun j => (k0_pay46 (F := Ideal)) (ix2 i j)) i
    (triangle i)
  rw [decay, ← h]
  simp only [← pay8_apply]
  pointwise [k0_pay14, k0_pay13, k0_pay12, k0_pay11, k0_pay10, k0_pay9]

/-- The kernel's decayed queries, keys, keys for the state, and state operand. -/
def kQ : FVec Ideal S64x256 .f32 := k0_pay16 k0_pay46 (k0_pay4 q) (k0_pay12 wa ba a) (k0_pay13 k0_pay46 wa ba a) zeros
def kK : FVec Ideal S64x256 .bf16 := k0_pay17 k0_pay46 (k0_pay5 k) (k0_pay12 wa ba a) (k0_pay13 k0_pay46 wa ba a) zeros
def kKs : FVec Ideal S64x256 .bf16 := k0_pay18 k0_pay46 (k0_pay5 k) (k0_pay12 wa ba a) (k0_pay13 k0_pay46 wa ba a) zeros
def kDecayed : FVec Ideal S128x256 .f32 :=
  mulf st (broadcastTo S128x256 (exp (k0_pay15 k0_pay46 (k0_pay12 wa ba a) (k0_pay13 k0_pay46 wa ba a) zeros)) broadcasts_S1x256_S128x256)

theorem kQ_apply (i : Fin 64) (l : Fin 256) : kQ wa ba q a (ix2 i l) = q (ix3 0 i l) * Ideal.exp (decay wa ba a i l) * scale := by
  rw [← pay14_apply]
  pointwise [kQ, k0_pay16, k0_pay4]

theorem kK_apply (i : Fin 64) (l : Fin 256) : kK wa ba k a (ix2 i l) = k (ix3 0 i l) * Ideal.exp (0 - decay wa ba a i l) := by
  rw [← pay14_apply]
  pointwise [kK, k0_pay17, k0_pay5]

theorem kKs_apply (i : Fin 64) (l : Fin 256) :
    kKs wa ba k a (ix2 i l) = k (ix3 0 i l) * Ideal.exp (decay wa ba a 63 l - decay wa ba a i l) := by
  rw [← pay14_apply, ← pay14_apply]
  pointwise [kKs, k0_pay18, k0_pay15, k0_pay5]

theorem kDecayed_apply (l : Fin 256) (e : Fin 128) :
    kDecayed wa ba a st (ix2 e l) = st (ix2 e l) * Ideal.exp (decay wa ba a 63 l) := by
  rw [← pay14_apply]
  pointwise [kDecayed, k0_pay15]

/-- A head's result, from the head's lane mask and its columns of the values. -/
theorem headOut_eq (h : Fin 4) (sel : IVec S1x256 1) (hsel : ∀ l, sel (ix2 0 l) = if l.val / 64 = h.val then 1#1 else 0#1)
    (vh : FVec Ideal S64x128 .bf16) (hv : ∀ j e, vh (ix2 j e) = v (ix3 0 j (col h e))) (i : Fin 64) (e : Fin 128) :
    headOut sel vh k0_pay45 (kQ wa ba q a) (kK wa ba k a) (k0_pay19 st) (ix2 i e) =
      chunkOut (fun i l => q (ix3 0 i l)) (fun i l => k (ix3 0 i l)) (decay wa ba a) (fun j c => v (ix3 0 j c))
        (fun l e => st (ix2 e l)) h i e := by
  have hb : ∀ j l, gate wa ba a j l ≤ 0 := fun j l => logGate_nonpos _
  have hst : ∀ l, (k0_pay19 st) (ix2 e l) = st (ix2 e l) := fun l => by pointwise [k0_pay19]
  rw [headOut_apply, chunkOut]
  simp only [hsel, causal, select_if, sum_head, kQ_apply, kK_apply, hv, hst]
  congr 1
  · refine Finset.sum_congr rfl fun d _ => ?_
    rw [mul_right_comm (q _)]
  · refine Finset.sum_congr rfl fun j _ => ?_
    split_ifs with hj
    · congr 1
      refine Finset.sum_congr rfl fun d _ => ?_
      rw [← exp_mul_exp (show decay wa ba a i (lane h d) ≤ decay wa ba a j (lane h d) from cum_anti _ (fun x => hb x _) hj)
        (cum_nonpos _ (fun x => hb x _) j)]
      ac_rfl
    · simp only [Ideal.exp_bot, mul_zero, Finset.sum_const_zero, zero_mul]

/-- The state after all four heads' additions. -/
theorem headState_eq (s0 s1 s2 s3 : IVec S1x256 1) (v0 v1 v2 v3 : FVec Ideal S64x128 .bf16)
    (h0 : ∀ l, s0 (ix2 0 l) = if l.val / 64 = 0 then 1#1 else 0#1) (h1 : ∀ l, s1 (ix2 0 l) = if l.val / 64 = 1 then 1#1 else 0#1)
    (h2 : ∀ l, s2 (ix2 0 l) = if l.val / 64 = 2 then 1#1 else 0#1) (h3 : ∀ l, s3 (ix2 0 l) = if l.val / 64 = 3 then 1#1 else 0#1)
    (hv0 : ∀ j e, v0 (ix2 j e) = v (ix3 0 j (col 0 e))) (hv1 : ∀ j e, v1 (ix2 j e) = v (ix3 0 j (col 1 e)))
    (hv2 : ∀ j e, v2 (ix2 j e) = v (ix3 0 j (col 2 e))) (hv3 : ∀ j e, v3 (ix2 j e) = v (ix3 0 j (col 3 e)))
    (l : Fin 256) (e : Fin 128) :
    headState s3 v3 (kKs wa ba k a) (headState s2 v2 (kKs wa ba k a) (headState s1 v1 (kKs wa ba k a)
      (headState s0 v0 (kKs wa ba k a) (kDecayed wa ba a st)))) (ix2 e l) =
      chunkState (fun i l => k (ix3 0 i l)) (decay wa ba a) (fun j c => v (ix3 0 j c)) (fun l e => st (ix2 e l)) l e := by
  rw [chunkState]
  simp only [headState_apply, h0, h1, h2, h3, select_if, kDecayed_apply, kKs_apply, hv0, hv1, hv2, hv3]
  have hl : l.val / 64 = 0 ∨ l.val / 64 = 1 ∨ l.val / 64 = 2 ∨ l.val / 64 = 3 := by omega
  rcases hl with hl | hl | hl | hl
  all_goals
    have hh : headOf l = ⟨l.val / 64, by omega⟩ := rfl
    simp only [hh, hl, reduceIte, add_zero, Nat.reduceEqDiff, zero_ne_one, one_ne_zero, OfNat.zero_ne_ofNat,
      OfNat.one_ne_ofNat, OfNat.ofNat_ne_zero, OfNat.ofNat_ne_one]
    congr 1
    refine Finset.sum_congr rfl fun j _ => ?_
    rw [mul_comm]; rfl

/-! ### The kernel's chunk

The four heads' results before normalisation, the state, and the pieces stored. -/

def o0 := k0_pay22 k0_pay45 k0_pay46 k0_pay47 (k0_pay4 q) (k0_pay5 k) (k0_pay6 v) (k0_pay12 wa ba a) (k0_pay13 k0_pay46 wa ba a) zeros st
def o1 := k0_pay28 k0_pay45 k0_pay47 (k0_pay6 v) (kQ wa ba q a) (kK wa ba k a) (k0_pay19 st)
def o2 := k0_pay34 k0_pay45 k0_pay47 (k0_pay6 v) (kQ wa ba q a) (kK wa ba k a) (k0_pay19 st)
def o3 := k0_pay40 k0_pay45 k0_pay47 (k0_pay6 v) (kQ wa ba q a) (kK wa ba k a) (k0_pay19 st)
def newState := k0_pay3 (k0_pay41 k0_pay47 (k0_pay6 v) (kKs wa ba k a) (k0_pay35 k0_pay47 (k0_pay6 v) (kKs wa ba k a)
  (k0_pay29 k0_pay47 (k0_pay6 v) (kKs wa ba k a) (k0_pay23 k0_pay46 k0_pay47 (k0_pay5 k) (k0_pay6 v) (k0_pay12 wa ba a)
    (k0_pay13 k0_pay46 wa ba a) zeros st))))
def res0 := k0_pay25 (k0_pay1 ng) (k0_pay7 r) (o0 wa ba q k v a st) (k0_pay24 k0_pay45 k0_pay46 k0_pay47 (k0_pay4 q) (k0_pay5 k)
  (k0_pay6 v) (k0_pay12 wa ba a) (k0_pay13 k0_pay46 wa ba a) zeros st)
def res1 := k0_pay31 (k0_pay1 ng) (k0_pay7 r) (o1 wa ba q k v a st) (k0_pay30 k0_pay45 k0_pay47 (k0_pay6 v) (kQ wa ba q a)
  (kK wa ba k a) (k0_pay19 st)) (Scalar.ofBits .f32 0x43000000#32)
def res2 := k0_pay37 (k0_pay1 ng) (k0_pay7 r) (o2 wa ba q k v a st) (k0_pay36 k0_pay45 k0_pay47 (k0_pay6 v) (kQ wa ba q a)
  (kK wa ba k a) (k0_pay19 st))
def res3 := k0_pay2 ng (k0_pay7 r) (o3 wa ba q k v a st) (k0_pay42 k0_pay45 k0_pay47 (k0_pay6 v) (kQ wa ba q a)
  (kK wa ba k a) (k0_pay19 st)) k0_pay43

/-- A head's rows of a chunk's result, normalised and gated. -/
def chunkRes (h : Fin 4) (i : Fin 64) (e : Fin 128) : EReal :=
  normGate (chunkOut (fun i l => q (ix3 0 i l)) (fun i l => k (ix3 0 i l)) (decay wa ba a) (fun j c => v (ix3 0 j c))
    (fun l e => st (ix2 e l)) h i) (ng (ix2 0 e)) (r (ix3 0 i (col h e))) e

theorem newState_apply (l : Fin 256) (e : Fin 128) : newState wa ba k v a st (ix2 e l) =
    chunkState (fun i l => k (ix3 0 i l)) (decay wa ba a) (fun j c => v (ix3 0 j c)) (fun l e => st (ix2 e l)) l e := by
  rw [← headState_eq wa ba k v a st (k0_pay20 k0_pay47) (k0_pay26 k0_pay47) (k0_pay32 k0_pay47) (k0_pay38 k0_pay47)
    (k0_pay21 (k0_pay6 v)) (k0_pay27 (k0_pay6 v)) (k0_pay33 (k0_pay6 v)) (k0_pay39 (k0_pay6 v)) sel0 sel1 sel2 sel3
    (fun j e => by pointwise! [k0_pay21, k0_pay6, col]) (fun j e => by pointwise! [k0_pay27, k0_pay6, col])
    (fun j e => by pointwise! [k0_pay33, k0_pay6, col]) (fun j e => by pointwise! [k0_pay39, k0_pay6, col])]
  rw [newState, state3, state2, state1, state0]
  pointwise [k0_pay3]
  rfl

/-! Each head's results before normalisation. -/

theorem o0_apply (i : Fin 64) (e : Fin 128) : o0 wa ba q k v a st (ix2 i e) =
    chunkOut (fun i l => q (ix3 0 i l)) (fun i l => k (ix3 0 i l)) (decay wa ba a) (fun j c => v (ix3 0 j c))
      (fun l e => st (ix2 e l)) 0 i e := by
  rw [← headOut_eq wa ba q k v a st 0 (k0_pay20 k0_pay47) sel0 (k0_pay21 (k0_pay6 v))
    (fun j e => by pointwise! [k0_pay21, k0_pay6, col])]
  exact congrFun (out0 k0_pay45 k0_pay46 k0_pay47 _ _ _ _ _ _ _) _

theorem o1_apply (i : Fin 64) (e : Fin 128) : o1 wa ba q k v a st (ix2 i e) =
    chunkOut (fun i l => q (ix3 0 i l)) (fun i l => k (ix3 0 i l)) (decay wa ba a) (fun j c => v (ix3 0 j c))
      (fun l e => st (ix2 e l)) 1 i e := by
  rw [← headOut_eq wa ba q k v a st 1 (k0_pay26 k0_pay47) sel1 (k0_pay27 (k0_pay6 v))
    (fun j e => by pointwise! [k0_pay27, k0_pay6, col])]
  exact congrFun (out1 k0_pay45 k0_pay47 _ _ _ _) _

theorem o2_apply (i : Fin 64) (e : Fin 128) : o2 wa ba q k v a st (ix2 i e) =
    chunkOut (fun i l => q (ix3 0 i l)) (fun i l => k (ix3 0 i l)) (decay wa ba a) (fun j c => v (ix3 0 j c))
      (fun l e => st (ix2 e l)) 2 i e := by
  rw [← headOut_eq wa ba q k v a st 2 (k0_pay32 k0_pay47) sel2 (k0_pay33 (k0_pay6 v))
    (fun j e => by pointwise! [k0_pay33, k0_pay6, col])]
  exact congrFun (out2 k0_pay45 k0_pay47 _ _ _ _) _

theorem o3_apply (i : Fin 64) (e : Fin 128) : o3 wa ba q k v a st (ix2 i e) =
    chunkOut (fun i l => q (ix3 0 i l)) (fun i l => k (ix3 0 i l)) (decay wa ba a) (fun j c => v (ix3 0 j c))
      (fun l e => st (ix2 e l)) 3 i e := by
  rw [← headOut_eq wa ba q k v a st 3 (k0_pay38 k0_pay47) sel3 (k0_pay39 (k0_pay6 v))
    (fun j e => by pointwise! [k0_pay39, k0_pay6, col])]
  exact congrFun (out3 k0_pay45 k0_pay47 _ _ _ _) _

/-! Each head's stored rows. -/

theorem res0_apply (i : Fin 64) (e : Fin 128) :
    res0 wa ba ng q k v r a st (ix3 0 i e) = chunkRes wa ba ng q k v r a st 0 i e := by
  have hr : extractStridedSlice S64x128 ![0, 0] (k0_pay7 r) slices_S64x512_o0_0_S64x128 (ix2 i e) = r (ix3 0 i (col 0 e)) := by
    pointwise! [k0_pay7, col]
  have hn : k0_pay1 ng (ix2 0 e) = ng (ix2 0 e) := by pointwise [k0_pay1]
  rw [chunkRes, ← hr, ← hn, ← funext (o0_apply wa ba q k v a st i), ← headRes_apply]
  exact congrFun (resEq0 k0_pay45 k0_pay46 k0_pay47 _ _ _ _ _ _ _ _ _) _

theorem res1_apply (i : Fin 64) (e : Fin 128) :
    res1 wa ba ng q k v r a st (ix3 0 i e) = chunkRes wa ba ng q k v r a st 1 i e := by
  have hr : extractStridedSlice S64x128 ![0, 128] (k0_pay7 r) slices_S64x512_o0_128_S64x128 (ix2 i e) = r (ix3 0 i (col 1 e)) := by
    pointwise! [k0_pay7, col]
  have hn : k0_pay1 ng (ix2 0 e) = ng (ix2 0 e) := by pointwise [k0_pay1]
  rw [chunkRes, ← hr, ← hn, ← funext (o1_apply wa ba q k v a st i), ← headRes_apply]
  exact congrFun (resEq1 k0_pay45 k0_pay47 _ _ _ _ _ _) _

theorem res2_apply (i : Fin 64) (e : Fin 128) :
    res2 wa ba ng q k v r a st (ix3 0 i e) = chunkRes wa ba ng q k v r a st 2 i e := by
  have hr : extractStridedSlice S64x128 ![0, 256] (k0_pay7 r) slices_S64x512_o0_256_S64x128 (ix2 i e) = r (ix3 0 i (col 2 e)) := by
    pointwise! [k0_pay7, col]
  have hn : k0_pay1 ng (ix2 0 e) = ng (ix2 0 e) := by pointwise [k0_pay1]
  rw [chunkRes, ← hr, ← hn, ← funext (o2_apply wa ba q k v a st i), ← headRes_apply]
  exact congrFun (resEq2 k0_pay45 k0_pay47 _ _ _ _ _ _) _

theorem res3_apply (i : Fin 64) (e : Fin 128) :
    res3 wa ba ng q k v r a st (ix3 0 i e) = chunkRes wa ba ng q k v r a st 3 i e := by
  have hr : extractStridedSlice S64x128 ![0, 384] (k0_pay7 r) slices_S64x512_o0_384_S64x128 (ix2 i e) = r (ix3 0 i (col 3 e)) := by
    pointwise! [k0_pay7, col]
  have hn : k0_pay1 ng (ix2 0 e) = ng (ix2 0 e) := by pointwise [k0_pay1]
  rw [chunkRes, ← hr, ← hn, ← funext (o3_apply wa ba q k v a st i), ← headRes_apply]
  exact congrFun (resEq3 k0_pay45 k0_pay47 _ _ _ _ _ _) _

end Kernel

end Cert.Gla

end
-- ==== Proof.GlaTrip.lean ====
/- What the kernel's loop over the chunks leaves, by its passes: each pass stores the four heads' rows of its chunk and the
   state after it. `chain` is the state before each pass; the result block holds each chunk's rows, computed from the
   state before it. -/
module

public import proofs.«01_k».proof.Proof.GlaLoop
public import proofs.«01_k».proof.Proof.GlaChunk
public import Idealize.ShloMosaic.Lib.WritesUnit
public import Idealize.ShloMosaic.Lib.Pipeline.ValueKit.Tiles

@[expose] public section

set_option maxRecDepth 16384

noncomputable section

namespace Cert.Gla

open Cert.KernelIdeal Cert.KernelIdeal.Gen
open Idealize.ShloMosaic Idealize.ShloMosaic.TcCoe

section Rows
variable (x0 x1 : Vec Ideal S1x512x256 .f32) (x2 x3 : Vec Ideal S1x512x512 .f32) (x4 : Vec Ideal S1x512x128 .f32)
  (k : Fin k0_t1_loop.trips)

/-! The rows of chunk `k` of a block, for the three widths. -/

def rows256 : Vec Ideal S1x64x256 .f32 := View.ld x0 (Rect.unit (s := S1x512x256) (k0_off1 k) S1x64x256.size (k0_off1_inb k))
def rows512 : Vec Ideal S1x64x512 .f32 := View.ld x2 (Rect.unit (s := S1x512x512) (k0_off2 k) S1x64x512.size (k0_off2_inb k))
def rows128 : Vec Ideal S1x64x128 .f32 := View.ld x4 (Rect.unit (s := S1x512x128) (k0_off3 k) S1x64x128.size (k0_off3_inb k))

theorem trips_eq : k0_t1_loop.trips = 8 := by decide +kernel
theorem trip_lt : k.val < 8 := trips_eq ▸ k.isLt

/-- Row `i` of chunk `k` among a block's 512 rows. -/
def rowOf (k : Fin k0_t1_loop.trips) (i : Fin 64) : Fin 512 := ⟨64 * k.val + i.val, by have := trip_lt k; omega⟩

theorem rows256_apply (i : Fin 64) (l : Fin 256) : rows256 x0 k (ix3 0 i l) = x0 (ix3 0 (rowOf k i) l) := by
  unfold rows256
  refine View.ld_unit_apply_of _ _ _ _ _ _ fun a => ?_
  refine Eq.trans ?_ (congrArg (· + ((ix3 0 i l : S1x64x256.Idx) a).val) (congrFun (k0_off1_eq k) a).symm)
  fin_cases a <;> simp [ix3, rowOf]
theorem rows512_apply (i : Fin 64) (l : Fin 512) : rows512 x2 k (ix3 0 i l) = x2 (ix3 0 (rowOf k i) l) := by
  unfold rows512
  refine View.ld_unit_apply_of _ _ _ _ _ _ fun a => ?_
  refine Eq.trans ?_ (congrArg (· + ((ix3 0 i l : S1x64x512.Idx) a).val) (congrFun (k0_off2_eq k) a).symm)
  fin_cases a <;> simp [ix3, rowOf]
theorem rows128_apply (i : Fin 64) (l : Fin 128) : rows128 x4 k (ix3 0 i l) = x4 (ix3 0 (rowOf k i) l) := by
  unfold rows128
  refine View.ld_unit_apply_of _ _ _ _ _ _ fun a => ?_
  refine Eq.trans ?_ (congrArg (· + ((ix3 0 i l : S1x64x128.Idx) a).val) (congrFun (k0_off3_eq k) a).symm)
  fin_cases a <;> simp [ix3, rowOf]

end Rows

/-- The state before pass `n`, from the state `s0` before the loop. -/
def chain (wa : FVec Ideal S128x256 .bf16) (ba : FVec Ideal S1x256 .f32) (x1 : Vec Ideal S1x512x256 .f32)
    (x2 : Vec Ideal S1x512x512 .f32) (x4 : Vec Ideal S1x512x128 .f32) (s0 : Vec Ideal S128x256 .f32) : ℕ → Vec Ideal S128x256 .f32
  | 0 => s0
  | n + 1 => if h : n < k0_t1_loop.trips then
      newState wa ba (rows256 x1 ⟨n, h⟩) (rows512 x2 ⟨n, h⟩) (rows128 x4 ⟨n, h⟩) (chain wa ba x1 x2 x4 s0 n)
    else chain wa ba x1 x2 x4 s0 n

section Trip
variable (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole) (wa : FVec Ideal S128x256 .bf16) (ba : FVec Ideal S1x256 .f32) (ng : Vec Ideal S1x128 .f32)
  (x0 x1 : Vec Ideal S1x512x256 .f32) (x2 x3 : Vec Ideal S1x512x512 .f32) (x4 : Vec Ideal S1x512x128 .f32)

/-- The piece of the state a pass stores. -/
theorem trip_state (k : Fin k0_t1_loop.trips) (f : BufTy.Contents (Elt Ideal) arg11.view.ty) :
    (trip (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) k).2.1 f =
      [⟨Rect.unit ![0, 0] S128x256.size inb_S128x256_S128x256_0_0,
        newState wa ba (rows256 x1 k) (rows512 x2 k) (rows128 x4 k) (arg11.view.read (Elt Ideal) f)⟩] := by
  have e3 : arg3.view.readAt (Elt Ideal) (Rect.unit (s := S1x512x256) (k0_off1 k) S1x64x256.size (k0_off1_inb k)).toLoadRect
      (harg3.unread x1) = rows256 x1 k := by rw [View.readAt_eq_ld, harg3.read_unread]; rfl
  have e4 : arg4.view.readAt (Elt Ideal) (Rect.unit (s := S1x512x512) (k0_off2 k) S1x64x512.size (k0_off2_inb k)).toLoadRect
      (harg4.unread x2) = rows512 x2 k := by rw [View.readAt_eq_ld, harg4.read_unread]; rfl
  have e6 : arg6.view.readAt (Elt Ideal) (Rect.unit (s := S1x512x128) (k0_off3 k) S1x64x128.size (k0_off3_inb k)).toLoadRect
      (harg6.unread x4) = rows128 x4 k := by rw [View.readAt_eq_ld, harg6.read_unread]; rfl
  have e11 : arg11.view.readAt (Elt Ideal) (Rect.unit (s := S128x256) ![0, 0] S128x256.size inb_S128x256_S128x256_0_0).toLoadRect f
      = arg11.view.read (Elt Ideal) f := by rw [View.readAt_eq_ld]; exact View.ld_unit_zero (funext fun a => by fin_cases a <;> rfl) _ _
  rw [← e3, ← e4, ← e6, ← e11]
  unfold trip
  rfl

/-- The pieces of the result a pass stores, one per head. -/
theorem trip_res (k : Fin k0_t1_loop.trips) (f : BufTy.Contents (Elt Ideal) arg11.view.ty) :
    (trip (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) k).1 f =
      [⟨Rect.unit (k0_off7 k) S1x64x128.size (k0_off7_inb k), res3 wa ba ng (rows256 x0 k) (rows256 x1 k) (rows512 x2 k) (rows512 x3 k) (rows128 x4 k) (arg11.view.read (Elt Ideal) f)⟩,
       ⟨Rect.unit (k0_off6 k) S1x64x128.size (k0_off6_inb k), res2 wa ba ng (rows256 x0 k) (rows256 x1 k) (rows512 x2 k) (rows512 x3 k) (rows128 x4 k) (arg11.view.read (Elt Ideal) f)⟩,
       ⟨Rect.unit (k0_off5 k) S1x64x128.size (k0_off5_inb k), res1 wa ba ng (rows256 x0 k) (rows256 x1 k) (rows512 x2 k) (rows512 x3 k) (rows128 x4 k) (arg11.view.read (Elt Ideal) f)⟩,
       ⟨Rect.unit (k0_off4 k) S1x64x128.size (k0_off4_inb k), res0 wa ba ng (rows256 x0 k) (rows256 x1 k) (rows512 x2 k) (rows512 x3 k) (rows128 x4 k) (arg11.view.read (Elt Ideal) f)⟩] := by
  have e2 : arg2.view.readAt (Elt Ideal) (Rect.unit (s := S1x512x256) (k0_off1 k) S1x64x256.size (k0_off1_inb k)).toLoadRect
      (harg2.unread x0) = rows256 x0 k := by rw [View.readAt_eq_ld, harg2.read_unread]; rfl
  have e3 : arg3.view.readAt (Elt Ideal) (Rect.unit (s := S1x512x256) (k0_off1 k) S1x64x256.size (k0_off1_inb k)).toLoadRect
      (harg3.unread x1) = rows256 x1 k := by rw [View.readAt_eq_ld, harg3.read_unread]; rfl
  have e4 : arg4.view.readAt (Elt Ideal) (Rect.unit (s := S1x512x512) (k0_off2 k) S1x64x512.size (k0_off2_inb k)).toLoadRect
      (harg4.unread x2) = rows512 x2 k := by rw [View.readAt_eq_ld, harg4.read_unread]; rfl
  have e5 : arg5.view.readAt (Elt Ideal) (Rect.unit (s := S1x512x512) (k0_off2 k) S1x64x512.size (k0_off2_inb k)).toLoadRect
      (harg5.unread x3) = rows512 x3 k := by rw [View.readAt_eq_ld, harg5.read_unread]; rfl
  have e6 : arg6.view.readAt (Elt Ideal) (Rect.unit (s := S1x512x128) (k0_off3 k) S1x64x128.size (k0_off3_inb k)).toLoadRect
      (harg6.unread x4) = rows128 x4 k := by rw [View.readAt_eq_ld, harg6.read_unread]; rfl
  have e11 : arg11.view.readAt (Elt Ideal) (Rect.unit (s := S128x256) ![0, 0] S128x256.size inb_S128x256_S128x256_0_0).toLoadRect f
      = arg11.view.read (Elt Ideal) f := by rw [View.readAt_eq_ld]; exact View.ld_unit_zero (funext fun a => by fin_cases a <;> rfl) _ _
  rw [← e2, ← e3, ← e4, ← e5, ← e6, ← e11]
  unfold trip
  rfl

/-- The state before each pass. -/
theorem read_state (G : BufTy.Contents (Elt Ideal) arg11.view.ty) (n : ℕ) (hn : n ≤ k0_t1_loop.trips) :
    arg11.view.read (Elt Ideal) (arg11.view.writes (Elt Ideal) G (pieces (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) G n).2) =
      chain wa ba x1 x2 x4 (arg11.view.read (Elt Ideal) G) n := by
  induction n with
  | zero => rfl
  | succ n ih =>
    have h := pieces_succ (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) G ⟨n, hn⟩
    dsimp only at h
    rw [h]
    dsimp only
    rw [trip_state, ih (Nat.le_of_succ_le hn), chain, dif_pos (Nat.lt_of_succ_le hn), List.singleton_append]
    funext y
    exact View.read_writes_cons_unit_of_mem _ _ _ _ _ y y rfl fun a => by fin_cases a <;> simp

/-- A pass's rows of the result block, over what the earlier passes left. -/
theorem read_pass (k : Fin k0_t1_loop.trips) (st : BufTy.Contents (Elt Ideal) arg11.view.ty) (f : BufTy.Contents (Elt Ideal) arg10.view.ty)
    (L : List (View.Piece (Elt Ideal) S1x512x512 .bf16)) (h : Fin 4) (y : Fin 64) (e : Fin 128) :
    arg10.view.read (Elt Ideal) (arg10.view.writes (Elt Ideal) f ((trip (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) k).1 st ++ L)) (ix3 0 (rowOf k y) (col h e)) =
      chunkRes wa ba ng (rows256 x0 k) (rows256 x1 k) (rows512 x2 k) (rows512 x3 k) (rows128 x4 k) (arg11.view.read (Elt Ideal) st) h y e := by
  rw [trip_res]
  simp only [List.cons_append, List.nil_append]
  have hin : ∀ (o : ℕ), o = 128 * h.val → ∀ a, ((ix3 0 (rowOf k y) (col h e) : S1x512x512.Idx) a).val =
      (![0, 64 * k.val, o] : Fin 3 → ℕ) a + ((ix3 0 y e : S1x64x128.Idx) a).val := by
    intro o ho a; subst ho; fin_cases a <;> simp [ix3, rowOf, col, Nat.mul_comm]
  have hout : ∀ (o : ℕ), 128 * h.val + 128 ≤ o → ((ix3 0 (rowOf k y) (col h e) : S1x512x512.Idx) (2 : Fin 3)).val <
      (![0, 64 * k.val, o] : Fin 3 → ℕ) 2 := by
    intro o ho; have := e.isLt; simp [ix3, col]; omega
  match h with
  | 3 =>
    rw [View.read_writes_cons_unit_of_mem _ _ _ _ _ _ (ix3 0 y e) (k0_off7_eq k) (hin _ rfl)]
    exact res3_apply _ _ _ _ _ _ _ _ _ _ _
  | 2 =>
    rw [View.read_writes_cons_unit_of_not_mem _ _ _ _ _ _ (k0_off7_eq k) (2 : Fin 3) (.inl (hout _ (by decide))),
      View.read_writes_cons_unit_of_mem _ _ _ _ _ _ (ix3 0 y e) (k0_off6_eq k) (hin _ rfl)]
    exact res2_apply _ _ _ _ _ _ _ _ _ _ _
  | 1 =>
    rw [View.read_writes_cons_unit_of_not_mem _ _ _ _ _ _ (k0_off7_eq k) (2 : Fin 3) (.inl (hout _ (by decide))),
      View.read_writes_cons_unit_of_not_mem _ _ _ _ _ _ (k0_off6_eq k) (2 : Fin 3) (.inl (hout _ (by decide))),
      View.read_writes_cons_unit_of_mem _ _ _ _ _ _ (ix3 0 y e) (k0_off5_eq k) (hin _ rfl)]
    exact res1_apply _ _ _ _ _ _ _ _ _ _ _
  | 0 =>
    rw [View.read_writes_cons_unit_of_not_mem _ _ _ _ _ _ (k0_off7_eq k) (2 : Fin 3) (.inl (hout _ (by decide))),
      View.read_writes_cons_unit_of_not_mem _ _ _ _ _ _ (k0_off6_eq k) (2 : Fin 3) (.inl (hout _ (by decide))),
      View.read_writes_cons_unit_of_not_mem _ _ _ _ _ _ (k0_off5_eq k) (2 : Fin 3) (.inl (hout _ (by decide))),
      View.read_writes_cons_unit_of_mem _ _ _ _ _ _ (ix3 0 y e) (k0_off4_eq k) (hin _ rfl)]
    exact res0_apply _ _ _ _ _ _ _ _ _ _ _

/-- A later pass leaves the rows of another chunk as they were. -/
theorem read_other (k k' : Fin k0_t1_loop.trips) (hk : k.val < k'.val) (st : BufTy.Contents (Elt Ideal) arg11.view.ty)
    (f : BufTy.Contents (Elt Ideal) arg10.view.ty) (L : List (View.Piece (Elt Ideal) S1x512x512 .bf16)) (y : Fin 64) (c' : Fin 512) :
    arg10.view.read (Elt Ideal) (arg10.view.writes (Elt Ideal) f ((trip (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) k').1 st ++ L)) (ix3 0 (rowOf k y) c') =
      arg10.view.read (Elt Ideal) (arg10.view.writes (Elt Ideal) f L) (ix3 0 (rowOf k y) c') := by
  rw [trip_res]
  simp only [List.cons_append, List.nil_append]
  have hout : ∀ (o : ℕ), ((ix3 0 (rowOf k y) c' : S1x512x512.Idx) (1 : Fin 3)).val < (![0, 64 * k'.val, o] : Fin 3 → ℕ) 1 := by
    intro o; have := y.isLt; simp [ix3, rowOf]; omega
  rw [View.read_writes_cons_unit_of_not_mem _ _ _ _ _ _ (k0_off7_eq k') (1 : Fin 3) (.inl (hout _)),
    View.read_writes_cons_unit_of_not_mem _ _ _ _ _ _ (k0_off6_eq k') (1 : Fin 3) (.inl (hout _)),
    View.read_writes_cons_unit_of_not_mem _ _ _ _ _ _ (k0_off5_eq k') (1 : Fin 3) (.inl (hout _)),
    View.read_writes_cons_unit_of_not_mem _ _ _ _ _ _ (k0_off4_eq k') (1 : Fin 3) (.inl (hout _))]

/-- The rows of the result block after the passes before `n`. -/
theorem read_result (G : BufTy.Contents (Elt Ideal) arg11.view.ty) (f : BufTy.Contents (Elt Ideal) arg10.view.ty) (n : ℕ)
    (hn : n ≤ k0_t1_loop.trips) (k : Fin k0_t1_loop.trips) (hk : k.val < n) (h : Fin 4) (y : Fin 64) (e : Fin 128) :
    arg10.view.read (Elt Ideal) (arg10.view.writes (Elt Ideal) f (pieces (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) G n).1) (ix3 0 (rowOf k y) (col h e)) =
      chunkRes wa ba ng (rows256 x0 k) (rows256 x1 k) (rows512 x2 k) (rows512 x3 k) (rows128 x4 k) (chain wa ba x1 x2 x4 (arg11.view.read (Elt Ideal) G) k.val) h y e := by
  induction n with
  | zero => exact absurd hk (by omega)
  | succ n ih =>
    have hs := pieces_succ (F := Ideal) 𝒱 c bd i arg2 harg2 arg3 harg3 arg4 harg4 arg5 harg5 arg6 harg6 arg7 harg7 arg8 harg8 arg9 harg9 arg10 harg10 arg11 harg11 k0_pay45 k0_pay46 k0_pay47 wa ba ng (harg2.unread x0) (harg3.unread x1) (harg4.unread x2) (harg5.unread x3) (harg6.unread x4) G ⟨n, hn⟩
    dsimp only at hs
    rw [hs]
    dsimp only
    by_cases hkn : k.val < n
    · rw [read_other (k := k) (k' := ⟨n, hn⟩) (hk := hkn)]
      exact ih (Nat.le_of_succ_le hn) hkn
    · have hv : k.val = n := by omega
      obtain rfl : k = ⟨n, hn⟩ := Fin.ext hv
      rw [read_pass, read_state (hn := Nat.le_of_succ_le hn)]

end Trip

end Cert.Gla

end
-- ==== Proof.GlaPoint.lean ====
/- What one grid point of the kernel leaves: the state after its eight chunks, and the rows of its result block, each
   chunk's computed from the state before it.  A point of the first kind starts from zeros, one of the second from the
   state the point before left. -/
module

public import proofs.«01_k».proof.Proof.GlaFrame
public import proofs.«01_k».proof.Proof.GlaTrip

@[expose] public section

set_option maxRecDepth 16384

noncomputable section

namespace Cert.Gla

open Cert.KernelIdeal Cert.KernelIdeal.Gen
open Idealize.ShloMosaic Idealize.ShloMosaic.TcCoe

variable (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S128x256 .f32) (harg11 : arg11.IsWhole)
variable (x0 : Vec Ideal S1x512x256 .f32) (x1 : Vec Ideal S1x512x256 .f32) (x2 : Vec Ideal S1x512x512 .f32) (x3 : Vec Ideal S1x512x512 .f32) (x4 : Vec Ideal S1x512x128 .f32) (x5 : Vec Ideal S128x256 .bf16) (x6 : Vec Ideal S1x256 .f32) (x7 : Vec Ideal S1x128 .f32)

/-- The zero state. -/
def start : Vec Ideal S128x256 .f32 := fun _ => Ideal.ofBits .f32 0#32

/-- The gate weights as the body loads them. -/
theorem load_wa (harg7 : arg7.IsWhole) (x5 : Vec Ideal S128x256 .bf16) :
    k0_pay48 (View.readAt (Elt Ideal) arg7.view (Rect.unit ![0, 0] S128x256.size inb_S128x256_S128x256_0_0).toLoadRect (harg7.unread x5)) = x5 := by
  unfold k0_pay48
  rw [View.readAt_eq_ld, harg7.read_unread, View.ld_unit_zero (by funext a; fin_cases a <;> rfl)]
  exact shapeCast_id _ _

/-- The gate bias as the body loads it. -/
theorem load_ba (harg8 : arg8.IsWhole) (x6 : Vec Ideal S1x256 .f32) :
    k0_pay49 (View.readAt (Elt Ideal) arg8.view (Rect.unit ![0, 0] S1x256.size inb_S1x256_S1x256_0_0).toLoadRect (harg8.unread x6)) = x6 := by
  unfold k0_pay49
  rw [View.readAt_eq_ld, harg8.read_unread, View.ld_unit_zero (by funext a; fin_cases a <;> rfl)]
  exact shapeCast_id _ _

/-- The norm's weights as the body loads them. -/
theorem load_ng (harg9 : arg9.IsWhole) (x7 : Vec Ideal S1x128 .f32) :
    View.readAt (Elt Ideal) arg9.view (Rect.unit ![0, 0] S1x128.size inb_S1x128_S1x128_0_0).toLoadRect (harg9.unread x7) = x7 := by
  rw [View.readAt_eq_ld, harg9.read_unread, View.ld_unit_zero (by funext a; fin_cases a <;> rfl)]

/-- The state a point of the first kind starts from. -/
theorem read_start : arg11.view.read (Elt Ideal) (arg11.view.writes (Elt Ideal) arg11.view.junk kernelRun0_A.sl.HS0_1) = start := by
  unfold kernelRun0_A.sl.HS0_1
  funext y
  refine (View.read_writes_cons_unit_of_mem arg11.view _ inb_S128x256_S128x256_0_0 _ _ y y rfl (fun a => by fin_cases a <;> simp)).trans ?_
  unfold k0_pay44
  rw [shapeCast_id]
  rfl

/-- The rows of the result block after a point of the first kind. -/
theorem out_A (hc0 : cond0_0 i) (k : Fin k0_t1_loop.trips) (h : Fin 4) (y : Fin 64) (e : Fin 128) :
    out0_A_8 c i arg2 harg2 arg3 harg3 arg4 harg4 arg5 harg5 arg6 harg6 arg7 harg7 arg8 harg8 arg9 harg9 arg10 harg10 arg11 harg11 hc0 x0 x1 x2 x3 x4 x5 x6 x7 (ix3 0 (rowOf k y) (col h e)) =
      chunkRes x5 x6 x7 (rows256 x0 k) (rows256 x1 k) (rows512 x2 k) (rows512 x3 k) (rows128 x4 k) (chain x5 x6 x1 x2 x4 start k.val) h y e := by
  unfold out0_A_8
  rw [View.read_writes_of_cover _ _ arg10.view arg10.view.junk _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  unfold kernelRun0_A.sl.r kernelRun0_A.sl.r_1 kernelRun0_A.sl.r_2
  rw [load_wa, load_ba, load_ng]
  refine (read_result _ _ _ _ arg2 harg2 arg3 harg3 arg4 harg4 arg5 harg5 arg6 harg6 arg7 harg7 arg8 harg8 arg9 harg9 arg10 harg10 arg11 harg11 x5 x6 x7 x0 x1 x2 x3 x4 _ _ _ (le_refl _) k k.isLt h y e).trans ?_
  rw [read_start]

/-- The state after a point of the first kind. -/
theorem state_A (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 x7 = chain x5 x6 x1 x2 x4 start 8 := by
  unfold sout0_A_0
  rw [View.read_writes_of_cover _ _ arg11.view arg11.view.junk _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  unfold kernelRun0_A.sl.r kernelRun0_A.sl.r_1 kernelRun0_A.sl.r_2
  rw [load_wa, load_ba, load_ng, View.writes_append]
  refine (read_state _ _ _ _ arg2 harg2 arg3 harg3 arg4 harg4 arg5 harg5 arg6 harg6 arg7 harg7 arg8 harg8 arg9 harg9 arg10 harg10 arg11 harg11 x5 x6 x7 x0 x1 x2 x3 x4 _ _ (le_refl _)).trans ?_
  rw [read_start]
  exact congrArg _ trips_eq

/-- The rows of the result block after a point of the second kind. -/
theorem out_B (hc0 : ¬cond0_0 i) (xs0 : Vec Ideal S128x256 .f32) (k : Fin k0_t1_loop.trips) (h : Fin 4) (y : Fin 64) (e : Fin 128) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 (ix3 0 (rowOf k y) (col h e)) =
      chunkRes x5 x6 x7 (rows256 x0 k) (rows256 x1 k) (rows512 x2 k) (rows512 x3 k) (rows128 x4 k) (chain x5 x6 x1 x2 x4 xs0 k.val) h y e := by
  unfold out0_B_8
  rw [View.read_writes_of_cover _ _ arg10.view arg10.view.junk _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  unfold kernelRun0_B.sl.r kernelRun0_B.sl.r_1 kernelRun0_B.sl.r_2
  rw [load_wa, load_ba, load_ng]
  refine (read_result _ _ _ _ arg2 harg2 arg3 harg3 arg4 harg4 arg5 harg5 arg6 harg6 arg7 harg7 arg8 harg8 arg9 harg9 arg10 harg10 arg11 harg11 x5 x6 x7 x0 x1 x2 x3 x4 _ _ _ (le_refl _) k k.isLt h y e).trans ?_
  rw [harg11.read_unread]

/-- The state after a point of the second kind. -/
theorem state_B (hc0 : ¬cond0_0 i) (xs0 : Vec Ideal S128x256 .f32) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = chain x5 x6 x1 x2 x4 xs0 8 := by
  unfold sout0_B_0
  rw [View.read_writes_of_cover _ _ arg11.view (harg11.unread xs0) _ (scover0_B_0 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  unfold kernelRun0_B.sl.r kernelRun0_B.sl.r_1 kernelRun0_B.sl.r_2
  rw [load_wa, load_ba, load_ng]
  refine (read_state _ _ _ _ arg2 harg2 arg3 harg3 arg4 harg4 arg5 harg5 arg6 harg6 arg7 harg7 arg8 harg8 arg9 harg9 arg10 harg10 arg11 harg11 x5 x6 x7 x0 x1 x2 x3 x4 _ _ (le_refl _)).trans ?_
  rw [harg11.read_unread]
  exact congrArg _ trips_eq

end Cert.Gla
-- ==== Proof.GlaInput.lean ====
/- The blocks a grid point reads, at an index: columns of the projection's rows, the padded gate weights, the bias and the
   norm's weights. -/
module

public import proofs.«01_k».proof.Proof.GlaFrame
public import Idealize.ShloMosaic.Lib.Pipeline.ValueKit
public import Idealize.ShloMosaic.Lib.Pointwise

@[expose] public section

set_option maxRecDepth 16384

noncomputable section

namespace Cert.Gla

open Cert.KernelIdeal Cert.KernelIdeal.Gen
open Idealize.ShloMosaic Idealize.ShloMosaic.TcCoe

variable (m : (ℓ : Loc nD τ sig) → Buf (Elt Ideal) ℓ) (c : Dev nD) (t : Fin cfg0.N)

theorem idx0 : ∀ t : Fin cfg0.N, win0_0.index t = ![t.val / 4, t.val % 4, 0] := by decide +kernel
theorem idx1 : ∀ t : Fin cfg0.N, win0_1.index t = ![t.val / 4, t.val % 4, 1] := by decide +kernel
theorem idx2 : ∀ t : Fin cfg0.N, win0_2.index t = ![t.val / 4, t.val % 4, 1] := by decide +kernel
theorem idx3 : ∀ t : Fin cfg0.N, win0_3.index t = ![t.val / 4, t.val % 4, 2] := by decide +kernel
theorem idx4 : ∀ t : Fin cfg0.N, win0_4.index t = ![t.val / 4, t.val % 4, 22] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

theorem points : cfg0.N = 128 := by decide +kernel

/-- The batch row of a point and a block's row among its 2048 rows. -/
def batch : Fin 32 := ⟨t.val / 4, by have := t.isLt; have := points; omega⟩
def rowAt (y : Fin 512) : Fin 2048 := ⟨t.val % 4 * 512 + y.val, by omega⟩

/-- The projection. -/
abbrev proj : S32x2048x3072.Idx → EReal := m ((c : Thread nD τ).loc main_arg0)

theorem blk0 (y : Fin 512) (l : Fin 256) :
    (iblk m c 0 t : Vec Ideal S1x512x256 .f32) (ix3 0 y l) = proj m c (ix3 (batch t) (rowAt t y) ⟨l.val, by omega⟩) := by
  blk_ext [iblk, V, idx0 t, batch, rowAt]
theorem blk1 (y : Fin 512) (l : Fin 256) :
    (iblk m c 1 t : Vec Ideal S1x512x256 .f32) (ix3 0 y l) = proj m c (ix3 (batch t) (rowAt t y) ⟨256 + l.val, by omega⟩) := by
  blk_ext [iblk, V, idx1 t, batch, rowAt]
theorem blk2 (y : Fin 512) (l : Fin 512) :
    (iblk m c 2 t : Vec Ideal S1x512x512 .f32) (ix3 0 y l) = proj m c (ix3 (batch t) (rowAt t y) ⟨512 + l.val, by omega⟩) := by
  blk_ext [iblk, V, idx2 t, batch, rowAt]
theorem blk3 (y : Fin 512) (l : Fin 512) :
    (iblk m c 3 t : Vec Ideal S1x512x512 .f32) (ix3 0 y l) = proj m c (ix3 (batch t) (rowAt t y) ⟨1024 + l.val, by omega⟩) := by
  blk_ext [iblk, V, idx3 t, batch, rowAt]
theorem blk4 (y : Fin 512) (l : Fin 128) :
    (iblk m c 4 t : Vec Ideal S1x512x128 .f32) (ix3 0 y l) = proj m c (ix3 (batch t) (rowAt t y) ⟨2816 + l.val, by omega⟩) := by
  blk_ext [iblk, V, idx4 t, batch, rowAt]

/-- The gate weights, the bias and the norm's weights as the arguments hold them. -/
abbrev gateW : S16x256.Idx → EReal := m ((c : Thread nD τ).loc main_arg1)
abbrev gateB : S256.Idx → EReal := m ((c : Thread nD τ).loc main_arg2)
abbrev normW : S128.Idx → EReal := m ((c : Thread nD τ).loc main_arg3)

theorem host5 (x : Fin 128) (l : Fin 256) :
    (V m c main_v1 : S128x256.Idx → EReal) (ix2 x l) = if h : x.val < 16 then gateW m c (ix2 ⟨x.val, h⟩ l) else 0 := by
  simp only [V, hostOps0, hostOps0_1, hostOps0_2, List.flatten_cons, List.flatten_nil, List.append_nil, List.cons_append, List.nil_append]
  entry_read
  pointwise
  change pad S128x256 ![0, 0] ![112, 0] ![0, 0] (gateW m c) (sitofp (F := Ideal) FTy.f32 (constantI S_ 32 0#32)) pads_S16x256_S128x256_01120_000 h_S_ (ix2 x l) = _
  have hz : (sitofp (F := Ideal) FTy.f32 (constantI S_ 32 0#32) : FVec Ideal S_ .f32) = fun _ => 0 := by
    funext j
    change (((0#32 : BitVec 32).toInt : ℝ) : EReal) = 0
    simp
  rw [hz]
  pointwise
theorem host6 (l : Fin 256) : (V m c main_v2 : S1x256.Idx → EReal) (ix2 0 l) = gateB m c (ix1 l) := by
  simp only [V, hostOps0, hostOps0_1, hostOps0_2, List.flatten_cons, List.flatten_nil, List.append_nil, List.cons_append, List.nil_append]
  entry_read
  pointwise
theorem host7 (e : Fin 128) : (V m c main_v3 : S1x128.Idx → EReal) (ix2 0 e) = normW m c (ix1 e) := by
  simp only [V, hostOps0, hostOps0_1, hostOps0_2, List.flatten_cons, List.flatten_nil, List.append_nil, List.cons_append, List.nil_append]
  entry_read
  pointwise

theorem blk5 (x : Fin 128) (l : Fin 256) :
    (iblk m c 5 t : Vec Ideal S128x256 .bf16) (ix2 x l) = if h : x.val < 16 then gateW m c (ix2 ⟨x.val, h⟩ l) else 0 := by
  rw [← host5]
  blk_ext [iblk, idx5 t]
theorem blk6 (l : Fin 256) : (iblk m c 6 t : Vec Ideal S1x256 .f32) (ix2 0 l) = gateB m c (ix1 l) := by
  rw [← host6]
  blk_ext [iblk, idx6 t]
theorem blk7 (e : Fin 128) : (iblk m c 7 t : Vec Ideal S1x128 .f32) (ix2 0 e) = normW m c (ix1 e) := by
  rw [← host7]
  blk_ext [iblk, idx7 t]

end Cert.Gla
-- ==== Proof.GlaSpec.lean ====
/- Gated linear attention over a whole batch row, chunk by chunk, from the projection, the gate's weights and bias and the
   norm's weights: what both programs compute. -/
module

public import proofs.«01_k».proof.Proof.GlaChunk

@[expose] public section

set_option maxRecDepth 16384

noncomputable section

namespace Cert.Gla

open Idealize.ShloMosaic

/-- Row `i` of chunk `n` among a batch row's 2048 rows. -/
def rowT (n : ℕ) (i : Fin 64) : Fin 2048 := ⟨(n * 64 + i.val) % 2048, by omega⟩

section
variable (X : (⟨3, ![32, 2048, 3072]⟩ : Shape).Idx → EReal) (W : (⟨2, ![16, 256]⟩ : Shape).Idx → EReal)
  (B : (⟨1, ![256]⟩ : Shape).Idx → EReal) (G : (⟨1, ![128]⟩ : Shape).Idx → EReal) (b : Fin 32)

/-- The queries, keys and values of chunk `n`, and the values gating its results: columns of the projection. -/
def qs (n : ℕ) (i : Fin 64) (l : Fin 256) : EReal := X (ix3 b (rowT n i) ⟨l.val, by omega⟩)
def ks (n : ℕ) (i : Fin 64) (l : Fin 256) : EReal := X (ix3 b (rowT n i) ⟨256 + l.val, by omega⟩)
def vs (n : ℕ) (i : Fin 64) (c : Fin 512) : EReal := X (ix3 b (rowT n i) ⟨512 + c.val, by omega⟩)
def rs (n : ℕ) (i : Fin 64) (c : Fin 512) : EReal := X (ix3 b (rowT n i) ⟨1024 + c.val, by omega⟩)

/-- The logarithm of the gate at a row, from sixteen columns of the projection. -/
def gs (n : ℕ) (i : Fin 64) (l : Fin 256) : EReal :=
  logGate ((∑ x : Fin 16, X (ix3 b (rowT n i) ⟨2816 + x.val, by omega⟩) * W (ix2 x l)) + B (ix1 l))

/-- The cumulative decay within chunk `n`. -/
def ds (n : ℕ) (i : Fin 64) (l : Fin 256) : EReal := cum (fun j => gs X W B b n j l) i

/-- The state before chunk `n`. -/
def states : ℕ → Fin 256 → Fin 128 → EReal
  | 0 => fun _ _ => 0
  | n + 1 => chunkState (ks X b n) (ds X W B b n) (vs X b n) (states n)

/-- Chunk `n`'s rows of head `h`. -/
def outs (n : ℕ) (h : Fin 4) (i : Fin 64) (e : Fin 128) : EReal :=
  chunkOut (qs X b n) (ks X b n) (ds X W B b n) (vs X b n) (states X W B b n) h i e

/-- The layer's result: each head's rows normed and gated. -/
def result (n : ℕ) (h : Fin 4) (i : Fin 64) (e : Fin 128) : EReal :=
  normGate (outs X W B b n h i) (G (ix1 e)) (rs X b n i (col h e)) e

end

/-- A sum of 128 products whose second factors are zero from the sixteenth on. -/
theorem sum_padded (f : Fin 128 → EReal) (w : Fin 16 → EReal) :
    (∑ x : Fin 128, f x * (if h : x.val < 16 then w ⟨x.val, h⟩ else 0)) = ∑ x : Fin 16, f ⟨x.val, by omega⟩ * w x := by
  rw [show (∑ x : Fin 128, f x * (if h : x.val < 16 then w ⟨x.val, h⟩ else 0)) =
    ∑ x : Fin (16 + 112), f x * (if h : x.val < 16 then w ⟨x.val, h⟩ else 0) from rfl, Fin.sum_univ_add]
  rw [show (∑ i : Fin 112, f (Fin.natAdd 16 i) * (if h : (Fin.natAdd 16 i).val < 16 then w ⟨(Fin.natAdd 16 i).val, h⟩ else 0)) = 0 from
    Finset.sum_eq_zero fun i _ => by rw [dif_neg (by simp), mul_zero], add_zero]
  refine Finset.sum_congr rfl fun x _ => ?_
  rw [dif_pos (by simp)]
  rfl

end Cert.Gla

end
-- ==== Proof.GlaGrid.lean ====
/- The kernel's grid: point `4·b + j` holds batch row `b`'s rows `512·j` to `512·j + 511`, eight chunks; the state carried
   between the points of a batch row is the recurrence's, and the result blocks hold the layer's result. -/
module

public import proofs.«01_k».proof.Proof.GlaPoint
public import proofs.«01_k».proof.Proof.GlaInput
public import proofs.«01_k».proof.Proof.GlaSpec

@[expose] public section

set_option maxRecDepth 16384

noncomputable section

namespace Cert.Gla

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- The rows of chunk `k` of a point's block, among the batch row's rows. -/
theorem rowAt_rowOf (k : Fin k0_t1_loop.trips) (i : Fin 64) : rowAt t (rowOf k i) = rowT (8 * (t.val % 4) + k.val) i := by
  have := trip_lt k
  apply Fin.ext
  simp only [rowAt, rowOf, rowT]
  omega

section Blocks
variable (k : Fin k0_t1_loop.trips)

theorem chunk_q : (fun i l => rows256 (iblk m c 0 t) k (ix3 0 i l)) = qs (proj m c) (batch t) (8 * (t.val % 4) + k.val) := by
  funext i l; rw [rows256_apply, blk0, rowAt_rowOf]; rfl
theorem chunk_k : (fun i l => rows256 (iblk m c 1 t) k (ix3 0 i l)) = ks (proj m c) (batch t) (8 * (t.val % 4) + k.val) := by
  funext i l; rw [rows256_apply, blk1, rowAt_rowOf]; rfl
theorem chunk_v : (fun i l => rows512 (iblk m c 2 t) k (ix3 0 i l)) = vs (proj m c) (batch t) (8 * (t.val % 4) + k.val) := by
  funext i l; rw [rows512_apply, blk2, rowAt_rowOf]; rfl
theorem chunk_r (i : Fin 64) (l : Fin 512) : rows512 (iblk m c 3 t) k (ix3 0 i l) = rs (proj m c) (batch t) (8 * (t.val % 4) + k.val) i l := by
  rw [rows512_apply, blk3, rowAt_rowOf]; rfl
theorem chunk_gate (i : Fin 64) (l : Fin 256) : gate (iblk m c 5 t) (iblk m c 6 t) (rows128 (iblk m c 4 t) k) i l =
    gs (proj m c) (gateW m c) (gateB m c) (batch t) (8 * (t.val % 4) + k.val) i l := by
  unfold gate gs
  simp only [rows128_apply, blk4, blk5, blk6, rowAt_rowOf]
  rw [sum_padded _ (fun x => gateW m c (ix2 x l))]
theorem chunk_decay : decay (iblk m c 5 t) (iblk m c 6 t) (rows128 (iblk m c 4 t) k) =
    ds (proj m c) (gateW m c) (gateB m c) (batch t) (8 * (t.val % 4) + k.val) := by
  funext i l; unfold decay ds; simp only [chunk_gate]

end Blocks

/-- The recurrence's state, read off a block of the kernel's transposed layout. -/
def Holds (n : ℕ) (s : Vec Ideal S128x256 .f32) : Prop :=
  ∀ l e, s (ix2 e l) = states (proj m c) (gateW m c) (gateB m c) (batch t) n l e

/-- The passes of a point keep the state the recurrence's. -/
theorem holds_chain (s : Vec Ideal S128x256 .f32) (hs : Holds m c t (8 * (t.val % 4)) s) :
    ∀ n ≤ 8, Holds m c t (8 * (t.val % 4) + n) (chain (iblk m c 5 t) (iblk m c 6 t) (iblk m c 1 t) (iblk m c 2 t) (iblk m c 4 t) s n)
  | 0, _ => hs
  | n + 1, hn => fun l e => by
    have ih := holds_chain s hs n (by omega)
    rw [chain, dif_pos (show n < k0_t1_loop.trips by rw [trips_eq]; omega), newState_apply, chunk_k m c t ⟨n, _⟩,
      chunk_v m c t ⟨n, _⟩, chunk_decay m c t ⟨n, _⟩]
    rw [show (fun l e => chain (iblk m c 5 t) (iblk m c 6 t) (iblk m c 1 t) (iblk m c 2 t) (iblk m c 4 t) s n (ix2 e l)) = _ from
      funext fun l => funext fun e => ih l e]
    rfl

/-- A chunk's rows are the layer's result. -/
theorem chunk_result (s : Vec Ideal S128x256 .f32) (hs : Holds m c t (8 * (t.val % 4)) s) (k : Fin k0_t1_loop.trips)
    (h : Fin 4) (y : Fin 64) (e : Fin 128) :
    chunkRes (iblk m c 5 t) (iblk m c 6 t) (iblk m c 7 t) (rows256 (iblk m c 0 t) k) (rows256 (iblk m c 1 t) k)
        (rows512 (iblk m c 2 t) k) (rows512 (iblk m c 3 t) k) (rows128 (iblk m c 4 t) k)
        (chain (iblk m c 5 t) (iblk m c 6 t) (iblk m c 1 t) (iblk m c 2 t) (iblk m c 4 t) s k.val) h y e =
      result (proj m c) (gateW m c) (gateB m c) (normW m c) (batch t) (8 * (t.val % 4) + k.val) h y e := by
  have hk := holds_chain m c t s hs k.val (le_of_lt (trip_lt k))
  rw [chunkRes, chunk_q, chunk_k, chunk_v, chunk_decay, chunk_r, blk7,
    show (fun l e => chain (iblk m c 5 t) (iblk m c 6 t) (iblk m c 1 t) (iblk m c 2 t) (iblk m c 4 t) s k.val (ix2 e l)) = _ from
      funext fun l => funext fun e => hk l e]
  rfl

theorem holds_start (h0 : t.val % 4 = 0) : Holds m c t (8 * (t.val % 4)) start := fun l e => by
  rw [h0]
  exact Ideal.ofBits_zero_f32

/-- What a point leaves, from a state that is the recurrence's where the point reads one. -/
def Left (s : Vec Ideal S1x512x512 .bf16 × Vec Ideal S128x256 .f32) : Prop :=
  Holds m c t (8 * (t.val % 4) + 8) s.2 ∧ ∀ (k : Fin k0_t1_loop.trips) (h : Fin 4) (y : Fin 64) (e : Fin 128),
    s.1 (ix3 0 (rowOf k y) (col h e)) =
      result (proj m c) (gateW m c) (gateB m c) (normW m c) (batch t) (8 * (t.val % 4) + k.val) h y e

theorem left_A (h0 : t.val % 4 = 0) : Left m c t (outsAt0 m c t.val t.isLt) := by
  rw [outsAt0_A m c t h0]
  refine ⟨?_, fun k h y e => ?_⟩
  · dsimp only
    rw [state_A]
    exact holds_chain m c t _ (holds_start m c t h0) 8 le_rfl
  · dsimp only
    rw [out_A]
    exact chunk_result m c t _ (holds_start m c t h0) k h y e

theorem left_B (h0 : ¬t.val % 4 = 0) (hs : Holds m c t (8 * (t.val % 4)) (outsAt0 m c (t.val - 1) (by omega)).2) :
    Left m c t (outsAt0 m c t.val t.isLt) := by
  rw [outsAt0_B m c t h0]
  refine ⟨?_, fun k h y e => ?_⟩
  · dsimp only
    rw [state_B]
    exact holds_chain m c t _ hs 8 le_rfl
  · dsimp only
    rw [out_B]
    exact chunk_result m c t _ hs k h y e

/-- What every point leaves. -/
theorem left_all : ∀ (n : ℕ) (hn : n < cfg0.N), Left m c ⟨n, hn⟩ (outsAt0 m c n hn)
  | 0, hn => left_A m c ⟨0, hn⟩ rfl
  | n + 1, hn => by
    by_cases h0 : (n + 1) % 4 = 0
    · exact left_A m c ⟨n + 1, hn⟩ h0
    · refine left_B m c ⟨n + 1, hn⟩ h0 fun l e => ?_
      have ih := (left_all n (by omega)).1 l e
      have hb : batch ⟨n, by omega⟩ = batch ⟨n + 1, hn⟩ := Fin.ext (by simp only [batch]; omega)
      have hn' : 8 * (n % 4) + 8 = 8 * ((n + 1) % 4) := by omega
      rw [hb] at ih
      simp only [hn'] at ih
      exact ih

end Cert.Gla

end
-- ==== Proof.GlaArray.lean ====
/- The kernel's result array, at an index. -/
module

public import proofs.«01_k».proof.Proof.GlaGrid
public import proofs.«01_k».proof.Proof.GlaValue

@[expose] public section

set_option maxRecDepth 16384

noncomputable section

namespace Cert.Gla

open Cert.KernelIdeal Cert.KernelIdeal.Gen
open Idealize.ShloMosaic Idealize.ShloMosaic.TcCoe

variable (m : (ℓ : Loc nD τ sig) → Buf (Elt Ideal) ℓ) (c : Dev nD)

/-- The array the kernel leaves holds the layer's result. -/
theorem array_apply (b : Fin 32) (s : Fin 2048) (e : Fin 512) :
    (Value.G8 m c : S32x2048x512.Idx → EReal) (ix3 b s e) =
      result (proj m c) (gateW m c) (gateB m c) (normW m c) b (s.val / 64) ⟨e.val / 128, by omega⟩ ⟨s.val % 64, by omega⟩
        ⟨e.val % 128, by omega⟩ := by
  have hp : Value.pt8Of (ix3 b s e) = 4 * b.val + s.val / 512 := by
    change 4 * (b.val / 1 - 0) + 1 * (s.val / 512 - 0) + 1 * (e.val / 512 - 0) = _
    omega
  have hN : 4 * b.val + s.val / 512 < cfg0.N := by rw [points]; omega
  unfold Value.G8
  rw [dif_pos (hp ▸ hN), ← Value.outsAt0_sweep m c _ (hp ▸ hN)]
  have hl : Value.loc8Of (ix3 b s e) = ix3 0 (rowOf ⟨s.val % 512 / 64, by rw [trips_eq]; omega⟩ ⟨s.val % 64, by omega⟩)
      (col ⟨e.val / 128, by omega⟩ ⟨e.val % 128, by omega⟩) := by
    funext a
    apply Fin.ext
    fin_cases a
    · change b.val % 1 = 0; omega
    · change s.val % 512 = 64 * (s.val % 512 / 64) + s.val % 64; omega
    · change e.val % 512 = e.val / 128 * 128 + e.val % 128; omega
  rw [hl, (left_all m c _ (hp ▸ hN)).2]
  have hb : batch ⟨Value.pt8Of (ix3 b s e), hp ▸ hN⟩ = b := Fin.ext (by simp only [batch, hp]; omega)
  have hn : 8 * ((⟨Value.pt8Of (ix3 b s e), hp ▸ hN⟩ : Fin cfg0.N).val % 4) + s.val % 512 / 64 = s.val / 64 := by
    simp only [hp]; omega
  rw [hb]
  simp only [hn]

end Cert.Gla

end
-- ==== Proof.GlaWindow.lean ====
/- The reference's cumulative sum, a sum over a window padded below, as the sum of the rows up to a row. -/
module

public import proofs.«01_k».proof.ReferenceIdeal
public import proofs.«01_k».proof.Proof.GlaMath

@[expose] public section

set_option maxRecDepth 16384

noncomputable section

namespace Cert.Gla

open Cert.ReferenceIdeal
open Idealize.ShloMosaic

theorem foldl_add {ι : Type} (L : List ι) (f : ι → EReal) (v : EReal) : L.foldl (fun r n => r + f n) v = v + (L.map f).sum := by
  induction L generalizing v with
  | nil => simp
  | cons a L ih => rw [List.foldl_cons, ih, List.map_cons, List.sum_cons, add_assoc]

/-- The window's positions that are rows, in the order of the rows. -/
theorem sum_window (g : Fin 64 → EReal) (i : Fin 64) :
    (∑ w : Fin 64, if 63 ≤ i.val + w.val then g ⟨(i.val + w.val + 1) % 64, by omega⟩ else 0) = cum g i := by
  unfold cum
  refine Fintype.sum_bijective (fun w : Fin 64 => (⟨(i.val + w.val + 1) % 64, by omega⟩ : Fin 64))
    (Finite.injective_iff_bijective.mp fun a b hab => ?_) _ _ fun w => ?_
  · have := congrArg Fin.val hab
    dsimp only at this
    exact Fin.ext (by omega)
  · dsimp only
    by_cases h : 63 ≤ i.val + w.val
    · rw [if_pos h, if_pos (by omega)]
    · rw [if_neg h, if_neg (by omega)]

/-- The row of a window's position, or zero where the position is padding. -/
def windowTerm (x : S32x4x64x64.Idx → EReal) (b : Fin 32) (h : Fin 4) (i d : Fin 64) (w : (⟨4, ![1, 1, 64, 1]⟩ : Shape).Idx) : EReal :=
  if hin : ∀ a : Fin 4, (![0, 0, 63, 0] : Fin 4 → ℕ) a ≤ ((ix4 b h i d : S32x4x64x64.Idx) a).val * (![1, 1, 1, 1] : Fin 4 → ℕ) a + (w a).val ∧
      ((ix4 b h i d : S32x4x64x64.Idx) a).val * (![1, 1, 1, 1] : Fin 4 → ℕ) a + (w a).val - (![0, 0, 63, 0] : Fin 4 → ℕ) a < (![32, 4, 64, 64] : Fin 4 → ℕ) a
  then x (fun a => ⟨((ix4 b h i d : S32x4x64x64.Idx) a).val * (![1, 1, 1, 1] : Fin 4 → ℕ) a + (w a).val - (![0, 0, 63, 0] : Fin 4 → ℕ) a, (hin a).2⟩)
  else 0

/-- The window sum of the chunk's rows is their cumulative sum. -/
theorem cumulative (x : S32x4x64x64.Idx → EReal)
    (hw : S32x4x64x64.ReduceWindows (![1, 1, 64, 1] : Fin 4 → Nat) ![1, 1, 1, 1] ![0, 0, 63, 0] ![0, 0, 0, 0] S32x4x64x64)
    (b : Fin 32) (h : Fin 4) (i d : Fin 64) :
    Ideal.hostReduceWindowAdd (s := S32x4x64x64) (t := S32x4x64x64) ![1, 1, 64, 1] ![1, 1, 1, 1] ![0, 0, 63, 0] ![0, 0, 0, 0] hw x 0 (ix4 b h i d) =
      cum (fun j => x (ix4 b h j d)) i := by
  unfold Ideal.hostReduceWindowAdd Host.reduceWindow
  dsimp only
  rw [foldl_add, zero_add]
  refine (Fin.sum_univ_def _).symm.trans ?_
  refine (Finset.sum_congr rfl fun n _ => dite_congr rfl (fun _ => rfl) fun _ => rfl).trans
    (Eq.trans (Equiv.sum_comp (⟨4, ![1, 1, 64, 1]⟩ : Shape).rowMajor.symm (windowTerm x b h i d)) ?_)
  rw [sum_idx4, ← sum_window]
  simp only [Fin.sum_univ_one]
  refine Finset.sum_congr rfl fun w _ => ?_
  unfold windowTerm
  by_cases hi : 63 ≤ i.val + w.val
  · rw [if_pos hi, dif_pos (fun a => by fin_cases a <;> simp [ix4] <;> omega)]
    congr 1
    funext a
    apply Fin.ext
    fin_cases a <;> simp [ix4]
    omega
  · rw [if_neg hi, dif_neg (fun hin => hi ?_)]
    have := (hin 2).1
    simpa [ix4] using this

end Cert.Gla

end
-- ==== Proof.GlaRef.lean ====
/- The reference, at an index: the arrays its loop over the chunks reads, one trip's result rows and the state after it. -/
module

public import proofs.«01_k».proof.Proof.Gen.ReferenceIdeal.Step
public import proofs.«01_k».proof.Proof.GlaSpec
public import proofs.«01_k».proof.Proof.GlaWindow
public import Idealize.ShloMosaic.Lib.Pointwise

@[expose] public section

set_option maxRecDepth 16384

noncomputable section

namespace Cert.Gla.Ref

open Cert.ReferenceIdeal Cert.ReferenceIdeal.Gen Cert.ReferenceIdeal.Step
open Idealize.ShloMosaic Idealize.ShloMosaic.TcCoe

section Inputs
variable (a0 : S32x2048x3072.Idx → EReal) (a1 : S16x256.Idx → EReal) (a2 : S256.Idx → EReal)

theorem row_eq (n : Fin 32) (i : Fin 64) : (⟨n.val * 64 + i.val, by omega⟩ : Fin 2048) = rowT n.val i :=
  Fin.ext (by simp only [rowT]; omega)

theorem queries (n b : Fin 32) (h : Fin 4) (i d : Fin 64) :
    (A_main_v7 (F := Ideal) a0 a1 a2 : S32x32x4x64x64.Idx → EReal) (ix5 n b h i d) = qs a0 b n.val i (lane h d) * scale := by
  unfold qs
  rw [← row_eq]
  pointwise [lane, K_main_cst, K_main_v6, K_main_cst_0, K_main_v17, K_main_v19, K_main_v22, K_main_cst_1, K_main_v31, A_main_v0, A_main_v1, A_main_v2, A_main_v3, A_main_v4, A_main_v5, A_main_v7, A_main_v8, A_main_v9, A_main_v10, A_main_v11, A_main_v12, A_main_v13, A_main_v14, A_main_v15, A_main_v16, A_main_v18, A_main_v20, A_main_v21, A_main_v23, A_main_v24, A_main_v25, A_main_v26, A_main_v27, A_main_v28, A_main_v29, A_main_v30, A_main_v32, A_main_v33, A_main_v34]

theorem keys (n b : Fin 32) (h : Fin 4) (i d : Fin 64) :
    (A_main_v9 (F := Ideal) a0 a1 a2 : S32x32x4x64x64.Idx → EReal) (ix5 n b h i d) = ks a0 b n.val i (lane h d) := by
  unfold ks
  rw [← row_eq]
  pointwise [lane, K_main_cst, K_main_v6, K_main_cst_0, K_main_v17, K_main_v19, K_main_v22, K_main_cst_1, K_main_v31, A_main_v0, A_main_v1, A_main_v2, A_main_v3, A_main_v4, A_main_v5, A_main_v7, A_main_v8, A_main_v9, A_main_v10, A_main_v11, A_main_v12, A_main_v13, A_main_v14, A_main_v15, A_main_v16, A_main_v18, A_main_v20, A_main_v21, A_main_v23, A_main_v24, A_main_v25, A_main_v26, A_main_v27, A_main_v28, A_main_v29, A_main_v30, A_main_v32, A_main_v33, A_main_v34]

theorem values (n b : Fin 32) (h : Fin 4) (i : Fin 64) (e : Fin 128) :
    (A_main_v11 (F := Ideal) a0 a1 a2 : S32x32x4x64x128.Idx → EReal) (ix5 n b h i e) = vs a0 b n.val i (col h e) := by
  unfold vs
  rw [← row_eq]
  pointwise [col, K_main_cst, K_main_v6, K_main_cst_0, K_main_v17, K_main_v19, K_main_v22, K_main_cst_1, K_main_v31, A_main_v0, A_main_v1, A_main_v2, A_main_v3, A_main_v4, A_main_v5, A_main_v7, A_main_v8, A_main_v9, A_main_v10, A_main_v11, A_main_v12, A_main_v13, A_main_v14, A_main_v15, A_main_v16, A_main_v18, A_main_v20, A_main_v21, A_main_v23, A_main_v24, A_main_v25, A_main_v26, A_main_v27, A_main_v28, A_main_v29, A_main_v30, A_main_v32, A_main_v33, A_main_v34]

theorem gates (n b : Fin 32) (h : Fin 4) (i d : Fin 64) :
    (A_main_v34 (F := Ideal) a0 a1 a2 : S32x32x4x64x64.Idx → EReal) (ix5 n b h i d) = gs a0 a1 a2 b n.val i (lane h d) := by
  unfold gs logGate
  rw [← row_eq]
  pointwise [lane, K_main_cst, K_main_v6, K_main_cst_0, K_main_v17, K_main_v19, K_main_v22, K_main_cst_1, K_main_v31, A_main_v0, A_main_v1, A_main_v2, A_main_v3, A_main_v4, A_main_v5, A_main_v7, A_main_v8, A_main_v9, A_main_v10, A_main_v11, A_main_v12, A_main_v13, A_main_v14, A_main_v15, A_main_v16, A_main_v18, A_main_v20, A_main_v21, A_main_v23, A_main_v24, A_main_v25, A_main_v26, A_main_v27, A_main_v28, A_main_v29, A_main_v30, A_main_v32, A_main_v33, A_main_v34]
  generalize (∑ x, a0 (ix3 b _ ⟨2816 + x.val, _⟩) * a1 (ix2 x _)) + a2 (ix1 _) = z
  rw [if_neg (fun hne => hne rfl)]
  change Ideal.div (-(max (-z) 0 + Ideal.log1p (Ideal.exp (-(max (-z) (- -z)))))) _ = _
  rw [neg_neg, max_comm (-z) z]

end Inputs

section Trip
variable (n : ℕ) (hn : n < 32) (s : State Ideal) (b : Fin 32) (h : Fin 4)
include hn

/-- The slice a trip takes starts at the trip's number. -/
theorem start_eq : (BitVec.ofNat 32 n).toInt = (n : ℤ) := by
  rw [BitVec.toInt_eq_toNat_of_lt (by rw [BitVec.toNat_ofNat]; omega), BitVec.toNat_ofNat]
  omega

theorem slice_apply {w : ℕ} (x : (⟨5, ![32, 32, 4, 64, w]⟩ : Shape).Idx → EReal) (f : Fin 5 → ℤ) (h0 : f 0 = n) (h1 : f 1 = 0)
    (h2 : f 2 = 0) (h3 : f 3 = 0) (h4 : f 4 = 0)
    (hs : (⟨5, ![32, 32, 4, 64, w]⟩ : Shape).Slices (fun _ => 0) ⟨5, ![1, 32, 4, 64, w]⟩) (i : Fin 64) (d : Fin w) :
    Host.dynamicSlice (⟨5, ![1, 32, 4, 64, w]⟩ : Shape) x f hs (ix5 0 b h i d) = x (ix5 ⟨n, hn⟩ b h i d) := by
  rw [Host.dynamicSlice_apply]
  congr 1
  funext a
  apply Fin.ext
  fin_cases a
  · change (min (max (f 0) 0) ((32 - 1 : ℕ) : ℤ)).toNat + 0 = n
    omega
  · change (min (max (f 1) 0) ((32 - 32 : ℕ) : ℤ)).toNat + b.val = b.val
    omega
  · change (min (max (f 2) 0) ((4 - 4 : ℕ) : ℤ)).toNat + h.val = h.val
    omega
  · change (min (max (f 3) 0) ((64 - 64 : ℕ) : ℤ)).toNat + i.val = i.val
    omega
  · change (min (max (f 4) 0) ((w - w : ℕ) : ℤ)).toNat + d.val = d.val
    omega

theorem update_apply (x : S32x32x4x64x128.Idx → EReal) (u : S1x32x4x64x128.Idx → EReal) (f : Fin 5 → ℤ) (h0 : f 0 = n) (h1 : f 1 = 0)
    (h2 : f 2 = 0) (h3 : f 3 = 0) (h4 : f 4 = 0) (hs : S32x32x4x64x128.Slices (fun _ => 0) S1x32x4x64x128)
    (n' : Fin 32) (i : Fin 64) (e : Fin 128) :
    Host.dynamicUpdateSlice x u f hs (ix5 n' b h i e) = if n'.val = n then u (ix5 0 b h i e) else x (ix5 n' b h i e) := by
  have c0 : Host.clampedStart S32x32x4x64x128 S1x32x4x64x128 hs.1 f 0 = n := by
    change (min (max (f 0) 0) ((32 - 1 : ℕ) : ℤ)).toNat = n
    omega
  have c1 : Host.clampedStart S32x32x4x64x128 S1x32x4x64x128 hs.1 f 1 = 0 := by
    change (min (max (f 1) 0) ((32 - 32 : ℕ) : ℤ)).toNat = 0
    omega
  have c2 : Host.clampedStart S32x32x4x64x128 S1x32x4x64x128 hs.1 f 2 = 0 := by
    change (min (max (f 2) 0) ((4 - 4 : ℕ) : ℤ)).toNat = 0
    omega
  have c3 : Host.clampedStart S32x32x4x64x128 S1x32x4x64x128 hs.1 f 3 = 0 := by
    change (min (max (f 3) 0) ((64 - 64 : ℕ) : ℤ)).toNat = 0
    omega
  have c4 : Host.clampedStart S32x32x4x64x128 S1x32x4x64x128 hs.1 f 4 = 0 := by
    change (min (max (f 4) 0) ((128 - 128 : ℕ) : ℤ)).toNat = 0
    omega
  rw [Host.dynamicUpdateSlice_apply]
  by_cases hnn : n'.val = n
  · rw [if_pos hnn, dif_pos]
    · congr 1
      funext a
      apply Fin.ext
      fin_cases a
      · change n'.val - Host.clampedStart S32x32x4x64x128 S1x32x4x64x128 hs.1 f 0 = 0
        omega
      · change b.val - Host.clampedStart S32x32x4x64x128 S1x32x4x64x128 hs.1 f 1 = b.val
        omega
      · change h.val - Host.clampedStart S32x32x4x64x128 S1x32x4x64x128 hs.1 f 2 = h.val
        omega
      · change i.val - Host.clampedStart S32x32x4x64x128 S1x32x4x64x128 hs.1 f 3 = i.val
        omega
      · change e.val - Host.clampedStart S32x32x4x64x128 S1x32x4x64x128 hs.1 f 4 = e.val
        omega
    · intro a
      fin_cases a
      · change Host.clampedStart S32x32x4x64x128 S1x32x4x64x128 hs.1 f 0 ≤ n'.val ∧ n'.val < Host.clampedStart S32x32x4x64x128 S1x32x4x64x128 hs.1 f 0 + 1
        omega
      · change Host.clampedStart S32x32x4x64x128 S1x32x4x64x128 hs.1 f 1 ≤ b.val ∧ b.val < Host.clampedStart S32x32x4x64x128 S1x32x4x64x128 hs.1 f 1 + 32
        omega
      · change Host.clampedStart S32x32x4x64x128 S1x32x4x64x128 hs.1 f 2 ≤ h.val ∧ h.val < Host.clampedStart S32x32x4x64x128 S1x32x4x64x128 hs.1 f 2 + 4
        omega
      · change Host.clampedStart S32x32x4x64x128 S1x32x4x64x128 hs.1 f 3 ≤ i.val ∧ i.val < Host.clampedStart S32x32x4x64x128 S1x32x4x64x128 hs.1 f 3 + 64
        omega
      · change Host.clampedStart S32x32x4x64x128 S1x32x4x64x128 hs.1 f 4 ≤ e.val ∧ e.val < Host.clampedStart S32x32x4x64x128 S1x32x4x64x128 hs.1 f 4 + 128
        omega
  · rw [if_neg hnn, dif_neg]
    intro hin
    have := hin 0
    change Host.clampedStart S32x32x4x64x128 S1x32x4x64x128 hs.1 f 0 ≤ n'.val ∧ n'.val < Host.clampedStart S32x32x4x64x128 S1x32x4x64x128 hs.1 f 0 + 1 at this
    omega

theorem slice_q (i : Fin 64) (d : Fin 64) : (b5 n s : S32x4x64x64.Idx → EReal) (ix4 b h i d) = s.main_v39_0 (ix5 ⟨n, hn⟩ b h i d) := by
  have e : (b4 n s : S1x32x4x64x64.Idx → EReal) (ix5 0 b h i d) = s.main_v39_0 (ix5 ⟨n, hn⟩ b h i d) := by
    unfold b4
    exact slice_apply n hn b h _ _ (start_eq n hn) rfl rfl rfl rfl _ i d
  rw [← e]
  unfold b5
  generalize b4 n s = x
  pointwise

theorem slice_k (i : Fin 64) (d : Fin 64) : (b11 n s : S32x4x64x64.Idx → EReal) (ix4 b h i d) = s.main_v39_1 (ix5 ⟨n, hn⟩ b h i d) := by
  have e : (b10 n s : S1x32x4x64x64.Idx → EReal) (ix5 0 b h i d) = s.main_v39_1 (ix5 ⟨n, hn⟩ b h i d) := by
    unfold b10
    exact slice_apply n hn b h _ _ (start_eq n hn) rfl rfl rfl rfl _ i d
  rw [← e]
  unfold b11
  generalize b10 n s = x
  pointwise

theorem slice_v (i : Fin 64) (d : Fin 128) : (b17 n s : S32x4x64x128.Idx → EReal) (ix4 b h i d) = s.main_v39_2 (ix5 ⟨n, hn⟩ b h i d) := by
  have e : (b16 n s : S1x32x4x64x128.Idx → EReal) (ix5 0 b h i d) = s.main_v39_2 (ix5 ⟨n, hn⟩ b h i d) := by
    unfold b16
    exact slice_apply n hn b h _ _ (start_eq n hn) rfl rfl rfl rfl _ i d
  rw [← e]
  unfold b17
  generalize b16 n s = x
  pointwise

theorem slice_g (i : Fin 64) (d : Fin 64) : (b23 n s : S32x4x64x64.Idx → EReal) (ix4 b h i d) = s.main_v39_3 (ix5 ⟨n, hn⟩ b h i d) := by
  have e : (b22 n s : S1x32x4x64x64.Idx → EReal) (ix5 0 b h i d) = s.main_v39_3 (ix5 ⟨n, hn⟩ b h i d) := by
    unfold b22
    exact slice_apply n hn b h _ _ (start_eq n hn) rfl rfl rfl rfl _ i d
  rw [← e]
  unfold b23
  generalize b22 n s = x
  pointwise

theorem sum_decay (i d : Fin 64) : (b26 n s : S32x4x64x64.Idx → EReal) (ix4 b h i d) =
    cum (fun j => (b23 n s : S32x4x64x64.Idx → EReal) (ix4 b h j d)) i := by
  unfold b26
  have hz : (b25 n s : S_.Idx → EReal) = fun _ => 0 := by
    funext j
    unfold b25 b24
    exact Ideal.ofBits_zero_f32
  rw [hz]
  exact cumulative _ reduceWindows_S32x4x64x64_S32x4x64x64_w1s1p0_0_w1s1p0_0_w64s1p63_0_w1s1p0_0 _ _ _ _

omit hn in
theorem triangle (i j : Fin 64) : (K_main_v36 (F := Ideal) : S64x64.Idx → BitVec 1) (ix2 i j) = if j.val ≤ i.val then 1#1 else 0#1 := by
  pointwise [K_main_v36, K_main_call0_v5, K_main_call0_c_0, K_main_call0_v4, K_main_call0_v3, K_main_call0_v2, K_main_call0_v1, K_main_call0_c, K_main_call0_v0, K_main_v35, K_main_c]
  revert i j
  decide +kernel

/-- One trip's result rows are the chunk's, where the trip's values are the chunk's. -/
theorem trip_out (i : Fin 64) (e : Fin 128) (S : Fin 256 → Fin 128 → EReal) (q k g : Fin 64 → Fin 256 → EReal) (v : Fin 64 → Fin 512 → EReal)
    (hS : ∀ d e, s.main_v39_6 (ix4 b h d e) = S (lane h d) e)
    (hq : ∀ i d, (b5 n s : S32x4x64x64.Idx → EReal) (ix4 b h i d) = q i (lane h d) * scale)
    (hk : ∀ i d, (b11 n s : S32x4x64x64.Idx → EReal) (ix4 b h i d) = k i (lane h d))
    (hv : ∀ i e, (b17 n s : S32x4x64x128.Idx → EReal) (ix4 b h i e) = v i (col h e))
    (hg : ∀ i d, (b26 n s : S32x4x64x64.Idx → EReal) (ix4 b h i d) = g i (lane h d)) :
    (b50 n s : S32x4x64x128.Idx → EReal) (ix4 b h i e) = chunkOut q k g v S h i e := by
  unfold chunkOut
  simp only [← hS, ← hq, ← hk, ← hv, ← hg]
  pointwise [b50, b49, b48, b47, b46, b45, b44, b43, b42, b41, b40, b39, b38, b37, b36, b35, b34, b33, b32, b31, b30, b29, b28, b27]
  simp only [triangle, select_if, ofBits_bot]

/-- The state after one trip is the state after the chunk. -/
theorem trip_state (d : Fin 64) (e : Fin 128) (S : Fin 256 → Fin 128 → EReal) (k g : Fin 64 → Fin 256 → EReal) (v : Fin 64 → Fin 512 → EReal)
    (hS : ∀ d e, s.main_v39_6 (ix4 b h d e) = S (lane h d) e)
    (hk : ∀ i d, (b11 n s : S32x4x64x64.Idx → EReal) (ix4 b h i d) = k i (lane h d))
    (hv : ∀ i e, (b17 n s : S32x4x64x128.Idx → EReal) (ix4 b h i e) = v i (col h e))
    (hg : ∀ i d, (b26 n s : S32x4x64x64.Idx → EReal) (ix4 b h i d) = g i (lane h d)) :
    (b62 n s : S32x4x64x128.Idx → EReal) (ix4 b h d e) = chunkState k g v S (lane h d) e := by
  unfold chunkState
  rw [headOf_lane]
  simp only [← hS, ← hk, ← hv, ← hg]
  pointwise [b62, b61, b60, b59, b58, b57, b56, b55, b54, b53, b52, b51]

end Trip

/-- The loop's state before trip `n`. -/
def iter (s0 : State Ideal) : ℕ → State Ideal
  | 0 => s0
  | n + 1 => step n (iter s0 n)

section Loop
variable (a0 : S32x2048x3072.Idx → EReal) (a1 : S16x256.Idx → EReal) (a2 : S256.Idx → EReal)

theorem kept0 : ∀ n, (iter (init a0 a1 a2) n).main_v39_0 = A_main_v7 (F := Ideal) a0 a1 a2
  | 0 => rfl
  | n + 1 => kept0 n
theorem kept1 : ∀ n, (iter (init a0 a1 a2) n).main_v39_1 = A_main_v9 (F := Ideal) a0 a1 a2
  | 0 => rfl
  | n + 1 => kept1 n
theorem kept2 : ∀ n, (iter (init a0 a1 a2) n).main_v39_2 = A_main_v11 (F := Ideal) a0 a1 a2
  | 0 => rfl
  | n + 1 => kept2 n
theorem kept3 : ∀ n, (iter (init a0 a1 a2) n).main_v39_3 = A_main_v34 (F := Ideal) a0 a1 a2
  | 0 => rfl
  | n + 1 => kept3 n

variable (n : ℕ) (hn : n < 32) (b : Fin 32) (h : Fin 4)
include hn

theorem trip_q (i d : Fin 64) : (b5 n (iter (init a0 a1 a2) n) : S32x4x64x64.Idx → EReal) (ix4 b h i d) = qs a0 b n i (lane h d) * scale := by
  rw [slice_q n hn, kept0, queries]
theorem trip_k (i d : Fin 64) : (b11 n (iter (init a0 a1 a2) n) : S32x4x64x64.Idx → EReal) (ix4 b h i d) = ks a0 b n i (lane h d) := by
  rw [slice_k n hn, kept1, keys]
theorem trip_v (i : Fin 64) (e : Fin 128) : (b17 n (iter (init a0 a1 a2) n) : S32x4x64x128.Idx → EReal) (ix4 b h i e) = vs a0 b n i (col h e) := by
  rw [slice_v n hn, kept2, values]
theorem trip_g (i d : Fin 64) : (b26 n (iter (init a0 a1 a2) n) : S32x4x64x64.Idx → EReal) (ix4 b h i d) = ds a0 a1 a2 b n i (lane h d) := by
  rw [sum_decay n hn, ds]
  congr 1
  funext j
  rw [slice_g n hn, kept3, gates]

end Loop

section Result
variable (a0 : S32x2048x3072.Idx → EReal) (a1 : S16x256.Idx → EReal) (a2 : S256.Idx → EReal) (a3 : S128.Idx → EReal)

/-- The loop's state is the recurrence's. -/
theorem iter_state (b : Fin 32) (h : Fin 4) : ∀ n ≤ 32, ∀ (d : Fin 64) (e : Fin 128),
    (iter (init a0 a1 a2) n).main_v39_6 (ix4 b h d e) = states a0 a1 a2 b n (lane h d) e
  | 0, _, d, e => by
    change (K_main_v37 (F := Ideal) : S32x4x64x128.Idx → EReal) (ix4 b h d e) = 0
    pointwise [K_main_v37, K_main_cst_2]
  | n + 1, hn, d, e =>
    trip_state n hn _ b h d e _ _ _ _ (iter_state b h n (by omega)) (trip_k a0 a1 a2 n hn b h) (trip_v a0 a1 a2 n hn b h)
      (trip_g a0 a1 a2 n hn b h)

/-- The chunks done before trip `n`. -/
theorem iter_out (b : Fin 32) (h : Fin 4) (i : Fin 64) (e : Fin 128) (n' : Fin 32) : ∀ n ≤ 32, n'.val < n →
    (iter (init a0 a1 a2) n).main_v39_7 (ix5 n' b h i e) = outs a0 a1 a2 b n'.val h i e
  | 0, _, hlt => absurd hlt (by omega)
  | n + 1, hn, hlt => by
    change (b68 n (iter (init a0 a1 a2) n) : S32x32x4x64x128.Idx → EReal) (ix5 n' b h i e) = _
    unfold b68
    refine (update_apply n hn b h _ _ _ (start_eq n hn) rfl rfl rfl rfl _ n' i e).trans ?_
    split_ifs with hnn
    · rw [hnn]
      refine Eq.trans ?_ (trip_out n hn (iter (init a0 a1 a2) n) b h i e _ _ _ _ _ (iter_state a0 a1 a2 b h n (by omega))
        (trip_q a0 a1 a2 n hn b h) (trip_k a0 a1 a2 n hn b h) (trip_v a0 a1 a2 n hn b h) (trip_g a0 a1 a2 n hn b h))
      unfold b63
      generalize b50 n (iter (init a0 a1 a2) n) = x
      pointwise
    · exact iter_out b h i e n' n (by omega) (by omega)

/-- What the reference makes of the loop's last state. -/
theorem norm_apply (s : State Ideal) (b : Fin 32) (t : Fin 2048) (e : Fin 512) :
    (R_main_v59 s a0 a3 : S32x2048x512.Idx → EReal) (ix3 b t e) =
      normGate (fun x => s.main_v39_7 (ix5 ⟨t.val / 64, by omega⟩ b ⟨e.val / 128, by omega⟩ ⟨t.val % 64, by omega⟩ x))
        (a3 (ix1 ⟨e.val % 128, by omega⟩)) (a0 (ix3 b t ⟨1024 + e.val, by omega⟩)) ⟨e.val % 128, by omega⟩ := by
  unfold normGate Ideal.logistic
  pointwise [R_main_v59]

/-- The reference's result is the layer's. -/
theorem result_apply (n : ℕ) (hn : n = 32) (b : Fin 32) (t : Fin 2048) (e : Fin 512) :
    (R_main_v59 (iter (init a0 a1 a2) n) a0 a3 : S32x2048x512.Idx → EReal) (ix3 b t e) =
      result a0 a1 a2 a3 b (t.val / 64) ⟨e.val / 128, by omega⟩ ⟨t.val % 64, by omega⟩ ⟨e.val % 128, by omega⟩ := by
  have hr : rs a0 b (t.val / 64) ⟨t.val % 64, by omega⟩ (col ⟨e.val / 128, by omega⟩ ⟨e.val % 128, by omega⟩) =
      a0 (ix3 b t ⟨1024 + e.val, by omega⟩) := by
    unfold rs
    congr 2
    · exact Fin.ext (by simp only [rowT]; omega)
    · exact Fin.ext (by simp only [col]; omega)
  rw [norm_apply, result, hr]
  congr 1
  funext x
  exact iter_out a0 a1 a2 b _ _ x ⟨t.val / 64, by omega⟩ n (le_of_eq hn) (by subst hn; show t.val / 64 < 32; omega)

end Result

end Cert.Gla.Ref

end
-- ==== Proof.GlaEqual.lean ====
/- The kernel and the reference compute one result. -/
module

public import proofs.«01_k».proof.Defs
public import proofs.«01_k».proof.Proof.GlaArray
public import proofs.«01_k».proof.Proof.GlaRef
public import proofs.«01_k».proof.Proof.GlaRefRun

@[expose] public section

set_option maxRecDepth 16384

noncomputable section

namespace Cert.Gla

open Idealize.ShloMosaic Idealize.ShloMosaic.TcCoe Idealize.SL.Sem

/-- The two result arrays agree, from equal arguments. -/
theorem arrays_equal (m : (ℓ : Loc Cert.KernelIdeal.nD Cert.KernelIdeal.τ Cert.KernelIdeal.sig) → Buf (Elt Ideal) ℓ)
    (c : Dev Cert.KernelIdeal.nD) (n : ℕ) (hn : n = 32) :
    (Cert.ReferenceIdeal.Step.R_main_v59 (Ref.iter (Cert.ReferenceIdeal.Step.init (proj m c) (gateW m c) (gateB m c)) n) (proj m c) (normW m c) :
      Cert.ReferenceIdeal.S32x2048x512.Idx → EReal) = Value.G8 m c := by
  funext i
  rw [eq_ix3 i]
  exact (Ref.result_apply (proj m c) (gateW m c) (gateB m c) (normW m c) n hn (i 0) (i 1) (i 2)).trans (array_apply m c (i 0) (i 1) (i 2)).symm

theorem algebraic : Cert.algebraic_KernelIdeal_ReferenceIdeal := fun m g m' g' _ hagree => by
  refine ⟨fun c => Value.G8 m c, Value.run m g, ?_⟩
  refine (θ_run _ _ _).mono (fun _ h c => ⟨(h c).1.trans ?_, (h c).2⟩)
    (StepRun.run_iter m' g' (fun c => Ref.iter (StepRun.initState m' c)) (fun _ => rfl) fun _ _ => rfl)
  obtain ⟨h0, h1, h2, h3⟩ := hagree c
  unfold StepRun.initState
  rw [h0, h1, h2, h3]
  exact arrays_equal m c 32 rfl

end Cert.Gla

end
-- ==== Proof.ProjColumns.lean ====
/- The order of the projection's columns in the kernel: the groups of the argument's 2856 columns
   set side by side in 3072, the two gate groups padded with zeros; and how to read such a concatenation. -/
module

public import Idealize.ShloMosaic.Lib.Pointwise
public import Idealize.ShloMosaic.PureOps.Ideal

@[expose] public section

set_option maxRecDepth 16384

noncomputable section

namespace Cert.Proj

open Idealize.ShloMosaic

/-- Column `l` of the regrouped columns of `g`: its own column of `g`, or zero where a group is padded. -/
def column (g : Fin 2856 → EReal) (l : ℕ) : EReal :=
  if h : l < 1024 then g ⟨l, by omega⟩
  else if h : l < 2816 then g ⟨l + 16, by omega⟩
  else if h : l < 2832 then g ⟨l - 1792, by omega⟩
  else if h : l < 2944 then 0
  else if h : l < 2968 then g ⟨l - 112, by omega⟩
  else 0

/-- Regrouping the columns of a product is the product with the columns regrouped. -/
theorem column_sum (a : Fin 1024 → EReal) (W : Fin 1024 → Fin 2856 → EReal) (l : ℕ) :
    column (fun j => ∑ x, a x * W x j) l = ∑ x, a x * column (W x) l := by
  unfold column
  split_ifs <;> simp

/-- A concatenation along the columns that agrees with `f` on its first piece and on the rest agrees with `f`. -/
theorem cat_cons {K N w : ℕ} (j : (⟨2, ![K, N]⟩ : Shape).Idx) (x : (⟨2, ![K, w]⟩ : Shape).Idx → EReal) (q : (s : Shape) × (s.Idx → EReal))
    (xs : List ((s : Shape) × (s.Idx → EReal))) (f : ℕ → EReal) (o : ℕ)
    (hx : ∀ i : Fin w, x (ix2 (j 0) i) = f (o + i.val))
    (hrest : ∀ hs c hc, concatenateAt (⟨2, ![K, N]⟩ : Shape) 1 j (q :: xs) hs c hc = f (o + w + c)) (hs c hc) :
    concatenateAt (⟨2, ![K, N]⟩ : Shape) 1 j (⟨⟨2, ![K, w]⟩, x⟩ :: q :: xs) hs c hc = f (o + c) := by
  rw [concatenateAt_cons]
  split
  · next h =>
    refine Eq.trans (congrArg x ?_) (hx ⟨c, h⟩)
    funext b
    apply Fin.ext
    fin_cases b <;> rfl
  · next h =>
    refine (hrest _ _ _).trans (congrArg f ?_)
    have : ¬ c < w := h
    change o + w + (c - w) = o + c
    omega

/-- The same of a last piece. -/
theorem cat_last {K N w : ℕ} (j : (⟨2, ![K, N]⟩ : Shape).Idx) (x : (⟨2, ![K, w]⟩ : Shape).Idx → EReal) (f : ℕ → EReal) (o : ℕ)
    (hx : ∀ i : Fin w, x (ix2 (j 0) i) = f (o + i.val)) (hs c hc) :
    concatenateAt (⟨2, ![K, N]⟩ : Shape) 1 j [⟨⟨2, ![K, w]⟩, x⟩] hs c hc = f (o + c) := by
  rw [concatenateAt_singleton]
  have h : c < w := by
    rw [axisSizes_cons _ _ _ [] (hs _ List.mem_cons_self)] at hc
    simpa using hc
  refine Eq.trans (congrArg x ?_) (hx ⟨c, h⟩)
  funext b
  apply Fin.ext
  fin_cases b <;> rfl

end Cert.Proj

end
-- ==== Proof.ProjKernel.lean ====
/- The array that the projection's kernel leaves: each of its 128 by 3 blocks is a product of 512 rows
   with 1024 of the regrouped columns. -/
module

public import proofs.«01_k».proof.Proof.Gen.Kernel2Ideal.Frame
public import proofs.«01_k».proof.Proof.ProjColumns
public import Idealize.ShloMosaic.Lib.Pointwise
public import Idealize.ShloMosaic.Lib.Pipeline.ValueKit

@[expose] public section

set_option maxRecDepth 16384

noncomputable section

namespace Cert.Proj

open Cert.Kernel2Ideal Cert.Kernel2Ideal.Gen
open Idealize.ShloMosaic Idealize.ShloMosaic.TcCoe

/-- The projection at row `r` of all rows and column `l` of the regrouped columns. -/
def projected (X : S32x2048x1024.Idx → EReal) (W : S1024x2856.Idx → EReal) (r : Fin 65536) (l : ℕ) : EReal :=
  ∑ x : Fin 1024, X (ix3 ⟨r.val / 2048, by omega⟩ ⟨r.val % 2048, by omega⟩ x) * column (fun j => W (ix2 x j)) l

variable (m : (ℓ : Loc nD τ sig) → Buf (Elt Ideal) ℓ) (c : Dev nD) (t : Fin cfg0.N)

abbrev argX : S32x2048x1024.Idx → EReal := m ((c : Thread nD τ).loc main_arg0)
abbrev argW : S1024x2856.Idx → EReal := m ((c : Thread nD τ).loc main_arg1)

/-- The input as rows. -/
theorem host0 (r : Fin 65536) (k : Fin 1024) :
    (V m c main_v0 : S65536x1024.Idx → EReal) (ix2 r k) = argX m c (ix3 ⟨r.val / 2048, by omega⟩ ⟨r.val % 2048, by omega⟩ k) := by
  simp only [V, hostOps0, hostOps0_1, hostOps0_2, hostOps0_3, hostOps0_4, List.flatten_cons, List.flatten_nil, List.append_nil, List.cons_append, List.nil_append]
  entry_read
  pointwise

/-- The weights' groups of columns as the host sets them side by side. -/
def regrouped (W : FVec Ideal S1024x2856 .f32) : FVec Ideal S1024x3072 .f32 :=
  concatenate S1024x3072 1 [⟨S1024x256, extractStridedSlice S1024x256 ![0, 0] W slices_S1024x2856_S1024x256_0_0⟩,
    ⟨S1024x256, extractStridedSlice S1024x256 ![0, 256] W slices_S1024x2856_S1024x256_0_256⟩,
    ⟨S1024x512, extractStridedSlice S1024x512 ![0, 512] W slices_S1024x2856_S1024x512_0_512⟩,
    ⟨S1024x512, extractStridedSlice S1024x512 ![0, 1040] W slices_S1024x2856_S1024x512_0_1040⟩,
    ⟨S1024x512, extractStridedSlice S1024x512 ![0, 1552] W slices_S1024x2856_S1024x512_0_1552⟩,
    ⟨S1024x128, extractStridedSlice S1024x128 ![0, 2064] W slices_S1024x2856_S1024x128_0_2064⟩,
    ⟨S1024x128, extractStridedSlice S1024x128 ![0, 2192] W slices_S1024x2856_S1024x128_0_2192⟩,
    ⟨S1024x128, extractStridedSlice S1024x128 ![0, 2320] W slices_S1024x2856_S1024x128_0_2320⟩,
    ⟨S1024x128, extractStridedSlice S1024x128 ![0, 2448] W slices_S1024x2856_S1024x128_0_2448⟩,
    ⟨S1024x128, extractStridedSlice S1024x128 ![0, 2576] W slices_S1024x2856_S1024x128_0_2576⟩,
    ⟨S1024x128, extractStridedSlice S1024x128 ![0, 2704] W slices_S1024x2856_S1024x128_0_2704⟩,
    ⟨S1024x128, pad S1024x128 ![0, 0] ![0, 112] ![0, 0] (extractStridedSlice S1024x16 ![0, 1024] W slices_S1024x2856_S1024x16_0_1024) (sitofp (F := Ideal) FTy.f32 (constantI S_ 32 0#32)) pads_S1024x16_S1024x128_000_01120 h_S_⟩,
    ⟨S1024x128, pad S1024x128 ![0, 0] ![0, 104] ![0, 0] (extractStridedSlice S1024x24 ![0, 2832] W slices_S1024x2856_S1024x24_0_2832) (sitofp (F := Ideal) FTy.f32 (constantI S_ 32 0#32)) pads_S1024x24_S1024x128_000_01040 h_S_⟩]
    concatenates_S1024x256_S1024x256_S1024x512_S1024x512_S1024x512_S1024x128_S1024x128_S1024x128_S1024x128_S1024x128_S1024x128_S1024x128_S1024x128_S1024x3072_d1

open StableHlo in
set_option maxHeartbeats 1600000 in
theorem host1 : (V m c main_v17 : S1024x3072.Idx → EReal) = regrouped (argW m c) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results <;> rfl

set_option maxHeartbeats 1600000 in
theorem regrouped_apply (W : S1024x2856.Idx → EReal) (k : Fin 1024) (l : Fin 3072) : (regrouped W (ix2 k l) : EReal) = column (fun j => W (ix2 k j)) l.val := by
  have hz : (sitofp (F := Ideal) FTy.f32 (constantI S_ 32 0#32) : FVec Ideal S_ .f32) = fun _ => 0 := by
    funext j
    change (((0#32 : BitVec 32).toInt : ℝ) : EReal) = 0
    simp
  unfold regrouped
  rw [concatenate_cons_apply, hz]
  refine Eq.trans ?_ (congrArg (column (fun j => W (ix2 k j))) (Nat.zero_add l.val))
  iterate 12
    refine cat_cons (ix2 k l) _ _ _ (column (fun j => W (ix2 k j))) _ ?_ (fun _ _ _ => ?_) _ _ _
    rotate_left
  refine cat_last (ix2 k l) _ (column (fun j => W (ix2 k j))) _ ?_ _ _ _
  all_goals
    intro i
    change _ = column (fun j => W (ix2 k j)) _
    pointwise [column] <;> (split_ifs <;> first | omega | rfl |
      exact congrArg (fun z => W (ix2 k z)) (Fin.ext (by dsimp only; omega)))

theorem idx0 : ∀ t : Fin cfg0.N, win0_0.index t = ![t.val / 3, 0] := by decide +kernel
theorem idx1 : ∀ t : Fin cfg0.N, win0_1.index t = ![0, t.val % 3] := by decide +kernel
theorem idx2 : ∀ t : Fin cfg0.N, win0_2.index t = ![t.val / 3, t.val % 3] := by decide +kernel
theorem points : cfg0.N = 384 := by decide +kernel

theorem blk0 (y : Fin 512) (x : Fin 1024) (r : Fin 65536) (hr : r.val = t.val / 3 * 512 + y.val) :
    (iblk m c 0 t : Vec Ideal S512x1024 .f32) (ix2 y x) = argX m c (ix3 ⟨r.val / 2048, by omega⟩ ⟨r.val % 2048, by omega⟩ x) := by
  rw [← host0]
  blk_ext [iblk, idx0 t, hr]

theorem blk1 (x : Fin 1024) (z : Fin 1024) : (iblk m c 1 t : Vec Ideal S1024x1024 .bf16) (ix2 x z) = column (fun j => argW m c (ix2 x j)) (t.val % 3 * 1024 + z.val) := by
  have h : t.val % 3 * 1024 + z.val < 3072 := by omega
  refine Eq.trans ?_ (regrouped_apply (argW m c) x ⟨_, h⟩)
  rw [← host1]
  blk_ext [iblk, idx1 t]

/-- A block of the product. -/
theorem pay_apply (v0 : Vec Ideal S512x1024 .f32) (v3 : Vec Ideal S1024x1024 .bf16) (y : Fin 512) (z : Fin 1024) :
    (k0_pay1 v0 v3 (ix2 y z) : EReal) = ∑ x : Fin 1024, (v0 (ix2 y x) * v3 (ix2 x z) : EReal) := by
  pointwise [k0_pay1]

/-- A point's block of the product holds its rows and columns of the projection. -/
theorem point_apply (y : Fin 512) (z : Fin 1024) (r : Fin 65536) (l : ℕ) (hr : r.val = t.val / 3 * 512 + y.val)
    (hl : l = t.val % 3 * 1024 + z.val) :
    (k0_pay1 (iblk m c 0 t : Vec Ideal S512x1024 .f32) (iblk m c 1 t : Vec Ideal S1024x1024 .bf16) (ix2 y z) : EReal) = projected (argX m c) (argW m c) r l := by
  refine (pay_apply _ _ _ _).trans (Finset.sum_congr rfl fun x _ => ?_)
  rw [blk1, blk0 m c t y x r hr, hl]

/-- The array the kernel leaves. -/
theorem array_eq : ((dats m 0 c).arrAt 2 cfg0.N : S65536x3072.Idx → EReal) = fun i => projected (argX m c) (argW m c) (i 0) (i 1).val := by
  refine (dats m 0 c).arrAt_eq_of_covers 2 (fun i : S65536x3072.Idx => projected (argX m c) (argW m c) (i 0) (i 1).val) (by decide +kernel) fun t hf y => ?_
  blk_simp
  rw [after0_2]; frame_out
  rw [eq_ix2 y]
  refine point_apply m c t (y 0) (y 1) _ _ ?_ ?_
  · blk_simp [idx2 t]
  · blk_simp [idx2 t]

end Cert.Proj

end
-- ==== Proof.Proj.lean ====
/- The projection's kernel computes the reference's projection. -/
module

public import proofs.«01_k».proof.Defs
public import proofs.«01_k».proof.Proof.Gen.Kernel2.Frame
public import proofs.«01_k».proof.Proof.Gen.Kernel2Ideal.Value
public import proofs.«01_k».proof.Proof.ProjKernel
public import proofs.«01_k».proof.Proof.Gen.Reference2Ideal
public import proofs.«01_k».proof.Proof.Gen.Reference2Ideal.Run
public import Idealize.ShloMosaic.Lib.Quiescent

@[expose] public section

set_option maxRecDepth 16384

noncomputable section

namespace Cert.Proj

open Idealize.ShloMosaic Idealize.ShloMosaic.TcCoe Idealize.SL.Sem

open Cert.Reference2Ideal Cert.Reference2Ideal.Gen in
/-- The reference's groups of columns set side by side. -/
def sideBySide (P : FVec Ideal S65536x2856 .f32) : FVec Ideal S65536x3072 .f32 :=
  concatenate S65536x3072 1 [⟨S65536x256, (extractStridedSlice S65536x256 ![0, 0] P slices_S65536x2856_S65536x256_0_0)⟩,
    ⟨S65536x256, (extractStridedSlice S65536x256 ![0, 256] P slices_S65536x2856_S65536x256_0_256)⟩,
    ⟨S65536x512, (extractStridedSlice S65536x512 ![0, 512] P slices_S65536x2856_S65536x512_0_512)⟩,
    ⟨S65536x512, (extractStridedSlice S65536x512 ![0, 1040] P slices_S65536x2856_S65536x512_0_1040)⟩,
    ⟨S65536x1280, (extractStridedSlice S65536x1280 ![0, 1552] P slices_S65536x2856_S65536x1280_0_1552)⟩,
    ⟨S65536x128, (pad S65536x128 ![0, 0] ![0, 112] ![0, 0] (extractStridedSlice S65536x16 ![0, 1024] P slices_S65536x2856_S65536x16_0_1024) (sitofp (F := Ideal) .f32 (constantI S_ 32 0#32)) pads_S65536x16_S65536x128_000_01120 h_S_)⟩,
    ⟨S65536x128, (pad S65536x128 ![0, 0] ![0, 104] ![0, 0] (extractStridedSlice S65536x24 ![0, 2832] P slices_S65536x2856_S65536x24_0_2832) (sitofp (F := Ideal) .f32 (constantI S_ 32 0#32)) pads_S65536x24_S65536x128_000_01040 h_S_)⟩] concatenates_S65536x256_S65536x256_S65536x512_S65536x512_S65536x1280_S65536x128_S65536x128_S65536x3072_d1

open Cert.Reference2Ideal Cert.Reference2Ideal.Gen in
/-- The reference's product. -/
def product (X : FVec Ideal S32x2048x1024 .f32) (W : FVec Ideal S1024x2856 .f32) : FVec Ideal S65536x2856 .f32 :=
  Host.dotGeneral dot_S65536x1024_S1024x2856_S65536x2856_1_0_0_1_n_n none (shapeCast _ X shapeCasts_S32x2048x1024_S65536x1024) W

open Cert.Reference2Ideal in
/-- The product, entry by entry. -/
theorem product_apply (X : S32x2048x1024.Idx → EReal) (W : S1024x2856.Idx → EReal) (r : Fin 65536) (j : Fin 2856) :
    (product X W (ix2 r j) : EReal) =
      ∑ x : Fin 1024, X (ix3 ⟨r.val / 2048, by omega⟩ ⟨r.val % 2048, by omega⟩ x) * W (ix2 x j) := by
  pointwise [product]

open Cert.Reference2Ideal in
set_option maxHeartbeats 1600000 in
/-- The regrouped columns, entry by entry. -/
theorem sideBySide_apply (P : S65536x2856.Idx → EReal) (r : Fin 65536) (l : Fin 3072) :
    (sideBySide P (ix2 r l) : EReal) = column (fun j => P (ix2 r j)) l.val := by
  have hz : (sitofp (F := Ideal) FTy.f32 (constantI S_ 32 0#32) : FVec Ideal S_ .f32) = fun _ => 0 := by
    funext j
    change (((0#32 : BitVec 32).toInt : ℝ) : EReal) = 0
    simp
  unfold sideBySide
  rw [concatenate_cons_apply, hz]
  refine Eq.trans ?_ (congrArg (column (fun j => P (ix2 r j))) (Nat.zero_add l.val))
  iterate 6
    refine cat_cons (ix2 r l) _ _ _ (column (fun j => P (ix2 r j))) _ ?_ (fun _ _ _ => ?_) _ _ _
    rotate_left
  refine cat_last (ix2 r l) _ (column (fun j => P (ix2 r j))) _ ?_ _ _ _
  all_goals
    intro i
    change _ = column (fun j => P (ix2 r j)) _
    pointwise [column] <;> (split_ifs <;> first | omega | rfl |
      exact congrArg (fun z => P (ix2 r z)) (Fin.ext (by dsimp only; omega)))

/-- The reference, entry by entry. -/
theorem reference_apply (X : Cert.Reference2Ideal.S32x2048x1024.Idx → EReal) (W : Cert.Reference2Ideal.S1024x2856.Idx → EReal)
    (r : Fin 65536) (l : Fin 3072) : (sideBySide (product X W) (ix2 r l) : EReal) = projected X W r l.val := by
  refine (sideBySide_apply _ r l).trans ?_
  have h : (fun j => (product X W (ix2 r j) : EReal)) =
      fun j => ∑ x : Fin 1024, X (ix3 ⟨r.val / 2048, by omega⟩ ⟨r.val % 2048, by omega⟩ x) * W (ix2 x j) := funext fun j => product_apply X W r j
  exact (congrArg (fun g => column g l.val) h).trans (column_sum _ (fun x j => W (ix2 x j)) l.val)

/-- The reference's array. -/
theorem reference_eq (X : Cert.Reference2Ideal.S32x2048x1024.Idx → EReal) (W : Cert.Reference2Ideal.S1024x2856.Idx → EReal) :
    (sideBySide (product X W) : Cert.Reference2Ideal.S65536x3072.Idx → EReal) = fun i => projected X W (i 0) (i 1).val :=
  funext fun i => (congrArg _ (eq_ix2 i)).trans (reference_apply X W (i 0) (i 1))

/-- The reference runs to its end, keeps its arguments, and declares no semaphore. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's array is the reference's. -/
theorem algebraic : Cert.algebraic_Kernel2Ideal_Reference2Ideal := fun m g m' g' _ hagree => by
  refine ⟨fun c => (Cert.Kernel2Ideal.Gen.dats m 0 c).arrAt 2 Cert.Kernel2Ideal.cfg0.N, Cert.Kernel2Ideal.Value.run_blocks m g, ?_⟩
  refine (θ_run _ _ _).mono (fun _ h c => ⟨(h c).1.trans ?_, (h c).2⟩) (Cert.Reference2Ideal.Value.run m' g')
  obtain ⟨h0, h1⟩ := hagree c
  rw [h0, h1]
  exact (reference_eq _ _).trans (array_eq m c).symm

end Cert.Proj

end
-- ==== Proof.LayerNorm.lean ====
/- The layer norm of a row of 1024 numbers, as both kernels and references compute it. -/
module

public import Idealize.ShloMosaic.Lib.Pointwise
public import Idealize.ShloMosaic.PureOps.Ideal

@[expose] public section

noncomputable section

namespace Cert.LayerNorm

open Idealize.ShloMosaic

/-- The constant of the residual. -/
abbrev alpha : EReal := Ideal.ofBits FTy.f32 0x3F9837F0#32

/-- The mean of a row. -/
def mean (u : Fin 1024 → EReal) : EReal := Ideal.div (∑ x, u x) (Ideal.ofBits FTy.f32 0x44800000#32)

/-- The layer norm of a row `u` at column `l`, with weight `g` and bias `b`. -/
def normed (u : Fin 1024 → EReal) (l : Fin 1024) (g b : EReal) : EReal :=
  (u l - mean u) * Ideal.rsqrt (mean (fun x => (u x - mean u) * (u x - mean u)) + Ideal.ofBits FTy.f32 0x3727C5AC#32) * g + b

end Cert.LayerNorm

end
-- ==== Proof.OutprojKernel.lean ====
/- The array that the output projection's kernel leaves: row by row the norm of the residual plus the
   product of the two mixers' outputs with the two halves of the weights. -/
module

public import proofs.«01_k».proof.Proof.Gen.Kernel3Ideal.Frame
public import proofs.«01_k».proof.Proof.LayerNorm
public import Idealize.ShloMosaic.Lib.Pipeline.ValueKit

@[expose] public section

set_option maxRecDepth 16384

noncomputable section

namespace Cert.Outproj

open Cert.Kernel3Ideal Cert.Kernel3Ideal.Gen Cert.LayerNorm
open Idealize.ShloMosaic Idealize.ShloMosaic.TcCoe

/-- The residual plus the mixers' product, at row `r` and column `l`. -/
def mixed (X : S65536x1024.Idx → EReal) (G N : S65536x512.Idx → EReal) (W : S1024x1024.Idx → EReal) (r : Fin 65536) (l : Fin 1024) : EReal :=
  alpha * X (ix2 r l) + (∑ x : Fin 512, G (ix2 r x) * W (ix2 ⟨x.val, by omega⟩ l) + ∑ x : Fin 512, N (ix2 r x) * W (ix2 ⟨512 + x.val, by omega⟩ l))

/-- The output of the call at row `r` and column `l`. -/
def output (X : S65536x1024.Idx → EReal) (G N : S65536x512.Idx → EReal) (W : S1024x1024.Idx → EReal) (g b : S1024.Idx → EReal) (r : Fin 65536) (l : Fin 1024) : EReal :=
  normed (mixed X G N W r) l (g (ix1 l)) (b (ix1 l))

variable (m : (ℓ : Loc nD τ sig) → Buf (Elt Ideal) ℓ) (c : Dev nD) (t : Fin cfg0.N)

abbrev argX : S65536x1024.Idx → EReal := m ((c : Thread nD τ).loc main_arg0)
abbrev argG : S65536x512.Idx → EReal := m ((c : Thread nD τ).loc main_arg1)
abbrev argN : S65536x512.Idx → EReal := m ((c : Thread nD τ).loc main_arg2)
abbrev argW : S1024x1024.Idx → EReal := m ((c : Thread nD τ).loc main_arg3)
abbrev argg : S1024.Idx → EReal := m ((c : Thread nD τ).loc main_arg4)
abbrev argb : S1024.Idx → EReal := m ((c : Thread nD τ).loc main_arg5)

/-- The weights, cast. -/
theorem host0 (k l : Fin 1024) : (V m c main_v0 : S1024x1024.Idx → EReal) (ix2 k l) = argW m c (ix2 k l) := by
  simp only [V, hostOps0, List.flatten_cons, List.flatten_nil, List.append_nil, List.cons_append, List.nil_append]
  entry_read
  pointwise

/-- The norm's weight as a row. -/
theorem host1 (l : Fin 1024) : (V m c main_v1 : S1x1024.Idx → EReal) (ix2 0 l) = argg m c (ix1 l) := by
  simp only [V, hostOps0, List.flatten_cons, List.flatten_nil, List.append_nil, List.cons_append, List.nil_append]
  entry_read
  pointwise

/-- The norm's bias as a row. -/
theorem host2 (l : Fin 1024) : (V m c main_v2 : S1x1024.Idx → EReal) (ix2 0 l) = argb m c (ix1 l) := by
  simp only [V, hostOps0, List.flatten_cons, List.flatten_nil, List.append_nil, List.cons_append, List.nil_append]
  entry_read
  pointwise

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel

theorem blk0 (y : Fin 512) (x : Fin 1024) (r : Fin 65536) (hr : r.val = t.val * 512 + y.val) :
    (iblk m c 0 t : Vec Ideal S512x1024 .f32) (ix2 y x) = argX m c (ix2 r x) := by
  blk_ext [iblk, idx0 t, hr]

theorem blk1 (y : Fin 512) (x : Fin 512) (r : Fin 65536) (hr : r.val = t.val * 512 + y.val) :
    (iblk m c 1 t : Vec Ideal S512x512 .bf16) (ix2 y x) = argG m c (ix2 r x) := by
  blk_ext [iblk, idx1 t, hr]

theorem blk2 (y : Fin 512) (x : Fin 512) (r : Fin 65536) (hr : r.val = t.val * 512 + y.val) :
    (iblk m c 2 t : Vec Ideal S512x512 .bf16) (ix2 y x) = argN m c (ix2 r x) := by
  blk_ext [iblk, idx2 t, hr]

theorem blk3 (k l : Fin 1024) : (iblk m c 3 t : Vec Ideal S1024x1024 .bf16) (ix2 k l) = argW m c (ix2 k l) := by
  rw [← host0]
  blk_ext [iblk, idx3 t]

theorem blk3a (x : Fin 512) (l : Fin 1024) :
    (View.ld (iblk m c 3 t : Vec Ideal S1024x1024 .bf16) r0_1 : S512x1024.Idx → EReal) (ix2 x l) = argW m c (ix2 ⟨x.val, by omega⟩ l) := by
  refine (View.ld_unit_apply_of _ _ _ _ _ _ fun a => ?_).trans (blk3 m c t ⟨x.val, by omega⟩ l)
  fin_cases a <;> exact (Nat.zero_add _).symm

theorem blk3b (x : Fin 512) (l : Fin 1024) :
    (View.ld (iblk m c 3 t : Vec Ideal S1024x1024 .bf16) r0_2 : S512x1024.Idx → EReal) (ix2 x l) = argW m c (ix2 ⟨512 + x.val, by omega⟩ l) := by
  refine (View.ld_unit_apply_of _ _ _ _ _ _ fun a => ?_).trans (blk3 m c t ⟨512 + x.val, by omega⟩ l)
  fin_cases a
  · rfl
  · exact (Nat.zero_add _).symm

theorem blk4 (l : Fin 1024) : (iblk m c 4 t : Vec Ideal S1x1024 .f32) (ix2 0 l) = argg m c (ix1 l) := by
  rw [← host1]
  blk_ext [iblk, idx4 t]

theorem blk5 (l : Fin 1024) : (iblk m c 5 t : Vec Ideal S1x1024 .f32) (ix2 0 l) = argb m c (ix1 l) := by
  rw [← host2]
  blk_ext [iblk, idx5 t]

/-- A block of the output. -/
theorem pay_apply (v0 : Vec Ideal S512x512 .bf16) (v1 : Vec Ideal S512x1024 .bf16) (v4 : Vec Ideal S512x512 .bf16) (v5 : Vec Ideal S512x1024 .bf16)
    (v9 : Vec Ideal S512x1024 .f32) (v13 v15 : Vec Ideal S1x1024 .f32) (y : Fin 512) (z : Fin 1024) :
    (k0_pay1 v0 v1 v4 v5 v9 v13 v15 (ix2 y z) : EReal) =
      normed (fun l => alpha * v9 (ix2 y l) + (∑ x : Fin 512, (v0 (ix2 y x) * v1 (ix2 x l) : EReal) + ∑ x : Fin 512, (v4 (ix2 y x) * v5 (ix2 x l) : EReal)))
        z (v13 (ix2 0 z)) (v15 (ix2 0 z)) := by
  pointwise [k0_pay1, normed, mean]

/-- A point's block holds its rows of the output. -/
theorem point_apply (y : Fin 512) (z : Fin 1024) (r : Fin 65536) (hr : r.val = t.val * 512 + y.val) (l : Fin 1024) (hl : l.val = z.val) :
    (k0_pay1 (iblk m c 1 t : Vec Ideal S512x512 .bf16) (View.ld (iblk m c 3 t : Vec Ideal S1024x1024 .bf16) r0_1) (iblk m c 2 t : Vec Ideal S512x512 .bf16)
      (View.ld (iblk m c 3 t : Vec Ideal S1024x1024 .bf16) r0_2) (iblk m c 0 t : Vec Ideal S512x1024 .f32) (iblk m c 4 t : Vec Ideal S1x1024 .f32)
      (iblk m c 5 t : Vec Ideal S1x1024 .f32) (ix2 y z) : EReal) = output (argX m c) (argG m c) (argN m c) (argW m c) (argg m c) (argb m c) r l := by
  obtain rfl : l = z := Fin.ext hl
  refine (pay_apply _ _ _ _ _ _ _ _ _).trans ?_
  rw [blk4, blk5]
  refine congrArg (fun u => normed u l (argg m c (ix1 l)) (argb m c (ix1 l))) (funext fun k => ?_)
  refine congrArg₂ _ (congrArg _ (blk0 m c t y k r hr)) (congrArg₂ _ (Finset.sum_congr rfl fun x _ => ?_) (Finset.sum_congr rfl fun x _ => ?_))
  · rw [blk3a, blk1 m c t y x r hr]
  · rw [blk3b, blk2 m c t y x r hr]

/-- The array the kernel leaves. -/
theorem array_eq : ((dats m 0 c).arrAt 6 cfg0.N : S65536x1024.Idx → EReal) =
    fun i => output (argX m c) (argG m c) (argN m c) (argW m c) (argg m c) (argb m c) (i 0) (i 1) := by
  refine (dats m 0 c).arrAt_eq_of_covers 6 (fun i : S65536x1024.Idx => output (argX m c) (argG m c) (argN m c) (argW m c) (argg m c) (argb m c) (i 0) (i 1))
    (by decide +kernel) fun t hf y => ?_
  blk_simp
  rw [after0_6]; frame_out
  rw [eq_ix2 y]
  refine point_apply m c t (y 0) (y 1) _ ?_ _ ?_
  · blk_simp [idx6 t]
  · blk_simp [idx6 t]

end Cert.Outproj

end
-- ==== Proof.Outproj.lean ====
/- The output projection's kernel computes the reference's rows. -/
module

public import proofs.«01_k».proof.Defs
public import proofs.«01_k».proof.Proof.Gen.Kernel3.Frame
public import proofs.«01_k».proof.Proof.Gen.Kernel3Ideal.Value
public import proofs.«01_k».proof.Proof.OutprojKernel
public import proofs.«01_k».proof.Proof.Gen.Reference3Ideal
public import proofs.«01_k».proof.Proof.Gen.Reference3Ideal.Run
public import Idealize.ShloMosaic.Lib.Quiescent

@[expose] public section

set_option maxRecDepth 16384

noncomputable section

namespace Cert.Outproj

open Cert.LayerNorm
open Idealize.ShloMosaic Idealize.ShloMosaic.TcCoe Idealize.SL.Sem

section
open Cert.Reference3Ideal Cert.Reference3Ideal.Gen

/-- The two mixers' outputs side by side. -/
def both (G N : FVec Ideal S65536x512 .bf16) : FVec Ideal S65536x1024 .bf16 :=
  concatenate S65536x1024 1 [⟨S65536x512, G⟩, ⟨S65536x512, N⟩] concatenates_S65536x512_S65536x512_S65536x1024_d1

theorem both_left (G N : S65536x512.Idx → EReal) (r : Fin 65536) (x : Fin 512) : (both G N (ix2 r ⟨x.val, by omega⟩) : EReal) = G (ix2 r x) := by
  pointwise [both]

theorem both_right (G N : S65536x512.Idx → EReal) (r : Fin 65536) (x : Fin 512) : (both G N (ix2 r ⟨512 + x.val, by omega⟩) : EReal) = N (ix2 r x) := by
  pointwise [both]

/-- The residual plus the reference's product. -/
def sum (X : FVec Ideal S65536x1024 .f32) (C : FVec Ideal S65536x1024 .bf16) (W : FVec Ideal S1024x1024 .f32) : FVec Ideal S65536x1024 .f32 :=
  addf (mulf (broadcastInDim S65536x1024 ![] bcast_S_S65536x1024 (constant S_ .f32 0x3F9837F0#32)) X)
    (Host.dotGeneral dot_S65536x1024_S1024x1024_S65536x1024_1_0_0_1_n_n none (extf .f32 C bitsLt_bf16_f32) W)

theorem sum_apply (X C : S65536x1024.Idx → EReal) (W : S1024x1024.Idx → EReal) (r : Fin 65536) (l : Fin 1024) :
    (sum X C W (ix2 r l) : EReal) = alpha * X (ix2 r l) + ∑ x : Fin 1024, C (ix2 r x) * W (ix2 x l) := by
  pointwise [sum]

theorem sum_both (X : S65536x1024.Idx → EReal) (G N : S65536x512.Idx → EReal) (W : S1024x1024.Idx → EReal) (r : Fin 65536) (l : Fin 1024) :
    (sum X (both G N) W (ix2 r l) : EReal) = mixed X G N W r l := by
  refine (sum_apply _ _ _ _ _).trans (congrArg _ ?_)
  refine (Fin.sum_univ_add (a := 512) (b := 512) _).trans (congrArg₂ _ (Finset.sum_congr rfl fun x _ => ?_) (Finset.sum_congr rfl fun x _ => ?_))
  · exact congrArg (· * W (ix2 ⟨x.val, by omega⟩ l)) (both_left G N r x)
  · exact congrArg (· * W (ix2 ⟨512 + x.val, by omega⟩ l)) (both_right G N r x)

/-- The reference's mean of each row. -/
def rowMean (U : FVec Ideal S65536x1024 .f32) : FVec Ideal S65536x1 .f32 :=
  Host.divf (broadcastInDim S65536x1 ![0] bcast_S65536_S65536x1_0 (Host.reduceAdd U (constant S_ .f32 0x00000000#32) reducesTo_S65536x1024_S65536_d1 h_S_))
    (broadcastInDim S65536x1 ![] bcast_S_S65536x1 (constant S_ .f32 0x44800000#32))

/-- The rows with their means taken off. -/
def centred (U : FVec Ideal S65536x1024 .f32) : FVec Ideal S65536x1024 .f32 :=
  subf U (broadcastInDim S65536x1024 ![0, 1] bcast_S65536x1_S65536x1024_0_1 (rowMean U))

/-- The reference's norm of the rows. -/
def rowNorm (U : FVec Ideal S65536x1024 .f32) (g b : FVec Ideal S1024 .f32) : FVec Ideal S65536x1024 .f32 :=
  addf (mulf (mulf (centred U) (broadcastInDim S65536x1024 ![0, 1] bcast_S65536x1_S65536x1024_0_1
      (Host.rsqrt (addf (rowMean (mulf (centred U) (centred U))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem rowNorm_apply (U : S65536x1024.Idx → EReal) (g b : S1024.Idx → EReal) (r : Fin 65536) (l : Fin 1024) :
    (rowNorm U g b (ix2 r l) : EReal) = normed (fun k => U (ix2 r k)) l (g (ix1 l)) (b (ix1 l)) := by
  pointwise [rowNorm, centred, rowMean, normed, mean]

theorem reference_apply (X : S65536x1024.Idx → EReal) (G N : S65536x512.Idx → EReal) (W : S1024x1024.Idx → EReal) (g b : S1024.Idx → EReal)
    (r : Fin 65536) (l : Fin 1024) : (rowNorm (sum X (both G N) W) g b (ix2 r l) : EReal) = output X G N W g b r l :=
  (rowNorm_apply _ _ _ r l).trans (congrArg (fun u => normed u l (g (ix1 l)) (b (ix1 l))) (funext fun k => sum_both X G N W r k))

end

/-- The reference runs to its end, keeps its arguments, and declares no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's array is the reference's. -/
theorem algebraic : Cert.algebraic_Kernel3Ideal_Reference3Ideal := fun m g m' g' _ hagree => by
  refine ⟨fun c => (Cert.Kernel3Ideal.Gen.dats m 0 c).arrAt 6 Cert.Kernel3Ideal.cfg0.N, Cert.Kernel3Ideal.Value.run_blocks m g, ?_⟩
  refine (θ_run _ _ _).mono (fun _ h c => ⟨(h c).1.trans ?_, (h c).2⟩) (Cert.Reference3Ideal.Value.run m' g')
  obtain ⟨h0, h1, h2, h3, h4, h5⟩ := hagree c
  unfold Cert.Reference3Ideal.Value.res_main_v29
  rw [h0, h1, h2, h3, h4, h5]
  refine Eq.trans ?_ (array_eq m c).symm
  funext i
  exact (congrArg _ (eq_ix2 i)).trans (reference_apply (argX m c) (argG m c) (argN m c) (argW m c) (argg m c) (argb m c) (i 0) (i 1))

end Cert.Outproj

end
-- ==== Proof.CombineKernel.lean ====
/- The array that the mixture's last kernel leaves: row by row the norm of the residual plus the eight
   routed rows weighted and added plus the shared expert. -/
module

public import proofs.«01_k».proof.Proof.Gen.Kernel4Ideal.Frame
public import proofs.«01_k».proof.Proof.LayerNorm
public import proofs.«01_k».proof.Proof.ProjColumns
public import Idealize.ShloMosaic.Lib.Pipeline.ValueKit

@[expose] public section

set_option maxRecDepth 16384

noncomputable section

namespace Cert.Combine

open Cert.Kernel4Ideal Cert.Kernel4Ideal.Gen Cert.LayerNorm
open Idealize.ShloMosaic Idealize.ShloMosaic.TcCoe

/-- The shared expert of a row `h` at column `l`: the gated product of two projections, projected back. -/
def shared (h : Fin 1024 → EReal) (A B : S1024x256.Idx → EReal) (D : S256x1024.Idx → EReal) (l : Fin 1024) : EReal :=
  ∑ k : Fin 256, ((∑ x : Fin 1024, h x * A (ix2 x k)) * Ideal.logistic (∑ x : Fin 1024, h x * A (ix2 x k)) * ∑ x : Fin 1024, h x * B (ix2 x k)) * D (ix2 k l)

/-- The residual plus the routed rows plus the shared expert, at row `r` and column `l`. -/
def mixed (H : S65536x1024.Idx → EReal) (P : S65536x8.Idx → EReal) (Y : S65536x8x8x128.Idx → EReal) (A B : S1024x256.Idx → EReal)
    (D : S256x1024.Idx → EReal) (r : Fin 65536) (l : Fin 1024) : EReal :=
  alpha * H (ix2 r l) + ((∑ k : Fin 8, P (ix2 r k) * Y (ix4 r k ⟨l.val / 128, by omega⟩ ⟨l.val % 128, by omega⟩)) + shared (fun x => H (ix2 r x)) A B D l)

/-- The output of the call at row `r` and column `l`. -/
def output (H : S65536x1024.Idx → EReal) (P : S65536x8.Idx → EReal) (Y : S65536x8x8x128.Idx → EReal) (A B : S1024x256.Idx → EReal)
    (D : S256x1024.Idx → EReal) (g b : S1024.Idx → EReal) (r : Fin 65536) (l : Fin 1024) : EReal :=
  normed (mixed H P Y A B D r) l (g (ix1 l)) (b (ix1 l))

variable (m : (ℓ : Loc nD τ sig) → Buf (Elt Ideal) ℓ) (c : Dev nD) (t : Fin cfg0.N)

abbrev argH : S65536x1024.Idx → EReal := m ((c : Thread nD τ).loc main_arg0)
abbrev argP : S65536x8.Idx → EReal := m ((c : Thread nD τ).loc main_arg1)
abbrev argY : S65536x8x8x128.Idx → EReal := m ((c : Thread nD τ).loc main_arg2)
abbrev argA : S1024x256.Idx → EReal := m ((c : Thread nD τ).loc main_arg3)
abbrev argB : S1024x256.Idx → EReal := m ((c : Thread nD τ).loc main_arg4)
abbrev argD : S256x1024.Idx → EReal := m ((c : Thread nD τ).loc main_arg5)
abbrev argg : S1024.Idx → EReal := m ((c : Thread nD τ).loc main_arg6)
abbrev argb : S1024.Idx → EReal := m ((c : Thread nD τ).loc main_arg7)

/-- The first projection's weights, cast. -/
theorem host0 (k : Fin 1024) (l : Fin 256) : (V m c main_v0 : S1024x256.Idx → EReal) (ix2 k l) = argA m c (ix2 k l) := by
  simp only [V, hostOps0, List.flatten_cons, List.flatten_nil, List.append_nil, List.cons_append, List.nil_append]
  entry_read
  pointwise

/-- The second projection's weights, cast. -/
theorem host1 (k : Fin 1024) (l : Fin 256) : (V m c main_v1 : S1024x256.Idx → EReal) (ix2 k l) = argB m c (ix2 k l) := by
  simp only [V, hostOps0, List.flatten_cons, List.flatten_nil, List.append_nil, List.cons_append, List.nil_append]
  entry_read
  pointwise

/-- The weights of the projection back, cast. -/
theorem host2 (k : Fin 256) (l : Fin 1024) : (V m c main_v2 : S256x1024.Idx → EReal) (ix2 k l) = argD m c (ix2 k l) := by
  simp only [V, hostOps0, List.flatten_cons, List.flatten_nil, List.append_nil, List.cons_append, List.nil_append]
  entry_read
  pointwise

/-- The norm's weight as a row. -/
theorem host3 (l : Fin 1024) : (V m c main_v3 : S1x1024.Idx → EReal) (ix2 0 l) = argg m c (ix1 l) := by
  simp only [V, hostOps0, List.flatten_cons, List.flatten_nil, List.append_nil, List.cons_append, List.nil_append]
  entry_read
  pointwise

/-- The norm's bias as a row. -/
theorem host4 (l : Fin 1024) : (V m c main_v4 : S1x1024.Idx → EReal) (ix2 0 l) = argb m c (ix1 l) := by
  simp only [V, hostOps0, List.flatten_cons, List.flatten_nil, List.append_nil, List.cons_append, List.nil_append]
  entry_read
  pointwise

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel

theorem blk0 (y : Fin 128) (x : Fin 1024) (r : Fin 65536) (hr : r.val = t.val * 128 + y.val) :
    (iblk m c 0 t : Vec Ideal S128x1024 .f32) (ix2 y x) = argH m c (ix2 r x) := by
  blk_ext [iblk, idx0 t, hr]

theorem blk1 (y : Fin 128) (x : Fin 8) (r : Fin 65536) (hr : r.val = t.val * 128 + y.val) :
    (iblk m c 1 t : Vec Ideal S128x8 .f32) (ix2 y x) = argP m c (ix2 r x) := by
  blk_ext [iblk, idx1 t, hr]

theorem blk2 (y : Fin 128) (k q : Fin 8) (z : Fin 128) (r : Fin 65536) (hr : r.val = t.val * 128 + y.val) :
    (iblk m c 2 t : Vec Ideal S128x8x8x128 .f32) (ix4 y k q z) = argY m c (ix4 r k q z) := by
  blk_ext [iblk, idx2 t, hr]

theorem blk3 (k : Fin 1024) (l : Fin 256) : (iblk m c 3 t : Vec Ideal S1024x256 .bf16) (ix2 k l) = argA m c (ix2 k l) := by
  rw [← host0]
  blk_ext [iblk, idx3 t]

theorem blk4 (k : Fin 1024) (l : Fin 256) : (iblk m c 4 t : Vec Ideal S1024x256 .bf16) (ix2 k l) = argB m c (ix2 k l) := by
  rw [← host1]
  blk_ext [iblk, idx4 t]

theorem blk5 (k : Fin 256) (l : Fin 1024) : (iblk m c 5 t : Vec Ideal S256x1024 .bf16) (ix2 k l) = argD m c (ix2 k l) := by
  rw [← host2]
  blk_ext [iblk, idx5 t]

theorem blk6 (l : Fin 1024) : (iblk m c 6 t : Vec Ideal S1x1024 .f32) (ix2 0 l) = argg m c (ix1 l) := by
  rw [← host3]
  blk_ext [iblk, idx6 t]

theorem blk7 (l : Fin 1024) : (iblk m c 7 t : Vec Ideal S1x1024 .f32) (ix2 0 l) = argb m c (ix1 l) := by
  rw [← host4]
  blk_ext [iblk, idx7 t]

/-- The rectangle of the rows routed at place `k`, of the columns' group `q`. -/
def cell (k q : Fin 8) : Rect S128x8x8x128 :=
  Rect.unit (s := S128x8x8x128) ![0, k.val, q.val, 0] S128x1x1x128.size fun a => by
    have := k.isLt
    have := q.isLt
    fin_cases a
    · show 0 + 128 ≤ 128; omega
    · show k.val + 1 ≤ 8; omega
    · show q.val + 1 ≤ 8; omega
    · show 0 + 128 ≤ 128; omega

theorem cell_apply (k q : Fin 8) (y z : Fin 128) (r : Fin 65536) (hr : r.val = t.val * 128 + y.val) :
    (View.ld (iblk m c 2 t : Vec Ideal S128x8x8x128 .f32) (cell k q) : S128x1x1x128.Idx → EReal) (ix4 y 0 0 z) = argY m c (ix4 r k q z) := by
  refine (View.ld_unit_apply_of _ _ _ _ _ _ fun a => ?_).trans (blk2 m c t y k q z r hr)
  fin_cases a
  · exact (Nat.zero_add _).symm
  · rfl
  · rfl
  · exact (Nat.zero_add _).symm

/-- A group of 128 columns: the eight blocks of rows weighted and added in order. -/
def group (P : FVec Ideal S128x8 .f32) (Y : Fin 8 → FVec Ideal S128x1x1x128 .f32) : FVec Ideal S128x128 .f32 :=
  addf (addf (addf (addf (addf (addf (addf
    (mulf (broadcastTo S128x128 (extractStridedSlice S128x1 ![0, 0] P slices_S128x8_o0_0_S128x1) broadcasts_S128x1_S128x128) (shapeCast S128x128 (Y 0) shapeCasts_S128x1x1x128_S128x128))
    (mulf (broadcastTo S128x128 (extractStridedSlice S128x1 ![0, 1] P slices_S128x8_o0_1_S128x1) broadcasts_S128x1_S128x128) (shapeCast S128x128 (Y 1) shapeCasts_S128x1x1x128_S128x128)))
    (mulf (broadcastTo S128x128 (extractStridedSlice S128x1 ![0, 2] P slices_S128x8_o0_2_S128x1) broadcasts_S128x1_S128x128) (shapeCast S128x128 (Y 2) shapeCasts_S128x1x1x128_S128x128)))
    (mulf (broadcastTo S128x128 (extractStridedSlice S128x1 ![0, 3] P slices_S128x8_o0_3_S128x1) broadcasts_S128x1_S128x128) (shapeCast S128x128 (Y 3) shapeCasts_S128x1x1x128_S128x128)))
    (mulf (broadcastTo S128x128 (extractStridedSlice S128x1 ![0, 4] P slices_S128x8_o0_4_S128x1) broadcasts_S128x1_S128x128) (shapeCast S128x128 (Y 4) shapeCasts_S128x1x1x128_S128x128)))
    (mulf (broadcastTo S128x128 (extractStridedSlice S128x1 ![0, 5] P slices_S128x8_o0_5_S128x1) broadcasts_S128x1_S128x128) (shapeCast S128x128 (Y 5) shapeCasts_S128x1x1x128_S128x128)))
    (mulf (broadcastTo S128x128 (extractStridedSlice S128x1 ![0, 6] P slices_S128x8_o0_6_S128x1) broadcasts_S128x1_S128x128) (shapeCast S128x128 (Y 6) shapeCasts_S128x1x1x128_S128x128)))
    (mulf (broadcastTo S128x128 (extractStridedSlice S128x1 ![0, 7] P slices_S128x8_o0_7_S128x1) broadcasts_S128x1_S128x128) (shapeCast S128x128 (Y 7) shapeCasts_S128x1x1x128_S128x128))

theorem group_apply (P : S128x8.Idx → EReal) (Y : Fin 8 → S128x1x1x128.Idx → EReal) (y z : Fin 128) :
    (group P Y (ix2 y z) : EReal) = ∑ k : Fin 8, P (ix2 y k) * Y k (ix4 y 0 0 z) := by
  rw [Fin.sum_univ_eight]
  pointwise [group]

/-- The eight groups side by side. -/
def joined (G : Fin 8 → FVec Ideal S128x128 .f32) : FVec Ideal S128x1024 .f32 :=
  concatenate S128x1024 1 [⟨S128x128, G 0⟩, ⟨S128x128, G 1⟩, ⟨S128x128, G 2⟩, ⟨S128x128, G 3⟩, ⟨S128x128, G 4⟩, ⟨S128x128, G 5⟩, ⟨S128x128, G 6⟩, ⟨S128x128, G 7⟩]
    concatenates_S128x128_S128x128_S128x128_S128x128_S128x128_S128x128_S128x128_S128x128_S128x1024_d1

/-- Column `n` of the groups side by side, at row `y`. -/
def columns (G : Fin 8 → S128x128.Idx → EReal) (y : Fin 128) (n : ℕ) : EReal :=
  if h : n / 128 < 8 then G ⟨n / 128, h⟩ (ix2 y ⟨n % 128, by omega⟩) else 0

theorem columns_group (G : Fin 8 → S128x128.Idx → EReal) (y : Fin 128) (q : Fin 8) (i : Fin 128) (o : ℕ) (ho : o = 128 * q.val) :
    G q (ix2 y i) = columns G y (o + i.val) := by
  have hq : (o + i.val) / 128 = q.val := by omega
  have hi : (o + i.val) % 128 = i.val := by omega
  unfold columns
  rw [dif_pos (by omega)]
  exact congrArg₂ (fun q i => G q (ix2 y i)) (Fin.ext hq.symm : q = ⟨(o + i.val) / 128, by omega⟩) (Fin.ext hi.symm : i = ⟨(o + i.val) % 128, by omega⟩)

theorem joined_apply (G : Fin 8 → S128x128.Idx → EReal) (y : Fin 128) (l : Fin 1024) :
    (joined G (ix2 y l) : EReal) = G ⟨l.val / 128, by omega⟩ (ix2 y ⟨l.val % 128, by omega⟩) := by
  have h : (joined G (ix2 y l) : EReal) = columns G y (0 + l.val) := by
    unfold joined
    rw [concatenate_cons_apply]
    refine Cert.Proj.cat_cons _ _ _ _ _ _ (fun i => columns_group G y 0 i _ rfl) (fun _ _ _ => ?_) _ _ _
    refine Cert.Proj.cat_cons _ _ _ _ _ _ (fun i => columns_group G y 1 i _ rfl) (fun _ _ _ => ?_) _ _ _
    refine Cert.Proj.cat_cons _ _ _ _ _ _ (fun i => columns_group G y 2 i _ rfl) (fun _ _ _ => ?_) _ _ _
    refine Cert.Proj.cat_cons _ _ _ _ _ _ (fun i => columns_group G y 3 i _ rfl) (fun _ _ _ => ?_) _ _ _
    refine Cert.Proj.cat_cons _ _ _ _ _ _ (fun i => columns_group G y 4 i _ rfl) (fun _ _ _ => ?_) _ _ _
    refine Cert.Proj.cat_cons _ _ _ _ _ _ (fun i => columns_group G y 5 i _ rfl) (fun _ _ _ => ?_) _ _ _
    refine Cert.Proj.cat_cons _ _ _ _ _ _ (fun i => columns_group G y 6 i _ rfl) (fun _ _ _ => ?_) _ _ _
    exact Cert.Proj.cat_last _ _ _ _ (fun i => columns_group G y 7 i _ rfl) _ _ _
  rw [h, Nat.zero_add]
  exact dif_pos _

/-- The kernel's shared expert of a block of rows. -/
theorem shared_apply (v0 : Vec Ideal S128x1024 .f32) (v2 v5 : Vec Ideal S1024x256 .bf16) (v12 : Vec Ideal S256x1024 .bf16) (y : Fin 128) (z : Fin 1024) :
    (k0_pay2 v0 v2 v5 v12 (ix2 y z) : EReal) = shared (fun x => v0 (ix2 y x)) v2 v5 v12 z := by
  pointwise [k0_pay2, shared]

/-- The kernel's mean of each row. -/
def blockMean (U : FVec Ideal S128x1024 .f32) : FVec Ideal S128x1 .f32 :=
  divf (shapeCast S128x1 (multiReduction .add [1] S128 U 0x00000000#32 reduces_S128x1024_S128 (.inl rfl) rfl) shapeCasts_S128_S128x1)
    (broadcast S128x1 (Scalar.ofBits .f32 0x44800000#32))

/-- The rows with their means taken off. -/
def blockCentred (U : FVec Ideal S128x1024 .f32) : FVec Ideal S128x1024 .f32 :=
  subf U (broadcastTo S128x1024 (blockMean U) broadcasts_S128x1_S128x1024)

/-- The kernel's norm of a block of rows. -/
def blockNorm (U : FVec Ideal S128x1024 .f32) (g b : Vec Ideal S1x1024 .f32) : FVec Ideal S128x1024 .f32 :=
  addf (mulf (mulf (blockCentred U) (broadcastTo S128x1024
      (rsqrt (addf (blockMean (mulf (blockCentred U) (blockCentred U))) (broadcast S128x1 (Scalar.ofBits .f32 0x3727C5AC#32)))) broadcasts_S128x1_S128x1024))
    (broadcastTo S128x1024 (shapeCast S1x1024 g shapeCasts_S1x1024_S1x1024) broadcasts_S1x1024_S128x1024))
    (broadcastTo S128x1024 (shapeCast S1x1024 b shapeCasts_S1x1024_S1x1024) broadcasts_S1x1024_S128x1024)

theorem blockNorm_apply (U : S128x1024.Idx → EReal) (g b : S1x1024.Idx → EReal) (y : Fin 128) (z : Fin 1024) :
    (blockNorm U g b (ix2 y z) : EReal) = normed (fun l => U (ix2 y l)) z (g (ix2 0 z)) (b (ix2 0 z)) := by
  pointwise [blockNorm, blockCentred, blockMean, normed, mean]

/-- The residual plus the joined groups plus the shared expert. -/
def added (H J S : FVec Ideal S128x1024 .f32) : FVec Ideal S128x1024 .f32 :=
  addf (mulf (broadcast S128x1024 (Scalar.ofBits .f32 0x3F9837F0#32)) H) (addf J S)

theorem added_apply (H J S : S128x1024.Idx → EReal) (y : Fin 128) (z : Fin 1024) :
    (added H J S (ix2 y z) : EReal) = alpha * H (ix2 y z) + (J (ix2 y z) + S (ix2 y z)) := by
  pointwise [added]

/-- A point's block of the output, from the blocks of its inputs. -/
def result (x0 : Vec Ideal S128x1024 .f32) (x1 : Vec Ideal S128x8 .f32) (x2 : Vec Ideal S128x8x8x128 .f32) (x3 x4 : Vec Ideal S1024x256 .bf16)
    (x5 : Vec Ideal S256x1024 .bf16) (x6 x7 : Vec Ideal S1x1024 .f32) : FVec Ideal S128x1024 .f32 :=
  blockNorm (added x0 (joined fun q => group x1 fun k => View.ld x2 (cell k q)) (k0_pay2 x0 x3 x4 x5)) x6 x7

/-- What the kernel stores is that block. -/
theorem out_eq (x0 : Vec Ideal S128x1024 .f32) (x1 : Vec Ideal S128x8 .f32) (x2 : Vec Ideal S128x8x8x128 .f32) (x3 x4 : Vec Ideal S1024x256 .bf16)
    (x5 : Vec Ideal S256x1024 .bf16) (x6 x7 : Vec Ideal S1x1024 .f32) :
    out0_8 x0 x1 x2 x3 x4 x5 x6 x7 = View.canon [⟨r0_0, result (View.ld x0 r0_0) (View.ld x1 r0_3) x2 (View.ld x3 r0_1) (View.ld x4 r0_1) (View.ld x5 r0_2)
      (View.ld x6 r0_68) (View.ld x7 r0_68)⟩] := rfl

/-- A point's block holds its rows of the output. -/
theorem point_apply (y : Fin 128) (z : Fin 1024) (r : Fin 65536) (hr : r.val = t.val * 128 + y.val) (l : Fin 1024) (hl : l.val = z.val) :
    (result (iblk m c 0 t : Vec Ideal S128x1024 .f32) (iblk m c 1 t : Vec Ideal S128x8 .f32) (iblk m c 2 t : Vec Ideal S128x8x8x128 .f32)
      (iblk m c 3 t : Vec Ideal S1024x256 .bf16) (iblk m c 4 t : Vec Ideal S1024x256 .bf16) (iblk m c 5 t : Vec Ideal S256x1024 .bf16)
      (iblk m c 6 t : Vec Ideal S1x1024 .f32) (iblk m c 7 t : Vec Ideal S1x1024 .f32) (ix2 y z) : EReal) =
      output (argH m c) (argP m c) (argY m c) (argA m c) (argB m c) (argD m c) (argg m c) (argb m c) r l := by
  obtain rfl : l = z := Fin.ext hl
  refine (blockNorm_apply _ _ _ _ _).trans ?_
  rw [blk6, blk7]
  refine congrArg (fun u => normed u l (argg m c (ix1 l)) (argb m c (ix1 l))) (funext fun k => ?_)
  refine (added_apply _ _ _ _ _).trans ?_
  refine congrArg₂ _ (congrArg _ (blk0 m c t y k r hr)) (congrArg₂ _ ?_ ?_)
  · refine (joined_apply _ _ _).trans ((group_apply _ _ _ _).trans (Finset.sum_congr rfl fun x _ => ?_))
    exact congrArg₂ _ (blk1 m c t y x r hr) (cell_apply m c t x _ y _ r hr)
  · refine (shared_apply _ _ _ _ _ _).trans ?_
    unfold shared
    refine Finset.sum_congr rfl fun x _ => ?_
    rw [blk5]
    simp only [blk3, blk4, fun x => blk0 m c t y x r hr]

/-- The array the kernel leaves. -/
theorem array_eq : ((dats m 0 c).arrAt 8 cfg0.N : S65536x1024.Idx → EReal) =
    fun i => output (argH m c) (argP m c) (argY m c) (argA m c) (argB m c) (argD m c) (argg m c) (argb m c) (i 0) (i 1) := by
  refine (dats m 0 c).arrAt_eq_of_covers 8 (fun i : S65536x1024.Idx => output (argH m c) (argP m c) (argY m c) (argA m c) (argB m c) (argD m c) (argg m c) (argb m c) (i 0) (i 1))
    (by decide +kernel) fun t hf y => ?_
  blk_simp
  rw [after0_8, out_eq]; frame_out
  rw [eq_ix2 y]
  refine point_apply m c t (y 0) (y 1) _ ?_ _ ?_
  · blk_simp [idx8 t]
  · blk_simp [idx8 t]

end Cert.Combine

end
-- ==== Proof.Combine.lean ====
/- The mixture's last kernel computes the reference's rows. -/
module

public import proofs.«01_k».proof.Defs
public import proofs.«01_k».proof.Proof.Gen.Kernel4.Frame
public import proofs.«01_k».proof.Proof.CombineKernel
public import proofs.«01_k».proof.Proof.Gen.Reference4Ideal
public import proofs.«01_k».proof.Proof.Gen.Reference4Ideal.Run
public import Idealize.ShloMosaic.Lib.Quiescent

@[expose] public section

set_option maxRecDepth 16384

noncomputable section

namespace Cert.Combine

open Cert.LayerNorm
open Idealize.ShloMosaic Idealize.ShloMosaic.TcCoe Idealize.SL.Sem

section
open Cert.Reference4Ideal Cert.Reference4Ideal.Gen

/-- The reference's routed rows, weighted and added. -/
def routed (P : FVec Ideal S65536x8 .f32) (Y : FVec Ideal S65536x8x8x128 .f32) : FVec Ideal S65536x1024 .f32 :=
  Host.dotGeneral dot_S65536x8_S65536x8x1024_S65536x1024_1_1_n_2_0_0 none P (shapeCast _ Y shapeCasts_S65536x8x8x128_S65536x8x1024)

theorem split_apply (Y : S65536x8x8x128.Idx → EReal) (r : Fin 65536) (k : Fin 8) (l : Fin 1024) :
    (shapeCast S65536x8x1024 Y shapeCasts_S65536x8x8x128_S65536x8x1024 (ix3 r k l) : EReal) = Y (ix4 r k ⟨l.val / 128, by omega⟩ ⟨l.val % 128, by omega⟩) := by
  pointwise

theorem routed_apply (P : S65536x8.Idx → EReal) (Y : S65536x8x8x128.Idx → EReal) (r : Fin 65536) (l : Fin 1024) :
    (routed P Y (ix2 r l) : EReal) = ∑ k : Fin 8, P (ix2 r k) * Y (ix4 r k ⟨l.val / 128, by omega⟩ ⟨l.val % 128, by omega⟩) := by
  have h : (routed P Y (ix2 r l) : EReal) = ∑ k : Fin 8, P (ix2 r k) * shapeCast S65536x8x1024 Y shapeCasts_S65536x8x8x128_S65536x8x1024 (ix3 r k l) := by
    unfold routed
    generalize shapeCast S65536x8x1024 Y shapeCasts_S65536x8x8x128_S65536x8x1024 = Z
    pointwise
  rw [h]
  exact Finset.sum_congr rfl fun k _ => congrArg _ (split_apply Y r k l)

/-- The reference's product of the rows with one of the shared expert's first weights. -/
def project (H : FVec Ideal S65536x1024 .f32) (A : FVec Ideal S1024x256 .f32) : FVec Ideal S65536x256 .f32 :=
  Host.dotGeneral dot_S65536x1024_S1024x256_S65536x256_1_0_0_1_n_n none H A

theorem project_apply (H : S65536x1024.Idx → EReal) (A : S1024x256.Idx → EReal) (r : Fin 65536) (k : Fin 256) :
    (project H A (ix2 r k) : EReal) = ∑ x : Fin 1024, H (ix2 r x) * A (ix2 x k) := by
  pointwise [project]

/-- The gate times the second product. -/
def gated (U V : FVec Ideal S65536x256 .f32) : FVec Ideal S65536x256 .f32 :=
  mulf (mulf U (Host.divf (broadcastInDim S65536x256 ![] bcast_S_S65536x256 (constant S_ .f32 0x3F800000#32))
    (addf (broadcastInDim S65536x256 ![] bcast_S_S65536x256 (constant S_ .f32 0x3F800000#32)) (Host.exp (Host.negf U))))) V

theorem gated_apply (U V : S65536x256.Idx → EReal) (r : Fin 65536) (k : Fin 256) :
    (gated U V (ix2 r k) : EReal) = U (ix2 r k) * Ideal.logistic (U (ix2 r k)) * V (ix2 r k) := by
  pointwise [gated]
  rfl

/-- The product with the shared expert's last weights. -/
def back (U : FVec Ideal S65536x256 .f32) (D : FVec Ideal S256x1024 .f32) : FVec Ideal S65536x1024 .f32 :=
  Host.dotGeneral dot_S65536x256_S256x1024_S65536x1024_1_0_0_1_n_n none U D

theorem back_apply (U : S65536x256.Idx → EReal) (D : S256x1024.Idx → EReal) (r : Fin 65536) (l : Fin 1024) :
    (back U D (ix2 r l) : EReal) = ∑ k : Fin 256, U (ix2 r k) * D (ix2 k l) := by
  pointwise [back]

/-- The reference's residual plus the routed rows plus the shared expert. -/
def sum (H R S : FVec Ideal S65536x1024 .f32) : FVec Ideal S65536x1024 .f32 :=
  addf (mulf (broadcastInDim S65536x1024 ![] bcast_S_S65536x1024 (constant S_ .f32 0x3F9837F0#32)) H) (addf R S)

theorem sum_apply (H R S : S65536x1024.Idx → EReal) (r : Fin 65536) (l : Fin 1024) :
    (sum H R S (ix2 r l) : EReal) = alpha * H (ix2 r l) + (R (ix2 r l) + S (ix2 r l)) := by
  pointwise [sum]

/-- The reference's mean of each row. -/
def rowMean (U : FVec Ideal S65536x1024 .f32) : FVec Ideal S65536x1 .f32 :=
  Host.divf (broadcastInDim S65536x1 ![0] bcast_S65536_S65536x1_0 (Host.reduceAdd U (constant S_ .f32 0x00000000#32) reducesTo_S65536x1024_S65536_d1 h_S_))
    (broadcastInDim S65536x1 ![] bcast_S_S65536x1 (constant S_ .f32 0x44800000#32))

/-- The rows with their means taken off. -/
def centred (U : FVec Ideal S65536x1024 .f32) : FVec Ideal S65536x1024 .f32 :=
  subf U (broadcastInDim S65536x1024 ![0, 1] bcast_S65536x1_S65536x1024_0_1 (rowMean U))

/-- The reference's norm of the rows. -/
def rowNorm (U : FVec Ideal S65536x1024 .f32) (g b : FVec Ideal S1024 .f32) : FVec Ideal S65536x1024 .f32 :=
  addf (mulf (mulf (centred U) (broadcastInDim S65536x1024 ![0, 1] bcast_S65536x1_S65536x1024_0_1
      (Host.rsqrt (addf (rowMean (mulf (centred U) (centred U))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem rowNorm_apply (U : S65536x1024.Idx → EReal) (g b : S1024.Idx → EReal) (r : Fin 65536) (l : Fin 1024) :
    (rowNorm U g b (ix2 r l) : EReal) = normed (fun k => U (ix2 r k)) l (g (ix1 l)) (b (ix1 l)) := by
  pointwise [rowNorm, centred, rowMean, normed, mean]

theorem reference_apply (H : S65536x1024.Idx → EReal) (P : S65536x8.Idx → EReal) (Y : S65536x8x8x128.Idx → EReal) (A B : S1024x256.Idx → EReal)
    (D : S256x1024.Idx → EReal) (g b : S1024.Idx → EReal) (r : Fin 65536) (l : Fin 1024) :
    (rowNorm (sum H (routed P Y) (back (gated (project H A) (project H B)) D)) g b (ix2 r l) : EReal) = output H P Y A B D g b r l := by
  refine (rowNorm_apply _ _ _ r l).trans (congrArg (fun u => normed u l (g (ix1 l)) (b (ix1 l))) (funext fun k => ?_))
  refine (sum_apply _ _ _ _ _).trans (congrArg _ (congrArg₂ _ (routed_apply P Y r k) ?_))
  refine (back_apply _ _ _ _).trans (Finset.sum_congr rfl fun x _ => congrArg (· * D (ix2 x k)) ?_)
  refine (gated_apply _ _ _ _).trans ?_
  rw [project_apply, project_apply]

end

/-- The reference runs to its end, keeps its arguments, and declares no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's array is the reference's. -/
theorem algebraic : Cert.algebraic_Kernel4Ideal_Reference4Ideal := fun m g m' g' _ hagree => by
  refine ⟨fun c => (Cert.Kernel4Ideal.Gen.dats m 0 c).arrAt 8 Cert.Kernel4Ideal.cfg0.N, ?_, ?_⟩
  · exact (θ_run _ _ _).mono (fun r h c => ⟨(h.1 c).1 8, h.2 c⟩) (θ_run_and (Cert.Kernel4Ideal.Gen.run_main m g) (Cert.Kernel4Ideal.Gen.unchanged m g))
  refine (θ_run _ _ _).mono (fun _ h c => ⟨(h c).1.trans ?_, (h c).2⟩) (Cert.Reference4Ideal.Value.run m' g')
  obtain ⟨h0, h1, h2, h3, h4, h5, h6, h7⟩ := hagree c
  unfold Cert.Reference4Ideal.Value.res_main_v34
  rw [h0, h1, h2, h3, h4, h5, h6, h7]
  refine Eq.trans ?_ (array_eq m c).symm
  funext i
  exact (congrArg _ (eq_ix2 i)).trans (reference_apply (argH m c) (argP m c) (argY m c) (argA m c) (argB m c) (argD m c) (argg m c) (argb m c) (i 0) (i 1))

end Cert.Combine

end
-- ==== Proof.ExpertsTable.lean ====
/- The experts' launch up to its region: what the host operations leave in the prefetched tables, and the block
   each window reads at a grid point, where the routing is in range. -/
module

public import proofs.«01_k».proof.Proof.Gen.Kernel5Ideal.Launch
public import Idealize.ShloMosaic.Lib.Pipeline.ValueKit
public import Idealize.ShloMosaic.Lib.StableHlo.Predicate

@[expose] public section

set_option maxRecDepth 16384

noncomputable section

namespace Cert.Experts

open Cert.Kernel5Ideal Cert.Kernel5Ideal.Gen
open Idealize.ShloMosaic Idealize.ShloMosaic.TcCoe

variable {F : FTy → Type} [FloatOps F]
variable (m : (ℓ : Loc nD τ sig) → Buf (Elt F) ℓ)

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The buffers the host operations write. -/
def written : List (Ref sig .tc) :=
  [main_v0, main_v1, main_c, main_v2, main_v3, main_v4, main_c_0, main_v5, main_v6, main_c_1, main_v7, main_v8, main_v9, main_v10, main_v11]

/-- A buffer that no host operation writes is found as launched. -/
theorem V_kept (c : Dev nD) (b : Ref sig .tc) (hb : ∀ x ∈ written, b ≠ x) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by simp only [written]; simp only [List.mem_cons, true_or, or_true]))))

/-- The expert of each block of rows, as passed. -/
abbrev argE : S2304.Idx → BitVec 32 := m (((0 : Dev nD) : Thread nD τ).loc main_arg0)
/-- The number of blocks in use, as passed. -/
abbrev argN : S1.Idx → BitVec 32 := m (((0 : Dev nD) : Thread nD τ).loc main_arg1)

/-- The number of blocks in use. -/
def count : ℕ := (argN m (ix1 0)).toNat

/-- The routing in range: an expert for each block, and a block in use. -/
structure Routed : Prop where
  expert : ∀ k : Fin 2304, (argE m (ix1 k)).toNat < 256
  used : 1 ≤ count m
  small : count m < 2 ^ 31

/-- The block a grid point works on: its own, or the last in use. -/
def place (k : Fin 2304) : Fin 2304 := ⟨min k.val (count m - 1), by omega⟩

/-- The tables the region prefetches. -/
def tbl : pre0.Contents (Elt F) := fun j => V m (0 : Dev nD) (pre0.ref j)

theorem V_pre (c : Dev nD) (j : Fin pre0.K) : V m c (pre0.ref j) = tbl m j := by
  obtain rfl : c = 0 := Subsingleton.elim _ _
  rfl

theorem tbl1 : (tbl m 1 : S1.Idx → BitVec 32) = argN m :=
  V_kept m 0 main_arg1 (by decide)

/-- The lesser of a point and the last block in use, as words. -/
theorem min_word (h : Routed m) (k : Fin 2304) :
    IntOp.minsi (BitVec.ofNat 32 k.val) (argN m (ix1 0) - 1#32) = BitVec.ofNat 32 (place m k).val := by
  have h1 := h.used
  have h2 := h.small
  have hk := k.isLt
  have e : argN m (ix1 0) = BitVec.ofNat 32 (count m) := by simp [count]
  rw [e, StableHlo.Predicate.sub_one_ofNat _ h1 (by omega)]
  have hs := StableHlo.Predicate.slt_ofNat_iff k.val (count m - 1) (by omega) (by omega)
  rw [StableHlo.Predicate.ofBool_eq_one_iff] at hs
  unfold IntOp.minsi
  by_cases hlt : k.val < count m - 1
  · rw [if_pos (hs.mpr hlt)]
    exact congrArg (BitVec.ofNat 32) (by simp only [place]; omega)
  · rw [if_neg fun q => hlt (hs.mp q)]
    exact congrArg (BitVec.ofNat 32) (by simp only [place]; omega)

/-- The word the host gathers the expert by. -/
theorem gather_word (h : Routed m) (k : Fin 2304) :
    (if (IntOp.cmpi .slt (BitVec.ofNat 32 (place m k).val) 0#32 : BitVec 1) = 1#1 then BitVec.ofNat 32 (place m k).val + 2304#32
      else BitVec.ofNat 32 (place m k).val) = BitVec.ofNat 32 (place m k).val := by
  have hk := (place m k).isLt
  refine if_neg fun q => ?_
  have := (StableHlo.Predicate.slt_iff_toNat (a := BitVec.ofNat 32 (place m k).val) (b := 0#32) (by simp; omega) (by decide)).mp q
  simp at this

/-- The prefetched experts: at each point, that of the block it works on. -/
theorem tbl0 (h : Routed m) (k : Fin 2304) : (tbl m 0 : S2304.Idx → BitVec 32) (ix1 k) = argE m (ix1 (place m k)) := by
  have key : (V m 0 main_v10 : S2304x1.Idx → BitVec 32) (ix2 k 0) = BitVec.ofNat 32 (place m k).val := by
    refine Eq.trans ?_ (gather_word m h k)
    rw [← min_word m h k]
    simp only [V, hostOps0]
    entry_read
    pointwise
    rfl
  have hg : (tbl m 0 : S2304.Idx → BitVec 32) = Host.gather gather_S2304_S2304x1_S2304_n_0_n_n_0_1_1 (V m 0 main_arg0 : S2304.Idx → BitVec 32) (V m 0 main_v10 : S2304x1.Idx → BitVec 32) := rfl
  rw [hg, V_kept m 0 main_arg0 (by decide)]
  have ek : (ix1 k : S2304.Idx) = Shape.Idx.ofFin k := by
    funext a
    obtain rfl : a = 0 := Subsingleton.elim _ _
    rfl
  have ep : (StableHlo.Predicate.ixP k : S2304x1.Idx) = ix2 k 0 := by
    funext a
    fin_cases a <;> rfl
  rw [ek]
  refine (StableHlo.Predicate.gather_take _ rfl rfl rfl rfl _ _ k (by decide)).trans (congrArg (argE m) ?_)
  funext a
  obtain rfl : a = 0 := Subsingleton.elim _ _
  refine Fin.ext ?_
  show min ((V m 0 main_v10 : S2304x1.Idx → BitVec 32) (StableHlo.Predicate.ixP k)).toInt.toNat (2304 - 1) = (place m k).val
  have hk := (place m k).isLt
  rw [ep, key, StableHlo.Predicate.toInt_ofNat_small _ (by omega)]
  omega

/-- An index of an array of one element. -/
theorem one_eq (x : S1.Idx) : x = ix1 0 := by
  funext a
  obtain rfl : a = 0 := Subsingleton.elim _ _
  exact Subsingleton.elim (α := Fin 1) _ _

/-- A point's coordinate as the index it is read at. -/
theorem point_word (i : grid0.Coords) : (Scalar.indexCast (BitVec.ofNat 32 (i 0).val)).toNat = (i 0).val := by
  have hk : (i 0).val < 2304 := (i 0).isLt
  show (BitVec.setWidth 32 (BitVec.ofNat 32 (i 0).val)).toNat = (i 0).val
  simp only [BitVec.setWidth_eq, BitVec.toNat_ofNat]
  omega

/-- The element of the experts' table that a grid point reads. -/
theorem point_elt (i : grid0.Coords) (x : (Rect.unit (s := S2304) (k0_off1 i) S1.size (k0_off1_inb i)).shape.Idx) :
    (Rect.unit (s := S2304) (k0_off1 i) S1.size (k0_off1_inb i)).emb x = (ix1 (i 0) : S2304.Idx) := by
  funext a
  obtain rfl : a = 0 := Subsingleton.elim _ _
  refine Fin.ext ?_
  have hx : (x 0).val < 1 := (x 0).isLt
  have hw := point_word i
  show k0_off1 i 0 + 1 * (x 0).val = (i 0).val
  have e : k0_off1 i 0 = (i 0).val := hw
  omega

/-- The rows' block at a grid point. -/
theorem rows_index (h : Routed m) (i : grid0.Coords) :
    cc0_transform_0 inb_S1_S1_0 numel1_S1 (tbl m) i = ![(place m (i 0)).val, 0, 0] := by
  have hk := (place m (i 0)).isLt
  have e : ∀ x : S1.Idx, (tbl m 1 : S1.Idx → BitVec 32) x = argN m (ix1 0) := fun x => (congrFun (tbl1 m) x).trans (congrArg _ (one_eq x))
  refine (congrArg (fun w : BitVec 32 => (![(IntOp.minsi (BitVec.ofNat 32 (i 0).val) (w - 1#32)).toNat, 0, 0] : Fin 3 → ℕ)) (e _)).trans ?_
  refine (congrArg (fun w : BitVec 32 => (![w.toNat, 0, 0] : Fin 3 → ℕ)) (min_word m h (i 0))).trans ?_
  refine congrArg (fun n : ℕ => (![n, 0, 0] : Fin 3 → ℕ)) ?_
  rw [BitVec.toNat_ofNat]
  omega

/-- A weight's block at a grid point. -/
theorem weight_index (h : Routed m) (i : grid0.Coords) :
    cc0_transform_1 k0_off1_inb numel1_S1 (tbl m) i = ![(argE m (ix1 (place m (i 0)))).toNat, 0, 0] :=
  congrArg (fun w : BitVec 32 => (![w.toNat, 0, 0] : Fin 3 → ℕ)) ((congrArg (tbl m 0 : S2304.Idx → BitVec 32) (point_elt i _)).trans (tbl0 m h (i 0)))

/-- Every window's block lies in its array. -/
theorem ok (h : Routed m) : ok0 (F := F) (tbl m) := by
  have hr : ∀ i : grid0.Coords, ∀ a, (cc0_transform_0 inb_S1_S1_0 numel1_S1 (tbl m) i a + 1) * S256x8x128.size a ≤ S589824x8x128.size a := by
    intro i a
    have hk := (place m (i 0)).isLt
    rw [rows_index m h i]
    fin_cases a
    · show ((place m (i 0)).val + 1) * 256 ≤ 589824; omega
    · show (0 + 1) * 8 ≤ 8; omega
    · show (0 + 1) * 128 ≤ 128; omega
  have hw : ∀ i : grid0.Coords, ∀ a, (cc0_transform_1 k0_off1_inb numel1_S1 (tbl m) i a + 1) * S1x1024x256.size a ≤ S256x1024x256.size a := by
    intro i a
    have hk := h.expert (place m (i 0))
    rw [weight_index m h i]
    fin_cases a
    · show ((argE m (ix1 (place m (i 0)))).toNat + 1) * 1 ≤ 256; omega
    · show (0 + 1) * 1024 ≤ 1024; omega
    · show (0 + 1) * 256 ≤ 256; omega
  have hd : ∀ i : grid0.Coords, ∀ a, (cc0_transform_1 k0_off1_inb numel1_S1 (tbl m) i a + 1) * S1x256x1024.size a ≤ S256x256x1024.size a := by
    intro i a
    have hk := h.expert (place m (i 0))
    rw [weight_index m h i]
    fin_cases a
    · show ((argE m (ix1 (place m (i 0)))).toNat + 1) * 1 ≤ 256; omega
    · show (0 + 1) * 256 ≤ 256; omega
    · show (0 + 1) * 1024 ≤ 1024; omega
  exact ⟨fun i => ⟨hr i, .inl rfl⟩, fun i => ⟨hw i, .inl rfl⟩, fun i => ⟨hw i, .inl rfl⟩, fun i => ⟨hd i, .inl rfl⟩, fun i => ⟨hr i, .inl rfl⟩⟩

/-- Whether a grid point is in use, as the kernel's condition reads it. -/
theorem live_iff (h : Routed m) (i : grid0.Coords) : k0_cond1 i (argN m (ix1 0)) = 1#1 ↔ (i 0).val < count m := by
  have hk : (i 0).val < 2304 := (i 0).isLt
  have h2 := h.small
  have hs := StableHlo.Predicate.slt_ofNat_iff (i 0).val (count m) (by omega) h2
  have e : argN m (ix1 0) = BitVec.ofNat 32 (count m) := by simp [count]
  rw [← e] at hs
  refine Iff.trans ?_ hs
  show IntOp.cmpi .ne (BitVec.setWidth 32 (BitVec.ofBool ((BitVec.ofNat 32 (i 0).val).slt (argN m (ix1 0))))) 0#32 = 1#1 ↔ _
  cases (BitVec.ofNat 32 (i 0).val).slt (argN m (ix1 0)) <;> decide

end Cert.Experts

end
-- ==== Proof.ExpertsBody.lean ====
/- What the experts' kernel body does at one grid point: at a point in use it stores the gated product of its rows
   with its expert's weights, at any other it leaves the output's buffer as it found it. -/
module

public import proofs.«01_k».proof.Proof.ExpertsTable
public import proofs.«01_k».proof.Proof.Gen.Kernel5Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of the launch. -/
abbrev Asn (F : FTy → Type) [FloatOps F] := sProp (MT nD τ sig Unit (Elt F) ℕ (UR sig nD τ) ℕ)

/-- The whole of a weight's block. -/
abbrev wholeW : Rect S1x1024x256 := Rect.unit (s := S1x1024x256) ![0, 0, 0] S1x1024x256.size inb_S1x1024x256_S1x1024x256_0_0_0
abbrev wholeD : Rect S1x256x1024 := Rect.unit (s := S1x256x1024) ![0, 0, 0] S1x256x1024.size inb_S1x256x1024_S1x256x1024_0_0_0

/-- The rectangle of one group of 128 columns of a block of rows. -/
abbrev cell (q : Fin 8) : Rect S256x8x128 :=
  Rect.unit (s := S256x8x128) ![0, q.val, 0] S256x1x128.size fun a => by
    have := q.isLt
    fin_cases a
    · show 0 + 256 ≤ 256; omega
    · show q.val + 1 ≤ 8; omega
    · show 0 + 128 ≤ 128; omega

/-- The rows' product with the second weight. -/
def up (x : Vec F S256x8x128 .f32) (B : Vec F S1x1024x256 .f32) : FVec F S256x256 .f32 :=
  k0_pay4 (View.ld x (cell 0)) (View.ld x (cell 1)) (View.ld x (cell 2)) (View.ld x (cell 3)) (View.ld x (cell 4)) (View.ld x (cell 5)) (View.ld x (cell 6)) (View.ld x (cell 7)) (View.ld B wholeW)

/-- The rows' product with the first weight, through the gate. -/
def gate (x : Vec F S256x8x128 .f32) (A : Vec F S1x1024x256 .f32) : FVec F S256x256 .f32 :=
  k0_pay5 (View.ld x (cell 0)) (View.ld x (cell 1)) (View.ld x (cell 2)) (View.ld x (cell 3)) (View.ld x (cell 4)) (View.ld x (cell 5)) (View.ld x (cell 6)) (View.ld x (cell 7)) (View.ld A wholeW)

/-- The eight groups of columns the body stores, the last first. -/
def pieces (x : Vec F S256x8x128 .f32) (A B : Vec F S1x1024x256 .f32) (D : Vec F S1x256x1024 .f32) : List (View.Piece (Elt F) S256x8x128 .f32) :=
  [⟨cell 7, k0_pay2 (k0_pay6 (up x B) (gate x A) (View.ld D wholeD))⟩, ⟨cell 6, k0_pay1 (k0_pay13 (up x B) (gate x A) (View.ld D wholeD))⟩,
   ⟨cell 5, k0_pay12 (up x B) (gate x A) (View.ld D wholeD)⟩, ⟨cell 4, k0_pay11 (up x B) (gate x A) (View.ld D wholeD)⟩,
   ⟨cell 3, k0_pay10 (up x B) (gate x A) (View.ld D wholeD)⟩, ⟨cell 2, k0_pay9 (up x B) (gate x A) (View.ld D wholeD)⟩,
   ⟨cell 1, k0_pay8 (up x B) (gate x A) (View.ld D wholeD)⟩, ⟨cell 0, k0_pay7 (up x B) (gate x A) (View.ld D wholeD)⟩]

/-- The block of the output the body leaves. -/
def out (x : Vec F S256x8x128 .f32) (A B : Vec F S1x1024x256 .f32) (D : Vec F S1x256x1024 .f32) : Vec F S256x8x128 .f32 :=
  View.canon (pieces x A B D)

/-- The groups cover the block. -/
theorem cover (x : Vec F S256x8x128 .f32) (A B : Vec F S1x1024x256 .f32) (D : Vec F S1x256x1024 .f32) (y : S256x8x128.Idx) :
    ∃ pc ∈ pieces x A B D, y ∈ pc.1.set :=
  View.cover_of_tiled (pieces x A B D) S256x1x128.size (by rfl) y

/-- The count's table, half of which the body holds. -/
abbrev countPt (c : Dev nD) (f : Buf (Elt F) ((Memref.whole main_arg1).view.loc (c : Thread nD τ))) : Asn F :=
  (Memref.whole main_arg1).view.loc (c : Thread nD τ) ↦{fullShare.right} f

set_option maxHeartbeats 1000000 in
/-- The body at a point in use. -/
theorem body_live (c : Dev nD) (E : Set ℕ) (i : grid0.Coords) (f : Buf (Elt F) ((Memref.whole main_arg1).view.loc (c : Thread nD τ)))
    (hf : ∀ y, k0_cond1 i ((f : S1.Idx → BitVec 32) y) = 1#1)
    (a3 : Memref sig .tc .vmem S256x8x128 .f32) (h3 : a3.IsWhole) (a4 : Memref sig .tc .vmem S1x1024x256 .f32) (h4 : a4.IsWhole)
    (a5 : Memref sig .tc .vmem S1x1024x256 .f32) (h5 : a5.IsWhole) (a6 : Memref sig .tc .vmem S1x256x1024 .f32) (h6 : a6.IsWhole)
    (a7 : Memref sig .tc .vmem S256x8x128 .f32) (h7 : a7.IsWhole)
    (x : Vec F S256x8x128 .f32) (A B : Vec F S1x1024x256 .f32) (D : Vec F S1x256x1024 .f32) (K : PUnit → Asn F) :
    iprop(countPt c f ∗ owns (c : Thread nD τ) a3 fullShare x ∗ owns (c : Thread nD τ) a4 fullShare A ∗ owns (c : Thread nD τ) a5 fullShare B
        ∗ owns (c : Thread nD τ) a6 fullShare D ∗ (∃ d, owns (c : Thread nD τ) a7 fullShare d)
        ∗ (iprop(countPt c f ∗ owns (c : Thread nD τ) a3 fullShare x ∗ owns (c : Thread nD τ) a4 fullShare A ∗ owns (c : Thread nD τ) a5 fullShare B
          ∗ owns (c : Thread nD τ) a6 fullShare D ∗ owns (c : Thread nD τ) a7 fullShare (out x A B D)) -∗ K ⟨⟩))
      ⊢ wp frame (wpE (defs₀ (F := F)) Variants.none c none) E
          (cc0_experts i (Memref.whole main_v11) (Memref.isWhole_whole _) (Memref.whole main_arg1) (Memref.isWhole_whole _) a3 h3 a4 h4 a5 h5 a6 h6 a7 h7) K := by
  simp only [cc0_experts_eq_skeleton]; unfold cc0_experts_skel
  simp only [k0_part1_eq_skeleton, k0_part2_eq_skeleton]
  unfold owns countPt
  iintro ⟨HT, ⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap
  · iexact H4
  ipureintro
  exact View.read_writes_eq_canon _ _ _ (cover _ _ _ _)

set_option maxHeartbeats 1000000 in
/-- The body at a point past the last in use. -/
theorem body_idle (c : Dev nD) (E : Set ℕ) (i : grid0.Coords) (f : Buf (Elt F) ((Memref.whole main_arg1).view.loc (c : Thread nD τ)))
    (hf : ∀ y, ¬ k0_cond1 i ((f : S1.Idx → BitVec 32) y) = 1#1)
    (a3 : Memref sig .tc .vmem S256x8x128 .f32) (h3 : a3.IsWhole) (a4 : Memref sig .tc .vmem S1x1024x256 .f32) (h4 : a4.IsWhole)
    (a5 : Memref sig .tc .vmem S1x1024x256 .f32) (h5 : a5.IsWhole) (a6 : Memref sig .tc .vmem S1x256x1024 .f32) (h6 : a6.IsWhole)
    (a7 : Memref sig .tc .vmem S256x8x128 .f32) (h7 : a7.IsWhole)
    (x : Vec F S256x8x128 .f32) (A B : Vec F S1x1024x256 .f32) (D : Vec F S1x256x1024 .f32) (d : Vec F S256x8x128 .f32) (K : PUnit → Asn F) :
    iprop(countPt c f ∗ owns (c : Thread nD τ) a3 fullShare x ∗ owns (c : Thread nD τ) a4 fullShare A ∗ owns (c : Thread nD τ) a5 fullShare B
        ∗ owns (c : Thread nD τ) a6 fullShare D ∗ owns (c : Thread nD τ) a7 fullShare d
        ∗ (iprop(countPt c f ∗ owns (c : Thread nD τ) a3 fullShare x ∗ owns (c : Thread nD τ) a4 fullShare A ∗ owns (c : Thread nD τ) a5 fullShare B
          ∗ owns (c : Thread nD τ) a6 fullShare D ∗ owns (c : Thread nD τ) a7 fullShare d) -∗ K ⟨⟩))
      ⊢ wp frame (wpE (defs₀ (F := F)) Variants.none c none) E
          (cc0_experts i (Memref.whole main_v11) (Memref.isWhole_whole _) (Memref.whole main_arg1) (Memref.isWhole_whole _) a3 h3 a4 h4 a5 h5 a6 h6 a7 h7) K := by
  simp only [cc0_experts_eq_skeleton]; unfold cc0_experts_skel
  simp only [k0_part1_eq_skeleton, k0_part2_eq_skeleton]
  unfold owns countPt
  iintro ⟨HT, ⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap
  · iexact H4
  ipureintro
  rfl

end Cert.Experts

end
-- ==== Proof.ExpertsFrame.lean ====
/- The experts' launch: its proof data over the prefetched tables, the body's triple at every grid point, and the
   frame. The points past the last block in use repeat its index and store nothing, so the output's buffer still holds
   what the last point in use left there when it is written back. -/
module

public import proofs.«01_k».proof.Proof.ExpertsBody
public import Idealize.ShloMosaic.Lib.Pipeline.TableIdle

@[expose] public section

set_option maxRecDepth 16384

noncomputable section

namespace Cert.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (h : Routed m)

/-- The tables' contents, with the blocks they lead to in range. -/
abbrev adm : (pcfg0 (F := F)).Adm := ⟨tbl m, ok m h⟩

/-- The pipeline at those contents. -/
abbrev cfg : Cfg sig Λ₀ := cfg0 (adm m h)

theorem coord (t : Fin grid0.N) : ((grid0.coords t) 0).val = t.val := by
  have ht : t.val < 2304 := t.isLt.trans_eq N_0
  show t.val / 1 % 2304 = t.val
  omega

/-- The point as an index of the tables. -/
abbrev pt (t : Fin grid0.N) : Fin 2304 := (grid0.coords t) 0

/-- Window `w`'s block at a point, read off its array as the region finds it. -/
def iblk (c : Dev nD) (w : Fin (cfg m h).W) (t : Fin (cfg m h).N) : (((cfg m h).win w).xblock ((cfg m h).grid.coords t)).Idx → Elt F ((cfg m h).win w).elt :=
  (((cfg m h).win w).blk t).view.read (Elt F) (V m c (Pipeline.arrRef spec0 w))

/-- Block `k` of 256 rows. -/
def rowsOf (c : Dev nD) (k : Fin 2304) : Vec F S256x8x128 .f32 := fun y =>
  (m ((c : Thread nD τ).loc main_arg2) : S589824x8x128.Idx → Elt F .f32)
    (ix3 ⟨k.val * 256 + (y 0).val, by have := k.isLt; have : (y 0).val < 256 := (y 0).isLt; omega⟩ (y 1) (y 2))

/-- One expert's weight. -/
def weightOf (A : S256x1024x256.Idx → Elt F .f32) (e : Fin 256) : Vec F S1x1024x256 .f32 := fun y => A (ix3 e (y 1) (y 2))

/-- One expert's last weight. -/
def weightOf' (A : S256x256x1024.Idx → Elt F .f32) (e : Fin 256) : Vec F S1x256x1024 .f32 := fun y => A (ix3 e (y 1) (y 2))

/-- The expert of a block. -/
def expertOf (k : Fin 2304) : Fin 256 := ⟨(argE m (ix1 k)).toNat, h.expert k⟩

theorem iblk0 (c : Dev nD) (t : Fin (cfg m h).N) : iblk m h c 0 t = rowsOf m c (place m (pt t)) := by
  refine funext fun (y : S256x8x128.Idx) => ?_
  refine (congrFun (V_kept m c main_arg2 (by decide)) _).trans ?_
  refine congrArg (m ((c : Thread nD τ).loc main_arg2) : S589824x8x128.Idx → Elt F .f32) (funext fun a => Fin.ext ?_)
  show cc0_transform_0 inb_S1_S1_0 numel1_S1 (tbl m) (grid0.coords t) a * S256x8x128.size a + 1 * (y a).val = _
  rw [rows_index m h]
  fin_cases a
  · show (place m (pt t)).val * 256 + 1 * (y 0).val = (place m (pt t)).val * 256 + (y 0).val; omega
  · show 0 * 8 + 1 * (y 1).val = (y 1).val; omega
  · show 0 * 128 + 1 * (y 2).val = (y 2).val; omega

theorem iblk1 (c : Dev nD) (t : Fin (cfg m h).N) :
    iblk m h c 1 t = weightOf (m ((c : Thread nD τ).loc main_arg3)) (expertOf m h (place m (pt t))) := by
  refine funext fun (y : S1x1024x256.Idx) => ?_
  refine (congrFun (V_kept m c main_arg3 (by decide)) _).trans ?_
  refine congrArg (m ((c : Thread nD τ).loc main_arg3) : S256x1024x256.Idx → Elt F .f32) (funext fun a => Fin.ext ?_)
  show cc0_transform_1 k0_off1_inb numel1_S1 (tbl m) (grid0.coords t) a * S1x1024x256.size a + 1 * (y a).val = _
  rw [weight_index m h]
  fin_cases a
  · have : (y 0).val < 1 := (y 0).isLt
    show (argE m (ix1 (place m (pt t)))).toNat * 1 + 1 * (y 0).val = (argE m (ix1 (place m (pt t)))).toNat; omega
  · show 0 * 1024 + 1 * (y 1).val = (y 1).val; omega
  · show 0 * 256 + 1 * (y 2).val = (y 2).val; omega

theorem iblk2 (c : Dev nD) (t : Fin (cfg m h).N) :
    iblk m h c 2 t = weightOf (m ((c : Thread nD τ).loc main_arg4)) (expertOf m h (place m (pt t))) := by
  refine funext fun (y : S1x1024x256.Idx) => ?_
  refine (congrFun (V_kept m c main_arg4 (by decide)) _).trans ?_
  refine congrArg (m ((c : Thread nD τ).loc main_arg4) : S256x1024x256.Idx → Elt F .f32) (funext fun a => Fin.ext ?_)
  show cc0_transform_1 k0_off1_inb numel1_S1 (tbl m) (grid0.coords t) a * S1x1024x256.size a + 1 * (y a).val = _
  rw [weight_index m h]
  fin_cases a
  · have : (y 0).val < 1 := (y 0).isLt
    show (argE m (ix1 (place m (pt t)))).toNat * 1 + 1 * (y 0).val = (argE m (ix1 (place m (pt t)))).toNat; omega
  · show 0 * 1024 + 1 * (y 1).val = (y 1).val; omega
  · show 0 * 256 + 1 * (y 2).val = (y 2).val; omega

theorem iblk3 (c : Dev nD) (t : Fin (cfg m h).N) :
    iblk m h c 3 t = weightOf' (m ((c : Thread nD τ).loc main_arg5)) (expertOf m h (place m (pt t))) := by
  refine funext fun (y : S1x256x1024.Idx) => ?_
  refine (congrFun (V_kept m c main_arg5 (by decide)) _).trans ?_
  refine congrArg (m ((c : Thread nD τ).loc main_arg5) : S256x256x1024.Idx → Elt F .f32) (funext fun a => Fin.ext ?_)
  show cc0_transform_1 k0_off1_inb numel1_S1 (tbl m) (grid0.coords t) a * S1x256x1024.size a + 1 * (y a).val = _
  rw [weight_index m h]
  fin_cases a
  · have : (y 0).val < 1 := (y 0).isLt
    show (argE m (ix1 (place m (pt t)))).toNat * 1 + 1 * (y 0).val = (argE m (ix1 (place m (pt t)))).toNat; omega
  · show 0 * 256 + 1 * (y 1).val = (y 1).val; omega
  · show 0 * 1024 + 1 * (y 2).val = (y 2).val; omega

/-- What the body leaves for block `k`. -/
def blockOut (c : Dev nD) (k : Fin 2304) : Vec F S256x8x128 .f32 :=
  out (rowsOf m c k) (weightOf (m ((c : Thread nD τ).loc main_arg3)) (expertOf m h k))
    (weightOf (m ((c : Thread nD τ).loc main_arg4)) (expertOf m h k)) (weightOf' (m ((c : Thread nD τ).loc main_arg5)) (expertOf m h k))

/-- The output's buffer after point `t`. -/
def outAt (c : Dev nD) (t : Fin (cfg m h).N) : (((cfg m h).win 4).xblock ((cfg m h).grid.coords t)).Idx → Elt F ((cfg m h).win 4).elt :=
  blockOut m h c (place m (pt t))

/-- The launch's proof data. -/
def dats (_ : Fin 1) (c : Dev nD) : Dat τ (Elt F) Unit ℕ (UR sig nD τ) ℕ (cfg m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => outAt m h c t
  Φ _ := iprop(Pipeline.ΦA spec0 c ∗ Pipeline.ΦT pre0 (tbl m) c)
  q _ := fullShare
  owed _ := 0

theorem A_eq (c : Dev nD) (w : Fin (cfg m h).W) : (dats m h 0 c).A w = V m c (Pipeline.arrRef spec0 w) := by
  dsimp only [dats]

theorem after0 (c : Dev nD) (t : Fin (cfg m h).N) : (dats m h 0 c).after 0 t = iblk m h c 0 t := rfl
theorem after1 (c : Dev nD) (t : Fin (cfg m h).N) : (dats m h 0 c).after 1 t = iblk m h c 1 t := rfl
theorem after2 (c : Dev nD) (t : Fin (cfg m h).N) : (dats m h 0 c).after 2 t = iblk m h c 2 t := rfl
theorem after3 (c : Dev nD) (t : Fin (cfg m h).N) : (dats m h 0 c).after 3 t = iblk m h c 3 t := rfl
set_option maxHeartbeats 2000000 in
theorem after4 (c : Dev nD) (t : Fin (cfg m h).N) : (dats m h 0 c).after 4 t = outAt m h c t := by
  unfold dats
  dsimp only
  exact rfl

/-- Each input's buffer holds its block at every point. -/
theorem before0 (c : Dev nD) (t : Fin (cfg m h).N) (d) : (dats m h 0 c).before 0 t d = iblk m h c 0 t :=
  ((dats m h 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin (cfg m h).N) (d) : (dats m h 0 c).before 1 t d = iblk m h c 1 t :=
  ((dats m h 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin (cfg m h).N) (d) : (dats m h 0 c).before 2 t d = iblk m h c 2 t :=
  ((dats m h 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin (cfg m h).N) (d) : (dats m h 0 c).before 3 t d = iblk m h c 3 t :=
  ((dats m h 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

theorem count_word (y : S1.Idx) : (tbl m 1 : S1.Idx → BitVec 32) y = argN m (ix1 0) :=
  (congrFun (tbl1 m) y).trans (congrArg _ (one_eq y))

theorem idle_at (a : (pcfg0 (F := F)).Adm) (i : grid0.Coords) :
    (cfg0 a).idle 4 i = !(k0_cond1 i ((a.1 1 : S1.Idx → BitVec 32) (ix1 0)) == 1#1) := by
  have e : a.1.atD 1 ![0] = (a.1 1 : S1.Idx → BitVec 32) (ix1 0) := by
    unfold Pipeline.Prefetch.Contents.atD
    have hb : ∀ a : Fin 1, (![0] : Fin 1 → ℕ) a + 1 ≤ S1.size a := by decide
    refine (dif_pos hb).trans ?_
    exact congrArg (a.1 1 : S1.Idx → BitVec 32) (one_eq _)
  exact congrArg (fun w : BitVec 32 => !(k0_cond1 i w == 1#1)) e

/-- The points that store nothing are those past the last block in use. -/
theorem idle_iff (t : Fin (cfg m h).N) : (cfg m h).idle 4 ((cfg m h).grid.coords t) = true ↔ count m ≤ t.val := by
  have l := live_iff m h (grid0.coords t)
  rw [coord] at l
  have e := (idle_at (adm m h) (grid0.coords t)).trans
    (congrArg (fun w : BitVec 32 => !(k0_cond1 (grid0.coords t) w == 1#1)) (count_word m (ix1 0)))
  rw [show (cfg m h).grid.coords t = grid0.coords t from rfl, e, Bool.not_eq_true', beq_eq_false_iff_ne, ne_eq, l]
  omega

/-- The output is written back at the last point, and where the next point's block is another. -/
theorem flush_iff (t : Fin (cfg m h).N) : ((cfg m h).win 4).flush t = true ↔ t.val + 1 = 2304 ∨ t.val + 1 < count m := by
  have hi : ∀ t : Fin grid0.N, ((cfg m h).win 4).index t = ![(place m (pt t)).val, 0, 0] := fun t => rows_index m h (grid0.coords t)
  have hp : ∀ t : Fin grid0.N, (place m (pt t)).val = min t.val (count m - 1) := fun t => congrArg (fun n => min n (count m - 1)) (coord t)
  have hN : (cfg m h).N = 2304 := N_0
  have h1 := h.used
  have hlt : t.val < 2304 := t.isLt.trans_eq hN
  unfold Window.flush
  rw [show ((cfg m h).win 4).isOut = true from rfl, Bool.true_and, Bool.or_eq_true, decide_eq_true_iff, decide_eq_true_iff]
  constructor
  · rintro (hl | ⟨hb, hne⟩)
    · exact Or.inl (hl.trans N_0)
    · right
      rw [hi, hi] at hne
      by_contra hc
      refine hne (congrArg (fun n : ℕ => (![n, 0, 0] : Fin 3 → ℕ)) ?_)
      rw [hp, hp]
      show min (t.val + 1) (count m - 1) = min t.val (count m - 1)
      omega
  · intro hc
    by_cases hl : t.val + 1 = 2304
    · exact Or.inl (hl.trans N_0.symm)
    · have hb : t.val + 1 < 2304 := by omega
      refine Or.inr ⟨hb.trans_eq N_0.symm, fun he => ?_⟩
      rw [hi, hi] at he
      have e0 : (place m (pt ⟨t.val + 1, hb.trans_eq N_0.symm⟩)).val = (place m (pt t)).val := congrFun he 0
      rw [hp, hp] at e0
      have e1 : min (t.val + 1) (count m - 1) = min t.val (count m - 1) := e0
      omega

theorem place_val (t : Fin grid0.N) : (place m (pt t)).val = min t.val (count m - 1) := congrArg (fun n => min n (count m - 1)) (coord t)

/-- Past the last block in use the output's buffer holds that block's result. -/
theorem before4 (c : Dev nD) (d) : ∀ (n : ℕ) (hn : n < (cfg m h).N), count m ≤ n → (dats m h 0 c).before 4 ⟨n, hn⟩ d = outAt m h c ⟨n, hn⟩ := by
  intro n
  induction n with
  | zero => intro hn hc; have := h.used; omega
  | succ n ih =>
    intro hn hc
    have hn' : n < (cfg m h).N := by omega
    have hN : (cfg m h).N = 2304 := N_0
    have hfl : ((cfg m h).win 4).flush ⟨n, hn'⟩ = false := by
      rw [Bool.eq_false_iff, ne_eq, flush_iff]
      show ¬ (n + 1 = 2304 ∨ n + 1 < count m)
      omega
    have hsame : outAt m h c ⟨n, hn'⟩ = outAt m h c ⟨n + 1, hn⟩ := by
      have e : place m (pt ⟨n, hn'⟩) = place m (pt ⟨n + 1, hn⟩) := by
        refine Fin.ext ?_
        rw [place_val, place_val]
        show min n (count m - 1) = min (n + 1) (count m - 1)
        omega
      exact congrArg (blockOut m h c) e
    rw [(dats m h 0 c).before_of_pos 4 ⟨n + 1, hn⟩ (Nat.succ_ne_zero n) (((cfg m h).win 4).fetch_out rfl _) d]
    rw [show (⟨(⟨n + 1, hn⟩ : Fin (cfg m h).N).val - 1, Nat.lt_of_le_of_lt (Nat.sub_le _ _) hn⟩ : Fin (cfg m h).N) = ⟨n, hn'⟩ from Fin.ext (by simp)]
    rw [hfl, if_neg Bool.false_ne_true, ← hsame]
    unfold Dat.left
    by_cases hi : count m ≤ n
    · rw [(idle_iff m h ⟨n, hn'⟩).mpr hi]
      exact ih hn' hi
    · rw [show (cfg m h).idle 4 ((cfg m h).grid.coords ⟨n, hn'⟩) = false by
        rw [Bool.eq_false_iff, ne_eq, idle_iff]; exact hi]
      show (dats m h 0 c).kept 4 ⟨n, hn'⟩ d = _
      unfold Dat.kept
      rw [Pipeline.fill_of_clip_none _ _ (fun _ => rfl) d ((dats m h 0 c).after 4 ⟨n, hn'⟩), Window.fill_cut, after4]

/-- The tables the body finds, half of each. -/
theorem tables_eq (c : Dev nD) :
    (Pipeline.ΦT pre0 (tbl m) c : Asn F) = iprop(((Memref.whole main_v11).view.loc (c : Thread nD τ) ↦{fullShare.right} tbl m 0) ∗ countPt c (tbl m 1)) := by
  unfold Pipeline.ΦT Pipeline.prefHeld
  rw [show (Finset.univ : Finset (Fin 2)) = insert 0 {1} from by decide, bigSep_insert (by decide), bigSep_singleton]
  rfl

/-- Window `w`'s buffer at a point. -/
abbrev st0 (t : Fin grid0.N) : Memref sig .tc .vmem S256x8x128 .f32 := spec0_0.stage ((cfg m h).slots t 0)
abbrev st1 (t : Fin grid0.N) : Memref sig .tc .vmem S1x1024x256 .f32 := spec0_1.stage ((cfg m h).slots t 1)
abbrev st2 (t : Fin grid0.N) : Memref sig .tc .vmem S1x1024x256 .f32 := spec0_2.stage ((cfg m h).slots t 2)
abbrev st3 (t : Fin grid0.N) : Memref sig .tc .vmem S1x256x1024 .f32 := spec0_3.stage ((cfg m h).slots t 3)
abbrev st4 (t : Fin grid0.N) : Memref sig .tc .vmem S256x8x128 .f32 := spec0_4.stage ((cfg m h).slots t 4)

/-- The body as the pipeline calls it at a point. -/
abbrev bodyAt (t : Fin grid0.N) : Prog (TpuEff nD τ sig (Elt F) Λ₀ .tc) PUnit :=
  cc0_experts (grid0.coords t) (Memref.whole main_v11) (Memref.isWhole_whole _) (Memref.whole main_arg1) (Memref.isWhole_whole _)
    (st0 m h t) (hstage0_0 (((cfg m h).slots t 0).cast nbuf0_0)) (st1 m h t) (hstage0_1 (((cfg m h).slots t 1).cast nbuf0_1))
    (st2 m h t) (hstage0_2 (((cfg m h).slots t 2).cast nbuf0_2)) (st3 m h t) (hstage0_3 (((cfg m h).slots t 3).cast nbuf0_3))
    (st4 m h t) (hstage0_4 (((cfg m h).slots t 4).cast nbuf0_4))

/-- What the body leaves in the output's buffer: its result, and at a point that stores nothing and whose block is not
    written back, what it found. -/
def outPost (c : Dev nD) (t : Fin (cfg m h).N) : Asn F :=
  match (cfg m h).idle 4 ((cfg m h).grid.coords t) with
  | true =>
    match ((cfg m h).win 4).flush t with
    | false => iprop(∃ d, owns (c : Thread nD τ) (st4 m h t) fullShare ((dats m h 0 c).before 4 t d))
    | true => owns (c : Thread nD τ) (st4 m h t) fullShare ((dats m h 0 c).after 4 t)
  | false => owns (c : Thread nD τ) (st4 m h t) fullShare ((dats m h 0 c).after 4 t)

theorem outPost_live (c : Dev nD) (t : Fin (cfg m h).N) (ht : t.val < count m) :
    outPost m h c t = owns (c : Thread nD τ) (st4 m h t) fullShare (outAt m h c t) := by
  unfold outPost
  rw [show (cfg m h).idle 4 ((cfg m h).grid.coords t) = false by rw [Bool.eq_false_iff, ne_eq, idle_iff]; omega]
  exact congrArg (owns (c : Thread nD τ) (st4 m h t) fullShare) (after4 m h c t)

theorem outPost_last (c : Dev nD) (t : Fin (cfg m h).N) (ht : count m ≤ t.val) (hf : ((cfg m h).win 4).flush t = true) :
    outPost m h c t = owns (c : Thread nD τ) (st4 m h t) fullShare (outAt m h c t) := by
  unfold outPost
  rw [(idle_iff m h t).mpr ht, hf]
  exact congrArg (owns (c : Thread nD τ) (st4 m h t) fullShare) (after4 m h c t)

theorem outPost_idle (c : Dev nD) (t : Fin (cfg m h).N) (ht : count m ≤ t.val) (hf : ((cfg m h).win 4).flush t = false) :
    outPost m h c t = iprop(∃ d, owns (c : Thread nD τ) (st4 m h t) fullShare ((dats m h 0 c).before 4 t d)) := by
  unfold outPost
  rw [(idle_iff m h t).mpr ht, hf]

/-- What the body is called with, -/
def bodyPre (c : Dev nD) (t : Fin (cfg m h).N) : Asn F :=
  iprop((dats m h 0 c).Φ t.castSucc ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d))
    ∗ (∃ d, owns (c : Thread nD τ) (st3 m h t) fullShare ((dats m h 0 c).before 3 t d))
    ∗ (∃ d, owns (c : Thread nD τ) (st4 m h t) fullShare ((dats m h 0 c).before 4 t d)))

/-- and what it returns. -/
def bodyPost (c : Dev nD) (t : Fin (cfg m h).N) : Asn F :=
  iprop((dats m h 0 c).Φ t.succ ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t)
    ∗ owns (c : Thread nD τ) (st3 m h t) fullShare ((dats m h 0 c).after 3 t)
    ∗ outPost m h c t)

theorem after4_blocks (c : Dev nD) (t : Fin (cfg m h).N) :
    outAt m h c t = out (iblk m h c 0 t) (iblk m h c 1 t) (iblk m h c 2 t) (iblk m h c 3 t) := by
  rw [iblk0, iblk1, iblk2, iblk3]; rfl

end Cert.Experts

end
-- ==== Proof.ExpertsArray.lean ====
/- The experts' output after the run: at a row of a block in use, that block's result. -/
module

public import proofs.«01_k».proof.Proof.ExpertsFrame
public import Idealize.ShloMosaic.Lib.Pipeline.Value

@[expose] public section

set_option maxRecDepth 16384

noncomputable section

namespace Cert.Experts

open Cert.Kernel5Ideal Cert.Kernel5Ideal.Gen
open Idealize Idealize.ShloMosaic Idealize.ShloMosaic.TcCoe Idealize.ShloMosaic.Pipeline

variable {F : FTy → Type} [FloatOps F]
variable (m : (ℓ : Loc nD τ sig) → Buf (Elt F) ℓ) (h : Routed m)

/-- The blocks' results as one array of rows. -/
def rowsOut (c : Dev nD) (i : S589824x8x128.Idx) : Elt F .f32 :=
  blockOut m h c ⟨(i 0).val / 256, by have : (i 0).val < 589824 := (i 0).isLt; omega⟩ (ix3 ⟨(i 0).val % 256, by omega⟩ (i 1) (i 2))

theorem rowsOut_of (c : Dev nD) (k : Fin 2304) (y : S256x8x128.Idx) (i : S589824x8x128.Idx)
    (h0 : (i 0).val = k.val * 256 + (y 0).val) (h1 : i 1 = y 1) (h2 : i 2 = y 2) : blockOut m h c k y = rowsOut m h c i := by
  have hy : (y 0).val < 256 := (y 0).isLt
  unfold rowsOut
  have ek : k = ⟨(i 0).val / 256, by have : (i 0).val < 589824 := (i 0).isLt; omega⟩ := Fin.ext (by show k.val = (i 0).val / 256; omega)
  have ey : y = ix3 ⟨(i 0).val % 256, by omega⟩ (i 1) (i 2) := by
    funext a
    fin_cases a
    · exact Fin.ext (by show (y 0).val = (i 0).val % 256; omega)
    · exact h1.symm
    · exact h2.symm
  exact congrArg₂ (fun k y => blockOut m h c k y) ek ey

/-- Where window 4's block at a point lies. -/
theorem block4 (t : Fin grid0.N) (y : S256x8x128.Idx) (a : Fin 3) :
    ((((cfg m h).win 4).blk t).view.emb y a).val = (![(place m (pt t)).val, 0, 0] : Fin 3 → ℕ) a * S256x8x128.size a + 1 * (y a).val := by
  refine (show _ = ((cfg m h).win 4).index t a * S256x8x128.size a + 1 * (y a).val from rfl).trans ?_
  exact congrArg (fun f : Fin 3 → ℕ => f a * S256x8x128.size a + 1 * (y a).val) (rows_index m h (grid0.coords t))

attribute [local irreducible] tbl Pipeline.Grid.coords in
/-- A row of a block in use is written by that block's point, or by the last one, and every write there is the block's result. -/
theorem array_used (c : Dev nD) (i : S589824x8x128.Idx) (hi : (i 0).val / 256 < count m) :
    (dats m h 0 c).arrAt 4 (cfg m h).N i = rowsOut m h c i := by
  have hN : (cfg m h).N = 2304 := N_0
  have hr : (i 0).val < 589824 := (i 0).isLt
  obtain ⟨t, hf, hp⟩ : ∃ t : Fin (cfg m h).N, ((cfg m h).win 4).flush t = true ∧ (place m (pt t)).val = (i 0).val / 256 := by
    by_cases hk : (i 0).val / 256 + 1 < count m
    · exact ⟨⟨(i 0).val / 256, by omega⟩, (flush_iff m h _).mpr (Or.inr hk), (place_val m _).trans (by show min ((i 0).val / 256) _ = _; omega)⟩
    · exact ⟨⟨2303, by omega⟩, (flush_iff m h _).mpr (Or.inl rfl), (place_val m _).trans (by show min 2303 _ = _; omega)⟩
  refine (dats m h 0 c).arrAt_forall_of_flushed 4 (fun i v => v = rowsOut m h c i) ?_ (cfg m h).N t i t.isLt hf ?_
  · intro t _ (y : S256x8x128.Idx)
    have ha : (dats m h 0 c).flushed 4 t = outAt m h c t := after4 m h c t
    refine (congrFun ha y).trans (rowsOut_of m h c (place m (pt t)) y _ ?_ ?_ ?_)
    · exact (block4 m h t y 0).trans (congrArg ((place m (pt t)).val * 256 + ·) (Nat.one_mul _))
    · exact Fin.ext ((block4 m h t y 1).trans (by show 0 * 8 + 1 * (y 1).val = (y 1).val; omega))
    · exact Fin.ext ((block4 m h t y 2).trans (by show 0 * 128 + 1 * (y 2).val = (y 2).val; omega))
  · refine Finset.mem_map.mpr ⟨(ix3 ⟨(i 0).val % 256, by omega⟩ (i 1) (i 2) : S256x8x128.Idx), Finset.mem_univ _, ?_⟩
    funext a
    refine Fin.ext ((block4 m h t _ a).trans ?_)
    fin_cases a
    · show (place m (pt t)).val * 256 + 1 * ((i 0).val % 256) = (i 0).val
      omega
    · show 0 * 8 + 1 * (i 1).val = (i 1).val
      omega
    · show 0 * 128 + 1 * (i 2).val = (i 2).val
      omega

end Cert.Experts

end
-- ==== Proof.ExpertsLaunch.lean ====
/- The experts' body at every grid point, the launch, and the frame. -/
module

public import proofs.«01_k».proof.Proof.ExpertsFrame

@[expose] public section

set_option maxRecDepth 16384

noncomputable section

namespace Cert.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (h : Routed m)

/-- The invariant: the generator's, and half of each table. -/
theorem phi_eq (c : Dev nD) (k : Fin ((cfg m h).N + 1)) : (dats m h 0 c).Φ k
    = iprop(Pipeline.ΦA spec0 c ∗ ((Memref.whole main_v11).view.loc (c : Thread nD τ) ↦{fullShare.right} tbl m 0) ∗ countPt c (tbl m 1)) := by
  show iprop(Pipeline.ΦA spec0 c ∗ Pipeline.ΦT pre0 (tbl m) c) = _
  rw [tables_eq]

set_option maxHeartbeats 1000000 in
/-- The body at any point. -/
theorem sound_body (c : Dev nD) (t : Fin (cfg m h).N) :
    bodyPre m h c t ⊢ wp Idealize.ShloMosaic.frame (wpE (defs₀ (F := F)) Variants.none c none) Set.univ (bodyAt m h t) (fun _ => bodyPost m h c t) := by
  unfold bodyPre bodyPost
  rw [after0, after1, after2, after3]
  simp only [before0, before1, before2, before3]
  rw [phi_eq m h c t.castSucc, phi_eq m h c t.succ, show (dats m h 0 c).owesAt () t.succ = (dats m h 0 c).owesAt () t.castSucc from rfl]
  have hl := live_iff m h (grid0.coords t)
  rw [coord] at hl
  by_cases hi : count m ≤ t.val
  · have hf : ∀ y, ¬ k0_cond1 (grid0.coords t) ((tbl m 1 : S1.Idx → BitVec 32) y) = 1#1 := by
      intro y; rw [count_word m y, hl]; omega
    cases hfl : ((cfg m h).win 4).flush t
    · rw [outPost_idle m h c t hi hfl]
      iintro ⟨⟨HΦ, HT0, HT1⟩, Ho, ⟨%d0, H0⟩, ⟨%d1, H1⟩, ⟨%d2, H2⟩, ⟨%d3, H3⟩, ⟨%d4, H4⟩⟩
      iapply (body_idle c Set.univ (grid0.coords t) (tbl m 1) hf _ _ _ _ _ _ _ _ _ _ (iblk m h c 0 t) (iblk m h c 1 t) (iblk m h c 2 t) (iblk m h c 3 t) ((dats m h 0 c).before 4 t d4) _)
      isplitl [HT1]; · iexact HT1
      isplitl [H0]; · iexact H0
      isplitl [H1]; · iexact H1
      isplitl [H2]; · iexact H2
      isplitl [H3]; · iexact H3
      isplitl [H4]; · iexact H4
      iintro ⟨HT1, H0, H1, H2, H3, H4⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iexists d4; iexact H4
    · rw [outPost_last m h c t hi hfl]
      iintro ⟨⟨HΦ, HT0, HT1⟩, Ho, ⟨%d0, H0⟩, ⟨%d1, H1⟩, ⟨%d2, H2⟩, ⟨%d3, H3⟩, ⟨%d4, H4⟩⟩
      iapply (body_idle c Set.univ (grid0.coords t) (tbl m 1) hf _ _ _ _ _ _ _ _ _ _ (iblk m h c 0 t) (iblk m h c 1 t) (iblk m h c 2 t) (iblk m h c 3 t) (outAt m h c t) _)
      isplitl [HT1]; · iexact HT1
      isplitl [H0]; · iexact H0
      isplitl [H1]; · iexact H1
      isplitl [H2]; · iexact H2
      isplitl [H3]; · iexact H3
      isplitl [H4]; · rw [show (dats m h 0 c).before 4 t d4 = outAt m h c t from before4 m h c d4 t.val t.isLt hi]; iexact H4
      iintro ⟨HT1, H0, H1, H2, H3, H4⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have hf : ∀ y, k0_cond1 (grid0.coords t) ((tbl m 1 : S1.Idx → BitVec 32) y) = 1#1 := by
      intro y; rw [count_word m y, hl]; omega
    rw [outPost_live m h c t (by omega), after4_blocks]
    iintro ⟨⟨HΦ, HT0, HT1⟩, Ho, ⟨%d0, H0⟩, ⟨%d1, H1⟩, ⟨%d2, H2⟩, ⟨%d3, H3⟩, ⟨%d4, H4⟩⟩
    iapply (body_live c Set.univ (grid0.coords t) (tbl m 1) hf _ _ _ _ _ _ _ _ _ _ (iblk m h c 0 t) (iblk m h c 1 t) (iblk m h c 2 t) (iblk m h c 3 t) _)
    isplitl [HT1]; · iexact HT1
    isplitl [H0]; · iexact H0
    isplitl [H1]; · iexact H1
    isplitl [H2]; · iexact H2
    isplitl [H3]; · iexact H3
    isplitl [H4]; · iexists _; iexact H4
    iintro ⟨HT1, H0, H1, H2, H3, H4⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (t : Fin (cfg m h).N) :
    defs₀ (F := F) .tc (cfg m h).body ((cfg m h).bodyArgs t ((cfg m h).slots t)) = bodyAt m h t := by
  unfold defs₀; rw [Defs.onTc_tc]

attribute [local irreducible] tbl Pipeline.Grid.coords in
set_option maxHeartbeats 4000000 in
/-- At every point the body takes the buffers as the pipeline hands them over to what the proof data say it leaves. -/
theorem body_obligation (c : Dev nD) : BodyObligation (dats m h 0 c) (defs₀ (F := F)) Variants.none () Set.univ := fun t => by
  rw [bigSep_W0, bigSep_W0, defs₀_row]
  refine triple_restated (sound_body m h c t) rfl .rfl fun _ => ?_
  unfold bodyPost outPost
  refine sep_mono .rfl (sep_mono .rfl (sep_mono ?_ (sep_mono ?_ (sep_mono ?_ (sep_mono ?_ ?_)))))
  · exact fun _ hx => hx
  · exact fun _ hx => hx
  · exact fun _ hx => hx
  · exact fun _ hx => hx
  · exact fun _ hx => hx

set_option backward.isDefEq.respectTransparency.types false in
set_option maxHeartbeats 800000 in
/-- The launch. -/
theorem run : θ_run defs (onTc (τ := τ) (main (F := F))) (s₀ m ρ)
    (fun r => (Pipeline.FramePost (Pipeline.pin pcfgs fun _ => adm m h) (dats m h) 0 (V m)) r ∧ r.2.sem = fun _ => 0) :=
  Pipeline.θ_run_frameP (Q' := _) pcfgs (fun _ => adm m h) (dats m h) (0 : Fin 1) launch0 defs₀ Variants.none m ρ main
    (hbody := fun c => (body_obligation m h c).loose) (hshare := fun c => (dats m h 0 c).share_full fun _ => rfl)
    (howed := fun _ _ => rfl) (V := V m)
    (hmain := Pipeline.hmainP_prefix pcfgs 0 defs₀ Variants.none m main hostOps0 hostOps0_sub hostOps0_fresh main_chain)
    (hA := A_eq m h) (hpf := fun c k => V_pre m c k) (hΦ := fun _ _ => rfl)

theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

include h in
/-- The arguments are left as passed. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c =>
    ⟨((hr.1 c).2 main_arg0 arg0_rest).trans (V_kept m c main_arg0 (by decide)),
      ((hr.1 c).2 main_arg1 arg1_rest).trans (V_kept m c main_arg1 (by decide)),
      ((hr.1 c).1 0).trans (((dats m h 0 c).arrAt_in 0 rfl _).trans ((A_eq m h c 0).trans (V_kept m c main_arg2 (by decide)))),
      ((hr.1 c).1 1).trans (((dats m h 0 c).arrAt_in 1 rfl _).trans ((A_eq m h c 1).trans (V_kept m c main_arg3 (by decide)))),
      ((hr.1 c).1 2).trans (((dats m h 0 c).arrAt_in 2 rfl _).trans ((A_eq m h c 2).trans (V_kept m c main_arg4 (by decide)))),
      ((hr.1 c).1 3).trans (((dats m h 0 c).arrAt_in 3 rfl _).trans ((A_eq m h c 3).trans (V_kept m c main_arg5 (by decide))))⟩) (run m ρ h)

include h in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ h) ((θ_run defs _ _).mono (fun _ hr => hr.2) (run m ρ h))

end Cert.Experts

end
-- ==== Proof.ExpertsRouting.lean ====
/- What the claims assume of the routing and which rows they are about, read off the printed functions: each block's
   expert is one of the 256, at least one block is in use, and a row is claimed where its block is in use. -/
module

public import proofs.«01_k».proof.Proof.ExpertsTable
public import proofs.«01_k».proof.Proof.Gen.Pre_routed
public import proofs.«01_k».proof.Proof.Gen.On_used
public import Idealize.ShloMosaic.Lib.ReduceAll

@[expose] public section

set_option maxRecDepth 16384

noncomputable section

namespace Cert.Experts

open Cert.Kernel5Ideal Cert.Kernel5Ideal.Gen
open Idealize.ShloMosaic Idealize.ShloMosaic.TcCoe

variable {F : FTy → Type} [FloatOps F]
variable (m : (ℓ : Loc nD τ sig) → Buf (Elt F) ℓ)

theorem and_one : ∀ a b : BitVec 1, a &&& b = 1#1 → a = 1#1 ∧ b = 1#1 := by decide

/-- A word at least zero as a signed word is below `2 ^ 31`. -/
theorem small_of_sge (a : BitVec 32) (h : IntOp.cmpi .sge a 0#32 = 1#1) : a.toNat < 2 ^ 31 := by
  have h' : (0#32).sle a = true := (StableHlo.Predicate.ofBool_eq_one_iff _).mp h
  rw [BitVec.sle_iff_toInt_le] at h'
  have := BitVec.toInt_eq_toNat_cond a
  have := a.isLt
  simp at h'
  split_ifs at * <;> omega

/-- An expert at least 0 and below 256 as a signed word. -/
theorem expert_word (a : BitVec 32) (h0 : IntOp.cmpi .sge a 0#32 = 1#1) (h1 : IntOp.cmpi .slt a 256#32 = 1#1) : a.toNat < 256 :=
  (StableHlo.Predicate.slt_iff_toNat (small_of_sge a h0) (by decide)).mp h1

/-- A count at least 1 as a signed word. -/
theorem count_one (a : BitVec 32) (h : IntOp.cmpi .sge a 1#32 = 1#1) : 1 ≤ a.toNat ∧ a.toNat < 2 ^ 31 := by
  have h' : (1#32).sle a = true := (StableHlo.Predicate.ofBool_eq_one_iff _).mp h
  rw [BitVec.sle_iff_toInt_le] at h'
  have := BitVec.toInt_eq_toNat_cond a
  have := a.isLt
  simp at h'
  split_ifs at * <;> omega

/-- The precondition is that the routing is in range. -/
theorem routed_of {a2 : FVec F Cert.Pre_routed.S589824x8x128 .f32} {a3 a4 : FVec F Cert.Pre_routed.S256x1024x256 .f32}
    {a5 : FVec F Cert.Pre_routed.S256x256x1024 .f32}
    (hp : Cert.Pre_routed.fn (F := F) (argE m) (argN m) a2 a3 a4 a5 = fun _ => 1#1) : Routed m := by
  have h0 := congrFun hp (fun a => a.elim0)
  unfold Cert.Pre_routed.fn at h0
  obtain ⟨hE, hN⟩ := and_one _ _ h0
  have hN' := count_one _ hN
  have e1 : ∀ x, (argN m x) = argN m (ix1 0) := fun x => congrArg (argN m) (one_eq x)
  have hc : 1 ≤ count m ∧ count m < 2 ^ 31 := by
    unfold count
    rw [← e1]
    exact hN'
  refine ⟨fun k => ?_, hc.1, hc.2⟩
  haveI : Subsingleton Cert.Pre_routed.S_.Idx := ⟨fun a b => funext fun x => x.elim0⟩
  have hk := Host.reduce_andi_all _ _ _ _ _ hE (ix1 k)
  obtain ⟨h1, h2⟩ := and_one _ _ hk
  exact expert_word _ h1 h2

end Cert.Experts

end
-- ==== Proof.ExpertsBits.lean ====
/- The frames of the experts: the kernel as compiled and the kernel over the ideal numbers are one program read at two
   interpretations of the floats, and the precondition puts the routing in range at either. -/
module

public import proofs.«01_k».proof.Defs
public import proofs.«01_k».proof.Proof.ExpertsLaunch
public import proofs.«01_k».proof.Proof.ExpertsRouting
public import proofs.«01_k».proof.Proof.Gen.Kernel5
public import proofs.«01_k».proof.Proof.Gen.Reference5Ideal
public import proofs.«01_k».proof.Proof.Gen.Reference5Ideal.Run
public import Idealize.ShloMosaic.Lib.Quiescent

@[expose] public section

set_option maxRecDepth 16384
set_option maxHeartbeats 2000000

namespace Cert.Experts

open Idealize.ShloMosaic Idealize.SL.Sem

/-- The kernel functions the two programs call are the same. -/
theorem defs0_eq : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  refine congrArg Defs.onTc ?_
  funext x y
  match x, y with
  | ⟨0, _⟩, (t, s) => rfl
  | ⟨n + 1, h⟩, _ => exact absurd h (by omega)

/-- So are the functions of the two programs with the pipeline's own. -/
theorem defs_eq : @Cert.Kernel5.defs Bits _ Cert.Kernel5.Gen.facts = @Cert.Kernel5Ideal.defs Bits _ Cert.Kernel5Ideal.Gen.facts :=
  congrArg (Pipeline.defs (@Cert.Kernel5.pcfgs Bits _ Cert.Kernel5.Gen.facts)) defs0_eq

/-- The frame of the kernel as compiled. -/
theorem frame_kernel : Cert.quiescent_Kernel5 (hKernel5 := Cert.Kernel5.Gen.facts) (hPre_routed := Cert.Pre_routed.Gen.facts) := by
  intro m ρ hp
  rw [defs_eq]
  exact Cert.Experts.frame (F := Bits) m ρ (routed_of m (hp 0))

/-- The frame of the kernel over the ideal numbers. -/
theorem frame_ideal : Cert.quiescent_Kernel5Ideal (hKernel5Ideal := Cert.Kernel5Ideal.Gen.facts) (hPre_routed := Cert.Pre_routed.Gen.facts) := by
  intro m ρ hp
  exact Cert.Experts.frame (F := Ideal) m ρ (routed_of m (hp 0))

/-- The reference runs to its end, keeps its arguments, and declares no semaphore. -/
theorem frame_reference : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The same where the routing is in range. -/
theorem frame_reference_routed : Cert.quiescent_Reference5Ideal_pre_routed (hReference5Ideal := Cert.Reference5Ideal.Gen.facts)
    (hPre_routed := Cert.Pre_routed.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Experts

end
-- ==== Proof.ExpertsGather.lean ====
/- A table of matrices read at one index per block: the reference's choice of each block's expert. -/
module

public import Idealize.ShloMosaic.PureOps
public import Idealize.ShloMosaic.Lib.ValueIdxCore
public import Idealize.ShloMosaic.Lib.Pipeline.ValueKit
public import Idealize.ShloMosaic.Lib.StableHlo.Predicate

@[expose] public section

noncomputable section

namespace Cert.Experts.Ref

open Idealize.ShloMosaic

/-- The dimensions of a read of whole `a` by `b` matrices out of a table of 256. -/
abbrev matrices (a b : ℕ) (wf : GatherDims.WF ⟨3, ![256, a, b]⟩ ⟨2, ![2304, 1]⟩ ⟨3, ![2304, a, b]⟩ [1, 2] [0] [] [0] [] 1 ![1, a, b]) :
    GatherDims ⟨3, ![256, a, b]⟩ ⟨2, ![2304, 1]⟩ ⟨3, ![2304, a, b]⟩ where
  offsetDims := [1, 2]
  collapsedSliceDims := [0]
  operandBatchingDims := []
  startIndicesBatchingDims := []
  startIndexMap := [0]
  indexVectorDim := 1
  sliceSizes := ![1, a, b]
  wf := wf

/-- The read is the table at the index, kept inside the table. -/
theorem matrices_apply {α : Type} (a b : ℕ) (wf) (x : (⟨3, ![256, a, b]⟩ : Shape).Idx → α) (idx : IVec ⟨2, ![2304, 1]⟩ 32)
    (k : Fin 2304) (n : Fin a) (l : Fin b) :
    Host.gather (matrices a b wf) x idx (ix3 k n l) = x (ix3 ⟨min (idx (ix2 k 0)).toInt.toNat 255, by omega⟩ n l) := by
  unfold Host.gather
  congr 1
  funext i
  refine Fin.ext ?_
  show (matrices a b wf).start (ix3 k n l) idx i + (matrices a b wf).batchCoord (ix3 k n l) i + (matrices a b wf).offCoord (ix3 k n l) i = _
  rw [GatherDims.batchCoord_eq_zero _ _ _ List.not_mem_nil, Nat.add_zero]
  have h3 : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matrices a b wf).startIndexMap from List.mem_singleton.mpr rfl)]
    have hsi : ∀ q, (matrices a b wf).siIdx (ix3 k n l) q = ix2 k 0 := by
      intro q
      funext c
      refine Fin.ext ?_
      match c with
      | ⟨0, _⟩ => rfl
      | ⟨1, h⟩ =>
        have := ((matrices a b wf).siIdx (ix3 k n l) q ⟨1, h⟩).isLt
        exact Nat.lt_one_iff.mp this
    rw [hsi]
    rfl
  · unfold GatherDims.start GatherDims.offCoord
    rw [dif_neg (show (1 : Fin 3) ∉ ([0] : List (Fin 3)) by decide), Nat.zero_add,
      dif_pos ((GatherDims.mem_sKept _ _).mpr ⟨(show (1 : Fin 3) ∉ ([0] : List (Fin 3)) by decide), List.not_mem_nil⟩)]
    rfl
  · unfold GatherDims.start GatherDims.offCoord
    rw [dif_neg (show (2 : Fin 3) ∉ ([0] : List (Fin 3)) by decide), Nat.zero_add,
      dif_pos ((GatherDims.mem_sKept _ _).mpr ⟨(show (2 : Fin 3) ∉ ([0] : List (Fin 3)) by decide), List.not_mem_nil⟩)]
    rfl

/-- An index that is in range stays as it is when negative ones are wrapped. -/
theorem wrap_word (w : BitVec 32) (h : w.toNat < 256) : Scalar.select (IntOp.cmpi .slt w 0#32) (w + 256#32) w = w := by
  unfold Scalar.select
  refine if_neg fun hc => ?_
  have := (StableHlo.Predicate.slt_iff_toNat (by omega) (by decide)).mp hc
  exact absurd this (Nat.not_lt_zero _)

/-- A word in range, kept inside the table. -/
theorem clamp_word (w : BitVec 32) (h : w.toNat < 256) : min w.toInt.toNat 255 = w.toNat := by
  rw [StableHlo.Predicate.toInt_eq_toNat_of_lt (by omega), Int.toNat_natCast]
  omega

end Cert.Experts.Ref

end
-- ==== Proof.ExpertsBlock.lean ====
/- What the experts' kernel computes of one block of rows: each row's gated product with the expert's first two weights,
   projected back by its third. -/
module

public import proofs.«01_k».proof.Proof.ExpertsBody
public import proofs.«01_k».proof.Proof.ProjColumns
public import Idealize.ShloMosaic.Lib.Pipeline.ValueKit
public import Idealize.ShloMosaic.Lib.Pipeline.ReadBack

@[expose] public section

set_option maxRecDepth 16384

noncomputable section

namespace Cert.Experts

open Cert.Kernel5Ideal Cert.Kernel5Ideal.Gen
open Idealize.ShloMosaic Idealize.ShloMosaic.TcCoe

/-- One expert of a row `x`, at column `l`. -/
def expert (x : Fin 1024 → EReal) (A B : Fin 1024 → Fin 256 → EReal) (D : Fin 256 → Fin 1024 → EReal) (l : Fin 1024) : EReal :=
  ∑ k : Fin 256, ((∑ n : Fin 1024, x n * A n k) * Ideal.logistic (∑ n : Fin 1024, x n * A n k) * ∑ n : Fin 1024, x n * B n k) * D k l

/-- Column `n` of row `y` of a block. -/
def rowAt (x : Vec Ideal S256x8x128 .f32) (y : Fin 256) (n : ℕ) : EReal :=
  if h : n / 128 < 8 then x (ix3 y ⟨n / 128, h⟩ ⟨n % 128, by omega⟩) else (0 : EReal)

theorem cell_apply (x : Vec Ideal S256x8x128 .f32) (q : Fin 8) (y : Fin 256) (z : Fin 128) :
    (View.ld x (cell q) : S256x1x128.Idx → EReal) (ix3 y 0 z) = x (ix3 y q z) := by
  refine View.ld_unit_apply_of _ _ _ _ _ _ fun a => ?_
  fin_cases a
  · exact (Nat.zero_add _).symm
  · rfl
  · exact (Nat.zero_add _).symm

theorem flat_apply (w : S256x1x128.Idx → EReal) (y : Fin 256) (z : Fin 128) :
    (shapeCast S256x128 w shapeCasts_S256x1x128_S256x128 (ix2 y z) : EReal) = w (ix3 y 0 z) := by
  pointwise

theorem group_apply (x : Vec Ideal S256x8x128 .f32) (y : Fin 256) (q : Fin 8) (i : Fin 128) (o : ℕ) (ho : o = 128 * q.val) :
    (shapeCast S256x128 (View.ld x (cell q) : S256x1x128.Idx → EReal) shapeCasts_S256x1x128_S256x128 (ix2 y i) : EReal) = rowAt x y (o + i.val) := by
  have hq : (o + i.val) / 128 = q.val := by omega
  have hi : (o + i.val) % 128 = i.val := by omega
  refine (flat_apply _ y i).trans ((cell_apply x q y i).trans ?_)
  unfold rowAt
  rw [dif_pos (by omega)]
  exact congrArg₂ (fun q i => x (ix3 y q i)) (Fin.ext hq.symm : q = ⟨(o + i.val) / 128, by omega⟩) (Fin.ext hi.symm : i = ⟨(o + i.val) % 128, by omega⟩)

/-- Eight groups of columns side by side. -/
def joined (G : Fin 8 → FVec Ideal S256x128 .f32) : FVec Ideal S256x1024 .f32 :=
  concatenate S256x1024 1 [⟨S256x128, G 0⟩, ⟨S256x128, G 1⟩, ⟨S256x128, G 2⟩, ⟨S256x128, G 3⟩, ⟨S256x128, G 4⟩, ⟨S256x128, G 5⟩, ⟨S256x128, G 6⟩, ⟨S256x128, G 7⟩]
    concatenates_S256x128_S256x128_S256x128_S256x128_S256x128_S256x128_S256x128_S256x128_S256x1024_d1

/-- The block's eight groups of columns side by side, as the body loads them. -/
abbrev flat (x : Vec Ideal S256x8x128 .f32) : FVec Ideal S256x1024 .bf16 :=
  k0_pay3 (View.ld x (cell 0)) (View.ld x (cell 1)) (View.ld x (cell 2)) (View.ld x (cell 3)) (View.ld x (cell 4)) (View.ld x (cell 5)) (View.ld x (cell 6)) (View.ld x (cell 7))

theorem flat_row (x : Vec Ideal S256x8x128 .f32) (y : Fin 256) (l : Fin 1024) :
    (flat x (ix2 y l) : EReal) = x (ix3 y ⟨l.val / 128, by omega⟩ ⟨l.val % 128, by omega⟩) := by
  have h : (flat x (ix2 y l) : EReal) = rowAt x y (0 + l.val) := by
    show (joined (fun q => shapeCast S256x128 (View.ld x (cell q)) shapeCasts_S256x1x128_S256x128) (ix2 y l) : EReal) = _
    unfold joined
    rw [concatenate_cons_apply]
    refine Cert.Proj.cat_cons _ _ _ _ _ _ (fun i => group_apply x y 0 i _ rfl) (fun _ _ _ => ?_) _ _ _
    refine Cert.Proj.cat_cons _ _ _ _ _ _ (fun i => group_apply x y 1 i _ rfl) (fun _ _ _ => ?_) _ _ _
    refine Cert.Proj.cat_cons _ _ _ _ _ _ (fun i => group_apply x y 2 i _ rfl) (fun _ _ _ => ?_) _ _ _
    refine Cert.Proj.cat_cons _ _ _ _ _ _ (fun i => group_apply x y 3 i _ rfl) (fun _ _ _ => ?_) _ _ _
    refine Cert.Proj.cat_cons _ _ _ _ _ _ (fun i => group_apply x y 4 i _ rfl) (fun _ _ _ => ?_) _ _ _
    refine Cert.Proj.cat_cons _ _ _ _ _ _ (fun i => group_apply x y 5 i _ rfl) (fun _ _ _ => ?_) _ _ _
    refine Cert.Proj.cat_cons _ _ _ _ _ _ (fun i => group_apply x y 6 i _ rfl) (fun _ _ _ => ?_) _ _ _
    exact Cert.Proj.cat_last _ _ _ _ (fun i => group_apply x y 7 i _ rfl) _ _ _
  rw [h, Nat.zero_add]
  exact dif_pos _

theorem up_pay (v4 v6 v8 v10 v12 v14 v16 v18 : S256x1x128.Idx → EReal) (w : S1x1024x256.Idx → EReal) (y k : Fin 256) :
    (k0_pay4 (F := Ideal) v4 v6 v8 v10 v12 v14 v16 v18 w (ix2 y k) : EReal) =
      ∑ n : Fin 1024, (k0_pay3 (F := Ideal) v4 v6 v8 v10 v12 v14 v16 v18 (ix2 y n) : EReal) * w (ix3 0 n k) := by
  unfold k0_pay4
  generalize k0_pay3 (F := Ideal) v4 v6 v8 v10 v12 v14 v16 v18 = P
  pointwise

theorem gate_pay (v4 v6 v8 v10 v12 v14 v16 v18 : S256x1x128.Idx → EReal) (w : S1x1024x256.Idx → EReal) (y k : Fin 256) :
    (k0_pay5 (F := Ideal) v4 v6 v8 v10 v12 v14 v16 v18 w (ix2 y k) : EReal) =
      (∑ n : Fin 1024, (k0_pay3 (F := Ideal) v4 v6 v8 v10 v12 v14 v16 v18 (ix2 y n) : EReal) * w (ix3 0 n k)) *
        Ideal.logistic (∑ n : Fin 1024, (k0_pay3 (F := Ideal) v4 v6 v8 v10 v12 v14 v16 v18 (ix2 y n) : EReal) * w (ix3 0 n k)) := by
  unfold k0_pay5
  generalize k0_pay3 (F := Ideal) v4 v6 v8 v10 v12 v14 v16 v18 = P
  pointwise

theorem back_pay (u g : S256x256.Idx → EReal) (w : S1x256x1024.Idx → EReal) (y : Fin 256) (l : Fin 1024) :
    (k0_pay6 (F := Ideal) u g w (ix2 y l) : EReal) = ∑ k : Fin 256, (g (ix2 y k) * u (ix2 y k)) * w (ix3 0 k l) := by
  pointwise [k0_pay6]

theorem whole_apply (B : Vec Ideal S1x1024x256 .f32) (n : Fin 1024) (k : Fin 256) :
    (View.ld B wholeW : S1x1024x256.Idx → EReal) (ix3 0 n k) = B (ix3 0 n k) := by
  refine View.ld_unit_apply_of _ _ _ _ _ _ fun a => ?_
  fin_cases a <;> exact (Nat.zero_add _).symm

theorem whole_apply' (D : Vec Ideal S1x256x1024 .f32) (k : Fin 256) (l : Fin 1024) :
    (View.ld D wholeD : S1x256x1024.Idx → EReal) (ix3 0 k l) = D (ix3 0 k l) := by
  refine View.ld_unit_apply_of _ _ _ _ _ _ fun a => ?_
  fin_cases a <;> exact (Nat.zero_add _).symm

/-- The block of the output before it is split into groups of columns. -/
def wide (x : Vec Ideal S256x8x128 .f32) (A B : Vec Ideal S1x1024x256 .f32) (D : Vec Ideal S1x256x1024 .f32) : FVec Ideal S256x1024 .f32 :=
  k0_pay6 (up x B) (gate x A) (View.ld D wholeD)

theorem wide_apply (x : Vec Ideal S256x8x128 .f32) (A B : Vec Ideal S1x1024x256 .f32) (D : Vec Ideal S1x256x1024 .f32) (y : Fin 256) (l : Fin 1024) :
    (wide x A B D (ix2 y l) : EReal) = expert (fun n => x (ix3 y ⟨n.val / 128, by omega⟩ ⟨n.val % 128, by omega⟩))
      (fun n k => A (ix3 0 n k)) (fun n k => B (ix3 0 n k)) (fun k l => D (ix3 0 k l)) l := by
  unfold wide expert
  refine (back_pay _ _ _ y l).trans (Finset.sum_congr rfl fun k _ => ?_)
  have hu : (up (F := Ideal) x B (ix2 y k) : EReal) = ∑ n : Fin 1024, x (ix3 y ⟨n.val / 128, by omega⟩ ⟨n.val % 128, by omega⟩) * B (ix3 0 n k) :=
    (up_pay _ _ _ _ _ _ _ _ _ y k).trans (Finset.sum_congr rfl fun n _ => congrArg₂ _ (flat_row x y n) (whole_apply B n k))
  have hg : (∑ n : Fin 1024, (flat x (ix2 y n) : EReal) * (View.ld A wholeW : S1x1024x256.Idx → EReal) (ix3 0 n k)) =
      ∑ n : Fin 1024, x (ix3 y ⟨n.val / 128, by omega⟩ ⟨n.val % 128, by omega⟩) * A (ix3 0 n k) :=
    Finset.sum_congr rfl fun n _ => congrArg₂ _ (flat_row x y n) (whole_apply A n k)
  have hg' : (gate (F := Ideal) x A (ix2 y k) : EReal) = (∑ n : Fin 1024, x (ix3 y ⟨n.val / 128, by omega⟩ ⟨n.val % 128, by omega⟩) * A (ix3 0 n k)) *
      Ideal.logistic (∑ n : Fin 1024, x (ix3 y ⟨n.val / 128, by omega⟩ ⟨n.val % 128, by omega⟩) * A (ix3 0 n k)) := by
    refine (gate_pay _ _ _ _ _ _ _ _ _ y k).trans ?_
    exact congrArg (fun s : EReal => s * Ideal.logistic s) hg
  rw [hu, hg', whole_apply' D k l]

/-- The array the eight stored groups lay out. -/
def laid (P : S256x1024.Idx → EReal) (i : S256x8x128.Idx) : EReal :=
  P (ix2 (i 0) ⟨(i 1).val * 128 + (i 2).val, by
    have : (i 1).val < 8 := (i 1).isLt
    have : (i 2).val < 128 := (i 2).isLt
    omega⟩)

/-- A stored group of columns, as an array over the block. -/
theorem piece_apply (P : S256x1024.Idx → EReal) (q : Fin 8) (w : S256x1x128.Idx → EReal)
    (hw : ∀ (y : Fin 256) (z : Fin 128) (l : Fin 1024), l.val = q.val * 128 + z.val → w (ix3 y 0 z) = P (ix2 y l)) (x : S256x1x128.Idx) :
    w x = laid P ((cell q).emb x) := by
  have h0 : x = ix3 (x 0) 0 (x 2) := by
    funext a
    fin_cases a
    · rfl
    · exact Subsingleton.elim (α := Fin 1) _ _
    · rfl
  have e0 : (((cell q).emb x) 0).val = (x 0).val := by show 0 + 1 * (x 0).val = (x 0).val; omega
  have e1 : (((cell q).emb x) 1).val = q.val := by
    have : (x 1).val < 1 := (x 1).isLt
    show q.val + 1 * (x 1).val = q.val; omega
  have e2 : (((cell q).emb x) 2).val = (x 2).val := by show 0 + 1 * (x 2).val = (x 2).val; omega
  refine ((congrArg w h0).trans (hw (x 0) (x 2) ⟨q.val * 128 + (x 2).val, by
    have := q.isLt
    have : (x 2).val < 128 := (x 2).isLt
    omega⟩ rfl)).trans ?_
  refine congrArg P ?_
  refine congrArg₂ (ix2 (n0 := 256) (n1 := 1024)) (Fin.ext e0.symm) (Fin.ext ?_)
  show q.val * 128 + (x 2).val = (((cell q).emb x) 1).val * 128 + (((cell q).emb x) 2).val
  rw [e1, e2]

theorem group_split (w : S256x128.Idx → EReal) (y : Fin 256) (z : Fin 128) :
    (shapeCast S256x1x128 w shapeCasts_S256x128_S256x1x128 (ix3 y 0 z) : EReal) = w (ix2 y z) := by
  pointwise

/-- A group of 128 columns cut out at column `o` and given a unit dimension. -/
theorem slice_split (P : S256x1024.Idx → EReal) (o : ℕ) (hs : Shape.Slices S256x1024 ![0, o] S256x128) (y : Fin 256) (z : Fin 128) (l : Fin 1024)
    (hl : l.val = o + z.val) :
    (shapeCast S256x1x128 (extractStridedSlice S256x128 ![0, o] P hs) shapeCasts_S256x128_S256x1x128 (ix3 y 0 z) : EReal) = P (ix2 y l) := by
  refine (group_split _ y z).trans (congrArg P (funext fun a => Fin.ext ?_))
  fin_cases a
  · exact Nat.zero_add _
  · exact hl.symm

/-- The block the body leaves: the rows' results, split into groups of columns. -/
theorem out_apply (x : Vec Ideal S256x8x128 .f32) (A B : Vec Ideal S1x1024x256 .f32) (D : Vec Ideal S1x256x1024 .f32) (i : S256x8x128.Idx) :
    (out x A B D i : EReal) = laid (wide x A B D) i := by
  unfold out
  refine View.canon_append_of_piecesOf (laid (wide x A B D)) [] (pieces x A B D) ⟨?_, ?_, ?_, ?_, ?_, ?_, ?_, ?_, trivial⟩ i (cover x A B D i)
  · exact fun j => piece_apply (wide x A B D) 7 (k0_pay2 (wide x A B D)) (fun y z l hl => slice_split (wide x A B D) 896 slices_S256x1024_o0_896_S256x128 y z l hl) j
  · exact fun j => piece_apply (wide x A B D) 6 (k0_pay1 (k0_pay13 (up x B) (gate x A) (View.ld D wholeD))) (fun y z l hl => slice_split (wide x A B D) 768 slices_S256x1024_o0_768_S256x128 y z l hl) j
  · exact fun j => piece_apply (wide x A B D) 5 (k0_pay12 (up x B) (gate x A) (View.ld D wholeD)) (fun y z l hl => slice_split (wide x A B D) 640 slices_S256x1024_o0_640_S256x128 y z l hl) j
  · exact fun j => piece_apply (wide x A B D) 4 (k0_pay11 (up x B) (gate x A) (View.ld D wholeD)) (fun y z l hl => slice_split (wide x A B D) 512 slices_S256x1024_o0_512_S256x128 y z l hl) j
  · exact fun j => piece_apply (wide x A B D) 3 (k0_pay10 (up x B) (gate x A) (View.ld D wholeD)) (fun y z l hl => slice_split (wide x A B D) 384 slices_S256x1024_o0_384_S256x128 y z l hl) j
  · exact fun j => piece_apply (wide x A B D) 2 (k0_pay9 (up x B) (gate x A) (View.ld D wholeD)) (fun y z l hl => slice_split (wide x A B D) 256 slices_S256x1024_o0_256_S256x128 y z l hl) j
  · exact fun j => piece_apply (wide x A B D) 1 (k0_pay8 (up x B) (gate x A) (View.ld D wholeD)) (fun y z l hl => slice_split (wide x A B D) 128 slices_S256x1024_o0_128_S256x128 y z l hl) j
  · exact fun j => piece_apply (wide x A B D) 0 (k0_pay7 (up x B) (gate x A) (View.ld D wholeD)) (fun y z l hl => slice_split (wide x A B D) 0 slices_S256x1024_o0_0_S256x128 y z l hl) j

end Cert.Experts

end
-- ==== Proof.ExpertsRef.lean ====
/- What the experts' reference computes at each row: the row's expert of the row. -/
module

public import proofs.«01_k».proof.Proof.ExpertsGather
public import proofs.«01_k».proof.Proof.ExpertsBlock
public import proofs.«01_k».proof.Proof.Gen.Reference5Ideal
public import Idealize.ShloMosaic.PureOps.Ideal

@[expose] public section

set_option maxRecDepth 16384

noncomputable section

namespace Cert.Experts.Ref

open Cert.Reference5Ideal Cert.Reference5Ideal.Gen
open Idealize.ShloMosaic Idealize.ShloMosaic.TcCoe

/-- The blocks' experts as a column of indices. -/
def index (E : IVec S2304 32) : IVec S2304x1 32 :=
  broadcastInDim S2304x1 ![0] bcast_S2304_S2304x1_0 (select (cmpi .slt E (broadcastInDim S2304 ![] bcast_S_S2304 (constantI S_ 32 0#32)))
    (addi E (broadcastInDim S2304 ![] bcast_S_S2304 (constantI S_ 32 256#32))) E)

theorem index_apply (E : IVec S2304 32) (k : Fin 2304) (h : (E (ix1 k)).toNat < 256) : index E (ix2 k 0) = E (ix1 k) := by
  refine (show index E (ix2 k 0) = Scalar.select (IntOp.cmpi .slt (E _) 0#32) (E _ + 256#32) (E _) from rfl).trans ?_
  refine (wrap_word _ ?_).trans ?_
  all_goals rw [show ∀ z : S2304.Idx, z 0 = k → E z = E (ix1 k) from fun z hz => congrArg E (funext fun a => by fin_cases a; exact hz)]
  · exact h
  all_goals rfl

/-- The blocks' first weights. -/
def chosen (A : FVec Ideal S256x1024x256 .f32) (E : IVec S2304 32) : FVec Ideal S2304x1024x256 .f32 :=
  Host.gather gather_S256x1024x256_S2304x1_S2304x1024x256_12_0_n_n_0_1_11024256 A (index E)

theorem chosen_apply (A : S256x1024x256.Idx → EReal) (E : IVec S2304 32) (k : Fin 2304) (h : (E (ix1 k)).toNat < 256) (n : Fin 1024) (l : Fin 256) :
    (chosen A E (ix3 k n l) : EReal) = A (ix3 ⟨(E (ix1 k)).toNat, h⟩ n l) := by
  refine (matrices_apply 1024 256 gather_S256x1024x256_S2304x1_S2304x1024x256_12_0_n_n_0_1_11024256.wf A (index E) k n l).trans ?_
  refine congrArg (fun e => A (ix3 e n l)) (Fin.ext ?_)
  show min (index E (ix2 k 0)).toInt.toNat 255 = _
  rw [index_apply E k h, clamp_word _ h]

/-- The blocks' last weights. -/
def chosen' (D : FVec Ideal S256x256x1024 .f32) (E : IVec S2304 32) : FVec Ideal S2304x256x1024 .f32 :=
  Host.gather gather_S256x256x1024_S2304x1_S2304x256x1024_12_0_n_n_0_1_12561024 D (index E)

theorem chosen'_apply (D : S256x256x1024.Idx → EReal) (E : IVec S2304 32) (k : Fin 2304) (h : (E (ix1 k)).toNat < 256) (n : Fin 256) (l : Fin 1024) :
    (chosen' D E (ix3 k n l) : EReal) = D (ix3 ⟨(E (ix1 k)).toNat, h⟩ n l) := by
  refine (matrices_apply 256 1024 gather_S256x256x1024_S2304x1_S2304x256x1024_12_0_n_n_0_1_12561024.wf D (index E) k n l).trans ?_
  refine congrArg (fun e => D (ix3 e n l)) (Fin.ext ?_)
  show min (index E (ix2 k 0)).toInt.toNat 255 = _
  rw [index_apply E k h, clamp_word _ h]

/-- The rows in blocks. -/
def blocks (X : FVec Ideal S589824x8x128 .f32) : FVec Ideal S2304x256x1024 .f32 := shapeCast _ X shapeCasts_S589824x8x128_S2304x256x1024

theorem blocks_at (X : S589824x8x128.Idx → EReal) (k : Fin 2304) (y : Fin 256) (n : Fin 1024) :
    (blocks X (ix3 k y n) : EReal) = X (ix3 ⟨k.val * 256 + y.val, by omega⟩ ⟨n.val / 128, by omega⟩ ⟨n.val % 128, by omega⟩) := by
  pointwise [blocks]

theorem blocks_apply (X : S589824x8x128.Idx → EReal) (k : Fin 2304) (y : Fin 256) (n : Fin 1024) (r : Fin 589824) (hr : r.val = k.val * 256 + y.val) :
    (blocks X (ix3 k y n) : EReal) = X (ix3 r ⟨n.val / 128, by omega⟩ ⟨n.val % 128, by omega⟩) :=
  (blocks_at X k y n).trans (congrArg (fun r => X (ix3 r ⟨n.val / 128, by omega⟩ ⟨n.val % 128, by omega⟩)) (Fin.ext hr.symm))

/-- The rows' products with a first weight. -/
def project (X : FVec Ideal S2304x256x1024 .f32) (A : FVec Ideal S2304x1024x256 .f32) : FVec Ideal S2304x256x256 .f32 :=
  Host.dotGeneral dot_S2304x256x1024_S2304x1024x256_S2304x256x256_2_1_1_2_0_0 none X A

theorem project_apply (X : S2304x256x1024.Idx → EReal) (A : S2304x1024x256.Idx → EReal) (k : Fin 2304) (y l : Fin 256) :
    (project X A (ix3 k y l) : EReal) = ∑ n : Fin 1024, X (ix3 k y n) * A (ix3 k n l) := by
  pointwise [project]

/-- The gate times the second product. -/
def gated (U V : FVec Ideal S2304x256x256 .f32) : FVec Ideal S2304x256x256 .f32 :=
  mulf (mulf U (Host.divf (broadcastInDim S2304x256x256 ![] bcast_S_S2304x256x256 (constant S_ .f32 0x3F800000#32))
    (addf (broadcastInDim S2304x256x256 ![] bcast_S_S2304x256x256 (constant S_ .f32 0x3F800000#32)) (Host.exp (Host.negf U))))) V

theorem gated_apply (U V : S2304x256x256.Idx → EReal) (k : Fin 2304) (y l : Fin 256) :
    (gated U V (ix3 k y l) : EReal) = U (ix3 k y l) * Ideal.logistic (U (ix3 k y l)) * V (ix3 k y l) := by
  pointwise [gated]
  rfl

/-- The rows' products with the last weight. -/
def back (U : FVec Ideal S2304x256x256 .f32) (D : FVec Ideal S2304x256x1024 .f32) : FVec Ideal S2304x256x1024 .f32 :=
  Host.dotGeneral dot_S2304x256x256_S2304x256x1024_S2304x256x1024_2_1_1_2_0_0 none U D

theorem back_apply (U : S2304x256x256.Idx → EReal) (D : S2304x256x1024.Idx → EReal) (k : Fin 2304) (y : Fin 256) (l : Fin 1024) :
    (back U D (ix3 k y l) : EReal) = ∑ n : Fin 256, U (ix3 k y n) * D (ix3 k n l) := by
  pointwise [back]

/-- The blocks as rows again. -/
def rows (W : FVec Ideal S2304x256x1024 .f32) : FVec Ideal S589824x8x128 .f32 := shapeCast _ W shapeCasts_S2304x256x1024_S589824x8x128

theorem rows_apply (W : S2304x256x1024.Idx → EReal) (r : Fin 589824) (q : Fin 8) (z : Fin 128) :
    (rows W (ix3 r q z) : EReal) = W (ix3 ⟨r.val / 256, by omega⟩ ⟨r.val % 256, by omega⟩ ⟨q.val * 128 + z.val, by omega⟩) := by
  pointwise [rows]

/-- The reference's result. -/
def result (E : IVec S2304 32) (X : FVec Ideal S589824x8x128 .f32) (A B : FVec Ideal S256x1024x256 .f32) (D : FVec Ideal S256x256x1024 .f32) :
    FVec Ideal S589824x8x128 .f32 :=
  rows (back (gated (project (blocks X) (chosen A E)) (project (blocks X) (chosen B E))) (chosen' D E))

theorem result_apply (E : IVec S2304 32) (X : S589824x8x128.Idx → EReal) (A B : S256x1024x256.Idx → EReal) (D : S256x256x1024.Idx → EReal)
    (hE : ∀ k : Fin 2304, (E (ix1 k)).toNat < 256) (r : Fin 589824) (q : Fin 8) (z : Fin 128) :
    (result E X A B D (ix3 r q z) : EReal) = expert (fun n => X (ix3 r ⟨n.val / 128, by omega⟩ ⟨n.val % 128, by omega⟩))
      (fun n k => A (ix3 ⟨(E (ix1 ⟨r.val / 256, by omega⟩)).toNat, hE _⟩ n k)) (fun n k => B (ix3 ⟨(E (ix1 ⟨r.val / 256, by omega⟩)).toNat, hE _⟩ n k))
      (fun k l => D (ix3 ⟨(E (ix1 ⟨r.val / 256, by omega⟩)).toNat, hE _⟩ k l)) ⟨q.val * 128 + z.val, by omega⟩ := by
  have hp : ∀ (A : S256x1024x256.Idx → EReal) (k : Fin 256), (project (blocks X) (chosen A E) (ix3 ⟨r.val / 256, by omega⟩ ⟨r.val % 256, by omega⟩ k) : EReal) =
      ∑ n : Fin 1024, X (ix3 r ⟨n.val / 128, by omega⟩ ⟨n.val % 128, by omega⟩) * A (ix3 ⟨(E (ix1 ⟨r.val / 256, by omega⟩)).toNat, hE _⟩ n k) := fun A k =>
    (project_apply _ _ _ _ _).trans (Finset.sum_congr rfl fun n _ =>
      congrArg₂ _ (blocks_apply X _ _ n r (by show r.val = r.val / 256 * 256 + r.val % 256; omega)) (chosen_apply A E _ (hE _) n k))
  unfold result expert
  refine (rows_apply _ r q z).trans ((back_apply _ _ _ _ _).trans (Finset.sum_congr rfl fun k _ => ?_))
  refine congrArg₂ _ ((gated_apply _ _ _ _ _).trans ?_) (chosen'_apply D E _ (hE _) k _)
  rw [hp A k, hp B k]

end Cert.Experts.Ref

end
-- ==== Proof.ExpertsUsed.lean ====
/- Which rows the experts' claim is about: a row is claimed where its block of 256 rows is below the count of blocks in use. -/
module

public import proofs.«01_k».proof.Proof.ExpertsRouting

@[expose] public section

set_option maxRecDepth 16384

noncomputable section

namespace Cert.Experts

open Cert.Kernel5Ideal Cert.Kernel5Ideal.Gen
open Idealize.ShloMosaic Idealize.ShloMosaic.TcCoe

variable {F : FTy → Type} [FloatOps F]
variable (m : (ℓ : Loc nD τ sig) → Buf (Elt F) ℓ)

/-- A small word divided by 256. -/
theorem divsi_256 (u : ArithUnit) (w : BitVec 32) (hw : w.toNat < 2 ^ 31) : (IntOp.divsi u w 256#32).toNat = w.toNat / 256 := by
  have hcorner : ¬ IntOp.SDivCorner w 256#32 := by
    intro hc
    rcases hc with hc | ⟨_, hc⟩ <;> exact absurd hc (by decide)
  have hm : w.msb = false := BitVec.msb_eq_false_iff_two_mul_lt.mpr (by omega)
  simp only [IntOp.divsi, if_neg hcorner, BitVec.sdiv_eq, hm, show (256#32 : BitVec 32).msb = false from by decide, BitVec.udiv_eq,
    BitVec.toNat_udiv, BitVec.toNat_ofNat]

/-- A word's sign. -/
def signWord (a : BitVec 32) : BitVec 32 := if a = 0 then 0 else if a.msb then -1 else 1

/-- The quotient rounded down, as the printed floor division computes it from a word: the correction is for operands of
    opposite signs. -/
def floorWord (a : BitVec 32) : BitVec 32 :=
  Scalar.select (IntOp.cmpi .ne (signWord a) (signWord 256#32) &&&
      IntOp.cmpi .ne (IntOp.remsi .host a 256#32) 0#32)
    (IntOp.divsi .host a 256#32 - 1#32) (IntOp.divsi .host a 256#32)

theorem floorWord_eq (a : BitVec 32) (ha : a.toNat < 2 ^ 31) : floorWord a = IntOp.divsi .host a 256#32 := by
  have hm : a.msb = false := BitVec.msb_eq_false_iff_two_mul_lt.mpr (by omega)
  unfold floorWord Scalar.select
  refine if_neg fun hc => ?_
  obtain ⟨h1, h2⟩ := and_one _ _ hc
  by_cases h0 : a = 0
  · subst h0
    exact absurd h2 (by decide)
  · have hs : signWord a = 1 := by
      unfold signWord
      rw [if_neg h0, hm]
      rfl
    rw [hs] at h1
    exact absurd h1 (by decide)

/-- A claimed row's block is in use. -/
theorem used_of (h : Routed m) {a2 : FVec F Cert.On_used.S589824x8x128 .f32} {a3 a4 : FVec F Cert.On_used.S256x1024x256 .f32}
    {a5 : FVec F Cert.On_used.S256x256x1024 .f32} (i : Cert.On_used.S589824x8x128.Idx)
    (hi : Cert.On_used.fn (F := F) (argE m) (argN m) a2 a3 a4 a5 i = 1#1) : (i 0).val / 256 < count m := by
  have hr : (i 0).val < 589824 := (i 0).isLt
  have hs : (BitVec.ofNat 32 (i 0).val).toNat = (i 0).val := by
    rw [BitVec.toNat_ofNat]
    omega
  have hN : ∀ x : S1.Idx, argN m x = argN m (ix1 0) := fun x => congrArg (argN m) (one_eq x)
  have hv : ∃ x : S1.Idx, IntOp.cmpi .slt (floorWord (BitVec.ofNat 32 (i 0).val)) (argN m x) = 1#1 := ⟨_, hi⟩
  obtain ⟨x, hx⟩ := hv
  rw [hN x, floorWord_eq _ (by omega)] at hx
  have hd := divsi_256 .host (BitVec.ofNat 32 (i 0).val) (by omega)
  rw [hs] at hd
  have hc : (argN m (ix1 0)).toNat < 2 ^ 31 := h.small
  have := (StableHlo.Predicate.slt_iff_toNat (by omega) hc).mp hx
  rw [hd] at this
  exact this

end Cert.Experts

end
-- ==== Proof.Experts.lean ====
/- The experts' kernel computes the reference's rows, at every row of a block in use. -/
module

public import proofs.«01_k».proof.Defs
public import proofs.«01_k».proof.Proof.ExpertsArray
public import proofs.«01_k».proof.Proof.ExpertsBits
public import proofs.«01_k».proof.Proof.ExpertsRef
public import proofs.«01_k».proof.Proof.ExpertsUsed
public import proofs.«01_k».proof.Proof.Gen.Reference5Ideal.Run

@[expose] public section

set_option maxRecDepth 16384

noncomputable section

namespace Cert.Experts

open Cert.Kernel5Ideal Cert.Kernel5Ideal.Gen
open Idealize.ShloMosaic Idealize.ShloMosaic.TcCoe Idealize.SL.Sem

variable (m : (ℓ : Loc nD τ sig) → Buf (Elt Ideal) ℓ) (h : Routed m)

abbrev argX (c : Dev nD) : S589824x8x128.Idx → EReal := m ((c : Thread nD τ).loc main_arg2)
abbrev argA (c : Dev nD) : S256x1024x256.Idx → EReal := m ((c : Thread nD τ).loc main_arg3)
abbrev argB (c : Dev nD) : S256x1024x256.Idx → EReal := m ((c : Thread nD τ).loc main_arg4)
abbrev argD (c : Dev nD) : S256x256x1024.Idx → EReal := m ((c : Thread nD τ).loc main_arg5)

/-- A row of the blocks' results: the row's expert of the row. -/
theorem rowsOut_apply (c : Dev nD) (r : Fin 589824) (q : Fin 8) (z : Fin 128) :
    (rowsOut m h c (ix3 r q z) : EReal) = expert (fun n => argX m c (ix3 r ⟨n.val / 128, by omega⟩ ⟨n.val % 128, by omega⟩))
      (fun n k => argA m c (ix3 ⟨(argE m (ix1 ⟨r.val / 256, by omega⟩)).toNat, h.expert _⟩ n k))
      (fun n k => argB m c (ix3 ⟨(argE m (ix1 ⟨r.val / 256, by omega⟩)).toNat, h.expert _⟩ n k))
      (fun k l => argD m c (ix3 ⟨(argE m (ix1 ⟨r.val / 256, by omega⟩)).toNat, h.expert _⟩ k l)) ⟨q.val * 128 + z.val, by omega⟩ := by
  have hrow : ∀ n : Fin 1024, (rowsOf m c ⟨r.val / 256, by omega⟩ (ix3 ⟨r.val % 256, by omega⟩ ⟨n.val / 128, by omega⟩ ⟨n.val % 128, by omega⟩) : EReal) =
      argX m c (ix3 r ⟨n.val / 128, by omega⟩ ⟨n.val % 128, by omega⟩) := fun n =>
    congrArg (fun r => argX m c (ix3 r ⟨n.val / 128, by omega⟩ ⟨n.val % 128, by omega⟩))
      (Fin.ext (by show r.val / 256 * 256 + r.val % 256 = r.val; omega))
  refine (show rowsOut m h c (ix3 r q z) = blockOut m h c ⟨r.val / 256, by omega⟩ (ix3 ⟨r.val % 256, by omega⟩ q z) from rfl).trans ?_
  unfold blockOut
  refine (out_apply _ _ _ _ _).trans ?_
  unfold laid
  refine (wide_apply _ _ _ _ _ _).trans ?_
  exact congrArg (fun x : Fin 1024 → EReal => expert x _ _ _ _) (funext hrow)

/-- At every row of a block in use, the kernel's array is the reference's. -/
theorem algebraic : Cert.algebraic_Kernel5Ideal_Reference5Ideal_on_used (hKernel5Ideal := Cert.Kernel5Ideal.Gen.facts)
    (hReference5Ideal := Cert.Reference5Ideal.Gen.facts) (hPre_routed := Cert.Pre_routed.Gen.facts) (hOn_used := Cert.On_used.Gen.facts) :=
  fun m g m' g' hp hagree => by
  have h : Routed m := routed_of m (hp 0)
  refine ⟨fun c => rowsOut m h c, ?_, ?_⟩
  · refine (θ_run _ _ _).mono (fun r hr c => ⟨fun i hi => ?_, hr.2 c⟩) (θ_run_and (run m g h) (unchanged m g h))
    obtain rfl : c = 0 := Subsingleton.elim (α := Fin 1) _ _
    exact (congrFun ((hr.1.1 0).1 4) i).trans (array_used m h 0 i (used_of m h i hi))
  · refine (θ_run _ _ _).mono (fun _ hr c => ⟨fun i hi => ?_, (hr c).2⟩) (Cert.Reference5Ideal.Value.run m' g')
    obtain rfl : c = 0 := Subsingleton.elim (α := Fin 1) _ _
    obtain ⟨h0, h1, h2, h3, h4, h5⟩ := hagree 0
    have e : _ = Ref.result (argE m) (argX m 0) (argA m 0) (argB m 0) (argD m 0) := (hr 0).1.trans (by rw [h0, h2, h3, h4, h5]; rfl)
    refine (congrFun e i).trans ?_
    refine (congrArg (Ref.result (argE m) (argX m 0) (argA m 0) (argB m 0) (argD m 0)) (eq_ix3 i)).trans ?_
    refine (Ref.result_apply (argE m) (argX m 0) (argA m 0) (argB m 0) (argD m 0) h.expert (i 0) (i 1) (i 2)).trans ?_
    exact (rowsOut_apply m h 0 (i 0) (i 1) (i 2)).symm.trans (congrArg (rowsOut m h 0) (eq_ix3 i).symm)

end Cert.Experts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.GlaRefRun
public import proofs.«01_k».proof.Proof.GlaValue
public import proofs.«01_k».proof.Proof.GlaBits
public import proofs.«01_k».proof.Proof.GlaEqual
public import proofs.«01_k».proof.Proof.Proj
public import proofs.«01_k».proof.Proof.Gen.Kernel2
public import proofs.«01_k».proof.Proof.Gen.Kernel2Ideal
public import proofs.«01_k».proof.Proof.Gen.Reference2Ideal
public import proofs.«01_k».proof.Proof.Outproj
public import proofs.«01_k».proof.Proof.Gen.Kernel3
public import proofs.«01_k».proof.Proof.Gen.Kernel3Ideal
public import proofs.«01_k».proof.Proof.Gen.Reference3Ideal
public import proofs.«01_k».proof.Proof.Combine
public import proofs.«01_k».proof.Proof.Gen.Kernel4
public import proofs.«01_k».proof.Proof.Gen.Kernel4Ideal
public import proofs.«01_k».proof.Proof.Gen.Reference4Ideal
public import proofs.«01_k».proof.Proof.Experts
public import proofs.«01_k».proof.Proof.Gen.Kernel5
public import proofs.«01_k».proof.Proof.Gen.Kernel5Ideal
public import proofs.«01_k».proof.Proof.Gen.Reference5Ideal
public import proofs.«01_k».proof.Proof.Gen.Pre_routed
public import proofs.«01_k».proof.Proof.Gen.On_used
public import Idealize.ShloMosaic.Lib.Quiescent

@[expose] public section

noncomputable section

namespace Cert.Proof

open Idealize.ShloMosaic Idealize.SL.Sem Cert.Kernel

/-- The reference of the gated linear attention runs to its end, keeps its arguments, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_routed.Gen.facts, Cert.On_used.Gen.facts,
  Cert.Gla.frame_kernel, fun m ρ _ => Cert.Gla.frame m ρ, frame_reference,
  fun m ρ _ => Cert.Kernel2.Gen.frame m ρ, fun m ρ _ => Cert.Kernel2Ideal.Gen.frame m ρ, Cert.Proj.frame_reference,
  fun m ρ _ => Cert.Kernel3.Gen.frame m ρ, fun m ρ _ => Cert.Kernel3Ideal.Gen.frame m ρ, Cert.Outproj.frame_reference,
  fun m ρ _ => Cert.Kernel4.Gen.frame m ρ, fun m ρ _ => Cert.Kernel4Ideal.Gen.frame m ρ, Cert.Combine.frame_reference,
  Cert.Experts.frame_kernel, Cert.Experts.frame_ideal, Cert.Experts.frame_reference, Cert.Experts.frame_reference_routed,
  trivial, Cert.Gla.algebraic, trivial, Cert.Proj.algebraic, trivial, Cert.Outproj.algebraic, trivial, Cert.Combine.algebraic,
  trivial, Cert.Experts.algebraic⟩

end Cert.Proof

end
